-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "sm_scale_log2e" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v115_0) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_v115_1) = v3 c
          ∧ r.2.mem ((c.tc : Thread Cert.ReferenceIdeal.nD Cert.ReferenceIdeal.τ).loc Cert.ReferenceIdeal.main_v51) = v4 c
          ∧ r.2.mem ((c.tc : Thread Cert.ReferenceIdeal.nD Cert.ReferenceIdeal.τ).loc Cert.ReferenceIdeal.main_v115_2) = v5 c
          ∧ r.2.mem ((c.tc : Thread Cert.ReferenceIdeal.nD Cert.ReferenceIdeal.τ).loc Cert.ReferenceIdeal.main_v114) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S9x4096x512 : Shape := ⟨3, ![9, 4096, 512]⟩
abbrev S9x4096x128 : Shape := ⟨3, ![9, 4096, 128]⟩
abbrev S_ : Shape := ⟨0, ![]⟩

class Facts : Prop where
  bitsLt_bf16_f32 : FTy.bits .bf16 < FTy.bits .f32
  bcast_S_S9x4096x512 : S_.BroadcastsInDim S9x4096x512 (![] : Fin 0 → Fin S9x4096x512.rank)
  reducesTo_S9x4096x512_S_d0_1_2 : S9x4096x512.ReducesTo [0, 1, 2] S_
  h_S_ : 0 < S_.numel
  bcast_S_S9x4096x128 : S_.BroadcastsInDim S9x4096x128 (![] : Fin 0 → Fin S9x4096x128.rank)
  reducesTo_S9x4096x128_S_d0_1_2 : S9x4096x128.ReducesTo [0, 1, 2] S_

variable [Facts]

def fn {F : FTy → Type} [FloatOps F] (main_arg0 : FVec F S9x4096x512 .bf16) (main_arg1 : FVec F S9x4096x128 .bf16) (main_arg2 : FVec F S9x4096x128 .bf16) : IVec S_ 1 :=
  let main_v0 : FVec F S9x4096x512 .f32 := (extf .f32 · bitsLt_bf16_f32) main_arg0
  let main_v1 : FVec F S9x4096x512 .f32 := Host.absf main_v0
  let main_cst : FVec F S_ .f32 := constant S_ .f32 0x7F7F0000#32
  let main_v2 : FVec F S9x4096x512 .f32 := broadcastInDim S9x4096x512 ![] bcast_S_S9x4096x512 main_cst
  let main_v3 : IVec S9x4096x512 1 := cmpf .ole main_v1 main_v2
  let main_c : IVec S_ 1 := constantI S_ 1 1#1
  let main_v4 : IVec S_ 1 := (fun x v => Host.reduce IntOp.andi x v reducesTo_S9x4096x512_S_d0_1_2 h_S_) main_v3 main_c
  let main_v5 : FVec F S9x4096x128 .f32 := (extf .f32 · bitsLt_bf16_f32) main_arg1
  let main_v6 : FVec F S9x4096x128 .f32 := Host.absf main_v5
  let main_cst_0 : FVec F S_ .f32 := constant S_ .f32 0x7F7F0000#32
  let main_v7 : FVec F S9x4096x128 .f32 := broadcastInDim S9x4096x128 ![] bcast_S_S9x4096x128 main_cst_0
  let main_v8 : IVec S9x4096x128 1 := cmpf .ole main_v6 main_v7
  let main_c_1 : IVec S_ 1 := constantI S_ 1 1#1
  let main_v9 : IVec S_ 1 := (fun x v => Host.reduce IntOp.andi x v reducesTo_S9x4096x128_S_d0_1_2 h_S_) main_v8 main_c_1
  let main_v10 : IVec S_ 1 := andi main_v4 main_v9
  let main_v11 : FVec F S9x4096x128 .f32 := (extf .f32 · bitsLt_bf16_f32) main_arg2
  let main_v12 : FVec F S9x4096x128 .f32 := Host.absf main_v11
  let main_cst_2 : FVec F S_ .f32 := constant S_ .f32 0x7F7F0000#32
  let main_v13 : FVec F S9x4096x128 .f32 := broadcastInDim S9x4096x128 ![] bcast_S_S9x4096x128 main_cst_2
  let main_v14 : IVec S9x4096x128 1 := cmpf .ole main_v12 main_v13
  let main_c_3 : IVec S_ 1 := constantI S_ 1 1#1
  let main_v15 : IVec S_ 1 := (fun x v => Host.reduce IntOp.andi x v reducesTo_S9x4096x128_S_d0_1_2 h_S_) main_v14 main_c_3
  let main_v16 : IVec S_ 1 := andi main_v10 main_v15
  main_v16
-- ==== Kernel.lean ====
abbrev S9x4096x512 : Shape := ⟨3, ![9, 4096, 512]⟩
abbrev S9x4096x128 : Shape := ⟨3, ![9, 4096, 128]⟩
abbrev S9x4096x8 : Shape := ⟨3, ![9, 4096, 8]⟩
abbrev S9x4096x2 : Shape := ⟨3, ![9, 4096, 2]⟩
abbrev S9x1x128 : Shape := ⟨3, ![9, 1, 128]⟩
abbrev S1x512x512 : Shape := ⟨3, ![1, 512, 512]⟩
abbrev S1x4096x128 : Shape := ⟨3, ![1, 4096, 128]⟩
abbrev S1x512x8 : Shape := ⟨3, ![1, 512, 8]⟩
abbrev S1x4096x2 : Shape := ⟨3, ![1, 4096, 2]⟩
abbrev S1x1x128 : Shape := ⟨3, ![1, 1, 128]⟩
abbrev S4x4096x128 : Shape := ⟨3, ![4, 4096, 128]⟩
abbrev S2x4096x128 : Shape := ⟨3, ![2, 4096, 128]⟩
abbrev S128x4096 : Shape := ⟨2, ![128, 4096]⟩
abbrev S128x128 : Shape := ⟨2, ![128, 128]⟩
abbrev S512x512 : Shape := ⟨2, ![512, 512]⟩
abbrev S8x512 : Shape := ⟨2, ![8, 512]⟩
abbrev S4096x256 : Shape := ⟨2, ![4096, 256]⟩
abbrev S1x256 : Shape := ⟨2, ![1, 256]⟩
abbrev S256x128 : Shape := ⟨2, ![256, 128]⟩
abbrev S8x128 : Shape := ⟨2, ![8, 128]⟩
abbrev S1x256x128 : Shape := ⟨3, ![1, 256, 128]⟩
abbrev S32x8x128 : Shape := ⟨3, ![32, 8, 128]⟩
abbrev S128 : Shape := ⟨1, ![128]⟩
abbrev S1x128 : Shape := ⟨2, ![1, 128]⟩
abbrev S256 : Shape := ⟨1, ![256]⟩
abbrev S256x1 : Shape := ⟨2, ![256, 1]⟩
abbrev S256x2 : Shape := ⟨2, ![256, 2]⟩
abbrev S1x256x2 : Shape := ⟨3, ![1, 256, 2]⟩
abbrev S128x256 : Shape := ⟨2, ![128, 256]⟩
abbrev S1x128x64 : Shape := ⟨3, ![1, 128, 64]⟩
abbrev S128x64 : Shape := ⟨2, ![128, 64]⟩
abbrev S128x1 : Shape := ⟨2, ![128, 1]⟩
abbrev S128x512 : Shape := ⟨2, ![128, 512]⟩
abbrev S128x8 : Shape := ⟨2, ![128, 8]⟩
abbrev S1x128x512 : Shape := ⟨3, ![1, 128, 512]⟩
abbrev S1x128x8 : Shape := ⟨3, ![1, 128, 8]⟩
abbrev S8x256 : Shape := ⟨2, ![8, 256]⟩
abbrev S256x256 : Shape := ⟨2, ![256, 256]⟩
abbrev S32x8x256 : Shape := ⟨3, ![32, 8, 256]⟩
abbrev S64x256 : Shape := ⟨2, ![64, 256]⟩
abbrev S64x1 : Shape := ⟨2, ![64, 1]⟩
abbrev S512x128 : Shape := ⟨2, ![512, 128]⟩

abbrev nBuf : Space → Nat
  | .hbm => 10
  | .vmem => 31
  | .smem => 0
  | _ => 0

abbrev bufTy : (tb : Table) → Fin (tcTables nBuf tb) → BufTy
  | .hbm, ⟨0, _⟩ => ⟨S9x4096x512, .bf16⟩
  | .hbm, ⟨1, _⟩ => ⟨S9x4096x128, .bf16⟩
  | .hbm, ⟨2, _⟩ => ⟨S9x4096x128, .bf16⟩
  | .hbm, ⟨3, _⟩ => ⟨S9x4096x512, .bf16⟩
  | .hbm, ⟨4, _⟩ => ⟨S9x4096x512, .fp8e4m3⟩
  | .hbm, ⟨5, _⟩ => ⟨S9x4096x8, .f32⟩
  | .hbm, ⟨6, _⟩ => ⟨S9x4096x128, .fp8e4m3⟩
  | .hbm, ⟨7, _⟩ => ⟨S9x4096x2, .f32⟩
  | .hbm, ⟨8, _⟩ => ⟨S9x4096x128, .fp8e4m3⟩
  | .hbm, ⟨9, _⟩ => ⟨S9x1x128, .f32⟩
  | .local _ .vmem, ⟨0, _⟩ => ⟨S1x512x512, .bf16⟩
  | .local _ .vmem, ⟨1, _⟩ => ⟨S1x512x512, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .fp8e4m3⟩
  | .local _ .vmem, ⟨9, _⟩ => ⟨S1x512x512, .fp8e4m3⟩
  | .local _ .vmem, ⟨10, _⟩ => ⟨S1x512x8, .f32⟩
  | .local _ .vmem, ⟨11, _⟩ => ⟨S1x512x8, .f32⟩
  | .local _ .vmem, ⟨12, _⟩ => ⟨S1x4096x128, .fp8e4m3⟩
  | .local _ .vmem, ⟨13, _⟩ => ⟨S1x4096x128, .fp8e4m3⟩
  | .local _ .vmem, ⟨14, _⟩ => ⟨S1x4096x2, .f32⟩
  | .local _ .vmem, ⟨15, _⟩ => ⟨S1x4096x2, .f32⟩
  | .local _ .vmem, ⟨16, _⟩ => ⟨S1x4096x128, .fp8e4m3⟩
  | .local _ .vmem, ⟨17, _⟩ => ⟨S1x4096x128, .fp8e4m3⟩
  | .local _ .vmem, ⟨18, _⟩ => ⟨S1x1x128, .f32⟩
  | .local _ .vmem, ⟨19, _⟩ => ⟨S1x1x128, .f32⟩
  | .local _ .vmem, ⟨20, _⟩ => ⟨S4x4096x128, .fp8e4m3⟩
  | .local _ .vmem, ⟨21, _⟩ => ⟨S2x4096x128, .f32⟩
  | .local _ .vmem, ⟨22, _⟩ => ⟨S128x4096, .fp8e4m3⟩
  | .local _ .vmem, ⟨23, _⟩ => ⟨S128x128, .f32⟩
  | .local _ .vmem, ⟨24, _⟩ => ⟨S512x512, .fp8e4m3⟩
  | .local _ .vmem, ⟨25, _⟩ => ⟨S8x512, .f32⟩
  | .local _ .vmem, ⟨26, _⟩ => ⟨S4096x256, .f32⟩
  | .local _ .vmem, ⟨27, _⟩ => ⟨S4096x256, .f32⟩
  | .local _ .vmem, ⟨28, _⟩ => ⟨S1x256, .f32⟩
  | .local _ .vmem, ⟨29, _⟩ => ⟨S1x256, .f32⟩
  | .local _ .vmem, ⟨30, _⟩ => ⟨S512x512, .f32⟩
  | _, _ => ⟨S9x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_scratch9 : Ref sig .tc := ⟨.vmem, 29, rfl⟩
abbrev cc0_scratch10 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![9, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_1319 : BitVec 32 := 0#32
  let c16_i32_1320 : BitVec 32 := 16#32
  let v3390 : BitVec 32 := Scalar.addi c0_i32_1319 c16_i32_1320
  let c1_i32_1321 : BitVec 32 := 1#32
  ⟨c0_i32_1319, v3390, c1_i32_1321⟩
def k0_off1 (k0_t1 : Fin k0_t1_loop.trips) : Fin 3 → Nat :=
  let c0_1359 : Index := 0#32
  let c0_i32_1319 : BitVec 32 := 0#32
  let c1_i32_1321 : BitVec 32 := 1#32
  let arg23 : BitVec 32 := Scf.iv c0_i32_1319 c1_i32_1321 k0_t1
  let c256_i32_1358 : BitVec 32 := 256#32
  let v3480 : BitVec 32 := Scalar.muli arg23 c256_i32_1358
  let v3481 : Index := Scalar.indexCast v3480
  let c0_1360 : Index := 0#32
  ![0, v3481.toNat, 0]
@[reducible] def k0_t2_loop : Scf.Loop 32 :=
  let c0_i32_1354 : BitVec 32 := 0#32
  let c16_i32_1355 : BitVec 32 := 16#32
  let v3479 : BitVec 32 := Scalar.addi c0_i32_1354 c16_i32_1355
  let c1_i32_1356 : BitVec 32 := 1#32
  ⟨c0_i32_1354, v3479, c1_i32_1356⟩
def k0_off2 (k0_t2 : Fin k0_t2_loop.trips) : Fin 3 → Nat :=
  let c0_1359 : Index := 0#32
  let c0_i32_1354 : BitVec 32 := 0#32
  let c1_i32_1356 : BitVec 32 := 1#32
  let arg23 : BitVec 32 := Scf.iv c0_i32_1354 c1_i32_1356 k0_t2
  let c256_i32_1358 : BitVec 32 := 256#32
  let v3480 : BitVec 32 := Scalar.muli arg23 c256_i32_1358
  let v3481 : Index := Scalar.indexCast v3480
  let c0_1360 : Index := 0#32
  ![0, v3481.toNat, 0]
def k0_off3 (k0_t2 : Fin k0_t2_loop.trips) : Fin 3 → Nat :=
  let c0_1420 : Index := 0#32
  let c0_i32_1354 : BitVec 32 := 0#32
  let c1_i32_1356 : BitVec 32 := 1#32
  let arg23 : BitVec 32 := Scf.iv c0_i32_1354 c1_i32_1356 k0_t2
  let c256_i32_1358 : BitVec 32 := 256#32
  let v3480 : BitVec 32 := Scalar.muli arg23 c256_i32_1358
  let v3665 : Index := Scalar.indexCast v3480
  let c0_1421 : Index := 0#32
  ![0, v3665.toNat, 0]
def k0_off4 (k0_t2 : Fin k0_t2_loop.trips) : Fin 3 → Nat :=
  let c0_1422 : Index := 0#32
  let c0_i32_1354 : BitVec 32 := 0#32
  let c1_i32_1356 : BitVec 32 := 1#32
  let arg23 : BitVec 32 := Scf.iv c0_i32_1354 c1_i32_1356 k0_t2
  let c256_i32_1358 : BitVec 32 := 256#32
  let v3480 : BitVec 32 := Scalar.muli arg23 c256_i32_1358
  let v3669 : Index := Scalar.indexCast v3480
  let c0_1423 : Index := 0#32
  ![0, v3669.toNat, 0]
def k0_off5 (k0_t2 : Fin k0_t2_loop.trips) : Fin 3 → Nat :=
  let c1 : Index := 1#32
  let c0_i32_1354 : BitVec 32 := 0#32
  let c1_i32_1356 : BitVec 32 := 1#32
  let arg23 : BitVec 32 := Scf.iv c0_i32_1354 c1_i32_1356 k0_t2
  let c256_i32_1358 : BitVec 32 := 256#32
  let v3480 : BitVec 32 := Scalar.muli arg23 c256_i32_1358
  let v3673 : Index := Scalar.indexCast v3480
  let c0_1424 : Index := 0#32
  ![1, v3673.toNat, 0]
def k0_off6 (k0_t2 : Fin k0_t2_loop.trips) : Fin 3 → Nat :=
  let c0_1426 : Index := 0#32
  let c0_i32_1354 : BitVec 32 := 0#32
  let c1_i32_1356 : BitVec 32 := 1#32
  let arg23 : BitVec 32 := Scf.iv c0_i32_1354 c1_i32_1356 k0_t2
  let c256_i32_1358 : BitVec 32 := 256#32
  let v3480 : BitVec 32 := Scalar.muli arg23 c256_i32_1358
  let v3680 : Index := Scalar.indexCast v3480
  let c0_1427 : Index := 0#32
  ![0, v3680.toNat, 0]
def k0_off7 (k0_t2 : Fin k0_t2_loop.trips) : Fin 3 → Nat :=
  let c1_1429 : Index := 1#32
  let c0_i32_1354 : BitVec 32 := 0#32
  let c1_i32_1356 : BitVec 32 := 1#32
  let arg23 : BitVec 32 := Scf.iv c0_i32_1354 c1_i32_1356 k0_t2
  let c256_i32_1358 : BitVec 32 := 256#32
  let v3480 : BitVec 32 := Scalar.muli arg23 c256_i32_1358
  let v3687 : Index := Scalar.indexCast v3480
  let c0_1430 : Index := 0#32
  ![1, v3687.toNat, 0]
def k0_off8 (k0_t2 : Fin k0_t2_loop.trips) : Fin 3 → Nat :=
  let c2 : Index := 2#32
  let c0_i32_1354 : BitVec 32 := 0#32
  let c1_i32_1356 : BitVec 32 := 1#32
  let arg23 : BitVec 32 := Scf.iv c0_i32_1354 c1_i32_1356 k0_t2
  let c256_i32_1358 : BitVec 32 := 256#32
  let v3480 : BitVec 32 := Scalar.muli arg23 c256_i32_1358
  let v3694 : Index := Scalar.indexCast v3480
  let c0_1432 : Index := 0#32
  ![2, v3694.toNat, 0]
def k0_off9 (k0_t2 : Fin k0_t2_loop.trips) : Fin 3 → Nat :=
  let c3 : Index := 3#32
  let c0_i32_1354 : BitVec 32 := 0#32
  let c1_i32_1356 : BitVec 32 := 1#32
  let arg23 : BitVec 32 := Scf.iv c0_i32_1354 c1_i32_1356 k0_t2
  let c256_i32_1358 : BitVec 32 := 256#32
  let v3480 : BitVec 32 := Scalar.muli arg23 c256_i32_1358
  let v3701 : Index := Scalar.indexCast v3480
  let c0_1434 : Index := 0#32
  ![3, v3701.toNat, 0]
def k0_off10 (k0_t2 : Fin k0_t2_loop.trips) : Fin 2 → Nat :=
  let c0_1441 : Index := 0#32
  let c0_i32_1354 : BitVec 32 := 0#32
  let c1_i32_1356 : BitVec 32 := 1#32
  let arg23 : BitVec 32 := Scf.iv c0_i32_1354 c1_i32_1356 k0_t2
  let c256_i32_1358 : BitVec 32 := 256#32
  let v3480 : BitVec 32 := Scalar.muli arg23 c256_i32_1358
  let v3722 : Index := Scalar.indexCast v3480
  ![0, v3722.toNat]
def k0_mult1 : BitVec 32 :=
  let c0_i32_1019 : BitVec 32 := 0#32
  let c1_i32_1020 : BitVec 32 := 1#32
  let v2893 : BitVec 32 := Scalar.andi c0_i32_1019 c1_i32_1020
  let c256_i32 : BitVec 32 := 256#32
  let v2894 : BitVec 32 := Scalar.muli v2893 c256_i32
  v2894
def k0_mult2 : BitVec 32 :=
  let c0_i32_1017 : BitVec 32 := 0#32
  let c1_i32_1018 : BitVec 32 := 1#32
  let v2892 : BitVec 32 := Scalar.shrui c0_i32_1017 c1_i32_1018
  let c1_i32_1022 : BitVec 32 := 1#32
  let v2897 : BitVec 32 := Scalar.shrui v2892 c1_i32_1022
  let c128_i32_1023 : BitVec 32 := 128#32
  let v2898 : BitVec 32 := Scalar.muli v2897 c128_i32_1023
  v2898
def k0_off11 : Fin 2 → Nat :=
  let c0_i32_1019 : BitVec 32 := 0#32
  let c1_i32_1020 : BitVec 32 := 1#32
  let v2893 : BitVec 32 := Scalar.andi c0_i32_1019 c1_i32_1020
  let c256_i32 : BitVec 32 := 256#32
  let v2894 : BitVec 32 := Scalar.muli v2893 c256_i32
  let v2895 : BitVec 32 := v2894
  let v2900 : Index := Scalar.indexCast v2895
  let c0_i32_1017 : BitVec 32 := 0#32
  let c1_i32_1018 : BitVec 32 := 1#32
  let v2892 : BitVec 32 := Scalar.shrui c0_i32_1017 c1_i32_1018
  let c1_i32_1022 : BitVec 32 := 1#32
  let v2897 : BitVec 32 := Scalar.shrui v2892 c1_i32_1022
  let c128_i32_1023 : BitVec 32 := 128#32
  let v2898 : BitVec 32 := Scalar.muli v2897 c128_i32_1023
  let v2899 : BitVec 32 := v2898
  let v2901 : Index := Scalar.indexCast v2899
  ![v2900.toNat, v2901.toNat]
def k0_off12 : Fin 3 → Nat :=
  let c0_i32_1017 : BitVec 32 := 0#32
  let c1_i32_1018 : BitVec 32 := 1#32
  let v2892 : BitVec 32 := Scalar.shrui c0_i32_1017 c1_i32_1018
  let c2_i32_1021 : BitVec 32 := 2#32
  let v2896 : BitVec 32 := Scalar.shrui v2892 c2_i32_1021
  let c2_i32_1024 : BitVec 32 := 2#32
  let v2903 : BitVec 32 := Scalar.muli v2896 c2_i32_1024
  let c1_i32_1025 : BitVec 32 := 1#32
  let v2904 : BitVec 32 := Scalar.andi v2892 c1_i32_1025
  let v2905 : BitVec 32 := Scalar.addi v2903 v2904
  let v2906 : Index := Scalar.indexCast v2905
  let c0_1026 : Index := 0#32
  let c0_1027 : Index := 0#32
  ![v2906.toNat, 0, 0]
def k0_off13 : Fin 3 → Nat :=
  let c0_i32_1017 : BitVec 32 := 0#32
  let c1_i32_1018 : BitVec 32 := 1#32
  let v2892 : BitVec 32 := Scalar.shrui c0_i32_1017 c1_i32_1018
  let c2_i32_1021 : BitVec 32 := 2#32
  let v2896 : BitVec 32 := Scalar.shrui v2892 c2_i32_1021
  let v2910 : Index := Scalar.indexCast v2896
  let c0_1029 : Index := 0#32
  let c0_1030 : Index := 0#32
  ![v2910.toNat, 0, 0]
def k0_mult3 : BitVec 32 :=
  let c0_i32_1036 : BitVec 32 := 0#32
  let c1_i32_1037 : BitVec 32 := 1#32
  let v2922 : BitVec 32 := Scalar.andi c0_i32_1036 c1_i32_1037
  let c256_i32_1038 : BitVec 32 := 256#32
  let v2923 : BitVec 32 := Scalar.muli v2922 c256_i32_1038
  v2923
def k0_mult4 : BitVec 32 :=
  let c0_i32_1034 : BitVec 32 := 0#32
  let c1_i32_1035 : BitVec 32 := 1#32
  let v2921 : BitVec 32 := Scalar.shrui c0_i32_1034 c1_i32_1035
  let c1_i32_1040 : BitVec 32 := 1#32
  let v2926 : BitVec 32 := Scalar.shrui v2921 c1_i32_1040
  let c128_i32_1041 : BitVec 32 := 128#32
  let v2927 : BitVec 32 := Scalar.muli v2926 c128_i32_1041
  v2927
def k0_off14 : Fin 3 → Nat :=
  let c0_i32_1034 : BitVec 32 := 0#32
  let c1_i32_1035 : BitVec 32 := 1#32
  let v2921 : BitVec 32 := Scalar.shrui c0_i32_1034 c1_i32_1035
  let c2_i32_1039 : BitVec 32 := 2#32
  let v2925 : BitVec 32 := Scalar.shrui v2921 c2_i32_1039
  let c2_i32_1042 : BitVec 32 := 2#32
  let v2932 : BitVec 32 := Scalar.muli v2925 c2_i32_1042
  let c1_i32_1043 : BitVec 32 := 1#32
  let v2933 : BitVec 32 := Scalar.andi v2921 c1_i32_1043
  let v2934 : BitVec 32 := Scalar.addi v2932 v2933
  let v2935 : Index := Scalar.indexCast v2934
  let c256_1044 : Index := 256#32
  let c0_1045 : Index := 0#32
  ![v2935.toNat, 256, 0]
def k0_off15 : Fin 3 → Nat :=
  let c0_i32_1034 : BitVec 32 := 0#32
  let c1_i32_1035 : BitVec 32 := 1#32
  let v2921 : BitVec 32 := Scalar.shrui c0_i32_1034 c1_i32_1035
  let c2_i32_1039 : BitVec 32 := 2#32
  let v2925 : BitVec 32 := Scalar.shrui v2921 c2_i32_1039
  let v2939 : Index := Scalar.indexCast v2925
  let c256_1047 : Index := 256#32
  let c0_1048 : Index := 0#32
  ![v2939.toNat, 256, 0]
def k0_mult5 : BitVec 32 :=
  let c0_i32_1054 : BitVec 32 := 0#32
  let c1_i32_1055 : BitVec 32 := 1#32
  let v2951 : BitVec 32 := Scalar.andi c0_i32_1054 c1_i32_1055
  let c256_i32_1056 : BitVec 32 := 256#32
  let v2952 : BitVec 32 := Scalar.muli v2951 c256_i32_1056
  v2952
def k0_mult6 : BitVec 32 :=
  let c0_i32_1052 : BitVec 32 := 0#32
  let c1_i32_1053 : BitVec 32 := 1#32
  let v2950 : BitVec 32 := Scalar.shrui c0_i32_1052 c1_i32_1053
  let c1_i32_1058 : BitVec 32 := 1#32
  let v2955 : BitVec 32 := Scalar.shrui v2950 c1_i32_1058
  let c128_i32_1059 : BitVec 32 := 128#32
  let v2956 : BitVec 32 := Scalar.muli v2955 c128_i32_1059
  v2956
def k0_off16 : Fin 3 → Nat :=
  let c0_i32_1052 : BitVec 32 := 0#32
  let c1_i32_1053 : BitVec 32 := 1#32
  let v2950 : BitVec 32 := Scalar.shrui c0_i32_1052 c1_i32_1053
  let c2_i32_1057 : BitVec 32 := 2#32
  let v2954 : BitVec 32 := Scalar.shrui v2950 c2_i32_1057
  let c2_i32_1060 : BitVec 32 := 2#32
  let v2961 : BitVec 32 := Scalar.muli v2954 c2_i32_1060
  let c1_i32_1061 : BitVec 32 := 1#32
  let v2962 : BitVec 32 := Scalar.andi v2950 c1_i32_1061
  let v2963 : BitVec 32 := Scalar.addi v2961 v2962
  let v2964 : Index := Scalar.indexCast v2963
  let c512 : Index := 512#32
  let c0_1062 : Index := 0#32
  ![v2964.toNat, 512, 0]
def k0_off17 : Fin 3 → Nat :=
  let c0_i32_1052 : BitVec 32 := 0#32
  let c1_i32_1053 : BitVec 32 := 1#32
  let v2950 : BitVec 32 := Scalar.shrui c0_i32_1052 c1_i32_1053
  let c2_i32_1057 : BitVec 32 := 2#32
  let v2954 : BitVec 32 := Scalar.shrui v2950 c2_i32_1057
  let v2968 : Index := Scalar.indexCast v2954
  let c512_1064 : Index := 512#32
  let c0_1065 : Index := 0#32
  ![v2968.toNat, 512, 0]
def k0_mult7 : BitVec 32 :=
  let c0_i32_1071 : BitVec 32 := 0#32
  let c1_i32_1072 : BitVec 32 := 1#32
  let v2980 : BitVec 32 := Scalar.andi c0_i32_1071 c1_i32_1072
  let c256_i32_1073 : BitVec 32 := 256#32
  let v2981 : BitVec 32 := Scalar.muli v2980 c256_i32_1073
  v2981
def k0_mult8 : BitVec 32 :=
  let c0_i32_1069 : BitVec 32 := 0#32
  let c1_i32_1070 : BitVec 32 := 1#32
  let v2979 : BitVec 32 := Scalar.shrui c0_i32_1069 c1_i32_1070
  let c1_i32_1075 : BitVec 32 := 1#32
  let v2984 : BitVec 32 := Scalar.shrui v2979 c1_i32_1075
  let c128_i32_1076 : BitVec 32 := 128#32
  let v2985 : BitVec 32 := Scalar.muli v2984 c128_i32_1076
  v2985
def k0_off18 : Fin 3 → Nat :=
  let c0_i32_1069 : BitVec 32 := 0#32
  let c1_i32_1070 : BitVec 32 := 1#32
  let v2979 : BitVec 32 := Scalar.shrui c0_i32_1069 c1_i32_1070
  let c2_i32_1074 : BitVec 32 := 2#32
  let v2983 : BitVec 32 := Scalar.shrui v2979 c2_i32_1074
  let c2_i32_1077 : BitVec 32 := 2#32
  let v2990 : BitVec 32 := Scalar.muli v2983 c2_i32_1077
  let c1_i32_1078 : BitVec 32 := 1#32
  let v2991 : BitVec 32 := Scalar.andi v2979 c1_i32_1078
  let v2992 : BitVec 32 := Scalar.addi v2990 v2991
  let v2993 : Index := Scalar.indexCast v2992
  let c768 : Index := 768#32
  let c0_1079 : Index := 0#32
  ![v2993.toNat, 768, 0]
def k0_off19 : Fin 3 → Nat :=
  let c0_i32_1069 : BitVec 32 := 0#32
  let c1_i32_1070 : BitVec 32 := 1#32
  let v2979 : BitVec 32 := Scalar.shrui c0_i32_1069 c1_i32_1070
  let c2_i32_1074 : BitVec 32 := 2#32
  let v2983 : BitVec 32 := Scalar.shrui v2979 c2_i32_1074
  let v2997 : Index := Scalar.indexCast v2983
  let c768_1081 : Index := 768#32
  let c0_1082 : Index := 0#32
  ![v2997.toNat, 768, 0]
def k0_mult9 : BitVec 32 :=
  let c0_i32_1088 : BitVec 32 := 0#32
  let c1_i32_1089 : BitVec 32 := 1#32
  let v3009 : BitVec 32 := Scalar.andi c0_i32_1088 c1_i32_1089
  let c256_i32_1090 : BitVec 32 := 256#32
  let v3010 : BitVec 32 := Scalar.muli v3009 c256_i32_1090
  v3010
def k0_mult10 : BitVec 32 :=
  let c0_i32_1086 : BitVec 32 := 0#32
  let c1_i32_1087 : BitVec 32 := 1#32
  let v3008 : BitVec 32 := Scalar.shrui c0_i32_1086 c1_i32_1087
  let c1_i32_1092 : BitVec 32 := 1#32
  let v3013 : BitVec 32 := Scalar.shrui v3008 c1_i32_1092
  let c128_i32_1093 : BitVec 32 := 128#32
  let v3014 : BitVec 32 := Scalar.muli v3013 c128_i32_1093
  v3014
def k0_off20 : Fin 3 → Nat :=
  let c0_i32_1086 : BitVec 32 := 0#32
  let c1_i32_1087 : BitVec 32 := 1#32
  let v3008 : BitVec 32 := Scalar.shrui c0_i32_1086 c1_i32_1087
  let c2_i32_1091 : BitVec 32 := 2#32
  let v3012 : BitVec 32 := Scalar.shrui v3008 c2_i32_1091
  let c2_i32_1094 : BitVec 32 := 2#32
  let v3019 : BitVec 32 := Scalar.muli v3012 c2_i32_1094
  let c1_i32_1095 : BitVec 32 := 1#32
  let v3020 : BitVec 32 := Scalar.andi v3008 c1_i32_1095
  let v3021 : BitVec 32 := Scalar.addi v3019 v3020
  let v3022 : Index := Scalar.indexCast v3021
  let c1024 : Index := 1024#32
  let c0_1096 : Index := 0#32
  ![v3022.toNat, 1024, 0]
def k0_off21 : Fin 3 → Nat :=
  let c0_i32_1086 : BitVec 32 := 0#32
  let c1_i32_1087 : BitVec 32 := 1#32
  let v3008 : BitVec 32 := Scalar.shrui c0_i32_1086 c1_i32_1087
  let c2_i32_1091 : BitVec 32 := 2#32
  let v3012 : BitVec 32 := Scalar.shrui v3008 c2_i32_1091
  let v3026 : Index := Scalar.indexCast v3012
  let c1024_1098 : Index := 1024#32
  let c0_1099 : Index := 0#32
  ![v3026.toNat, 1024, 0]
def k0_mult11 : BitVec 32 :=
  let c0_i32_1105 : BitVec 32 := 0#32
  let c1_i32_1106 : BitVec 32 := 1#32
  let v3038 : BitVec 32 := Scalar.andi c0_i32_1105 c1_i32_1106
  let c256_i32_1107 : BitVec 32 := 256#32
  let v3039 : BitVec 32 := Scalar.muli v3038 c256_i32_1107
  v3039
def k0_mult12 : BitVec 32 :=
  let c0_i32_1103 : BitVec 32 := 0#32
  let c1_i32_1104 : BitVec 32 := 1#32
  let v3037 : BitVec 32 := Scalar.shrui c0_i32_1103 c1_i32_1104
  let c1_i32_1109 : BitVec 32 := 1#32
  let v3042 : BitVec 32 := Scalar.shrui v3037 c1_i32_1109
  let c128_i32_1110 : BitVec 32 := 128#32
  let v3043 : BitVec 32 := Scalar.muli v3042 c128_i32_1110
  v3043
def k0_off22 : Fin 3 → Nat :=
  let c0_i32_1103 : BitVec 32 := 0#32
  let c1_i32_1104 : BitVec 32 := 1#32
  let v3037 : BitVec 32 := Scalar.shrui c0_i32_1103 c1_i32_1104
  let c2_i32_1108 : BitVec 32 := 2#32
  let v3041 : BitVec 32 := Scalar.shrui v3037 c2_i32_1108
  let c2_i32_1111 : BitVec 32 := 2#32
  let v3048 : BitVec 32 := Scalar.muli v3041 c2_i32_1111
  let c1_i32_1112 : BitVec 32 := 1#32
  let v3049 : BitVec 32 := Scalar.andi v3037 c1_i32_1112
  let v3050 : BitVec 32 := Scalar.addi v3048 v3049
  let v3051 : Index := Scalar.indexCast v3050
  let c1280 : Index := 1280#32
  let c0_1113 : Index := 0#32
  ![v3051.toNat, 1280, 0]
def k0_off23 : Fin 3 → Nat :=
  let c0_i32_1103 : BitVec 32 := 0#32
  let c1_i32_1104 : BitVec 32 := 1#32
  let v3037 : BitVec 32 := Scalar.shrui c0_i32_1103 c1_i32_1104
  let c2_i32_1108 : BitVec 32 := 2#32
  let v3041 : BitVec 32 := Scalar.shrui v3037 c2_i32_1108
  let v3055 : Index := Scalar.indexCast v3041
  let c1280_1115 : Index := 1280#32
  let c0_1116 : Index := 0#32
  ![v3055.toNat, 1280, 0]
def k0_mult13 : BitVec 32 :=
  let c0_i32_1122 : BitVec 32 := 0#32
  let c1_i32_1123 : BitVec 32 := 1#32
  let v3067 : BitVec 32 := Scalar.andi c0_i32_1122 c1_i32_1123
  let c256_i32_1124 : BitVec 32 := 256#32
  let v3068 : BitVec 32 := Scalar.muli v3067 c256_i32_1124
  v3068
def k0_mult14 : BitVec 32 :=
  let c0_i32_1120 : BitVec 32 := 0#32
  let c1_i32_1121 : BitVec 32 := 1#32
  let v3066 : BitVec 32 := Scalar.shrui c0_i32_1120 c1_i32_1121
  let c1_i32_1126 : BitVec 32 := 1#32
  let v3071 : BitVec 32 := Scalar.shrui v3066 c1_i32_1126
  let c128_i32_1127 : BitVec 32 := 128#32
  let v3072 : BitVec 32 := Scalar.muli v3071 c128_i32_1127
  v3072
def k0_off24 : Fin 3 → Nat :=
  let c0_i32_1120 : BitVec 32 := 0#32
  let c1_i32_1121 : BitVec 32 := 1#32
  let v3066 : BitVec 32 := Scalar.shrui c0_i32_1120 c1_i32_1121
  let c2_i32_1125 : BitVec 32 := 2#32
  let v3070 : BitVec 32 := Scalar.shrui v3066 c2_i32_1125
  let c2_i32_1128 : BitVec 32 := 2#32
  let v3077 : BitVec 32 := Scalar.muli v3070 c2_i32_1128
  let c1_i32_1129 : BitVec 32 := 1#32
  let v3078 : BitVec 32 := Scalar.andi v3066 c1_i32_1129
  let v3079 : BitVec 32 := Scalar.addi v3077 v3078
  let v3080 : Index := Scalar.indexCast v3079
  let c1536 : Index := 1536#32
  let c0_1130 : Index := 0#32
  ![v3080.toNat, 1536, 0]
def k0_off25 : Fin 3 → Nat :=
  let c0_i32_1120 : BitVec 32 := 0#32
  let c1_i32_1121 : BitVec 32 := 1#32
  let v3066 : BitVec 32 := Scalar.shrui c0_i32_1120 c1_i32_1121
  let c2_i32_1125 : BitVec 32 := 2#32
  let v3070 : BitVec 32 := Scalar.shrui v3066 c2_i32_1125
  let v3084 : Index := Scalar.indexCast v3070
  let c1536_1132 : Index := 1536#32
  let c0_1133 : Index := 0#32
  ![v3084.toNat, 1536, 0]
def k0_mult15 : BitVec 32 :=
  let c0_i32_1139 : BitVec 32 := 0#32
  let c1_i32_1140 : BitVec 32 := 1#32
  let v3096 : BitVec 32 := Scalar.andi c0_i32_1139 c1_i32_1140
  let c256_i32_1141 : BitVec 32 := 256#32
  let v3097 : BitVec 32 := Scalar.muli v3096 c256_i32_1141
  v3097
def k0_mult16 : BitVec 32 :=
  let c0_i32_1137 : BitVec 32 := 0#32
  let c1_i32_1138 : BitVec 32 := 1#32
  let v3095 : BitVec 32 := Scalar.shrui c0_i32_1137 c1_i32_1138
  let c1_i32_1143 : BitVec 32 := 1#32
  let v3100 : BitVec 32 := Scalar.shrui v3095 c1_i32_1143
  let c128_i32_1144 : BitVec 32 := 128#32
  let v3101 : BitVec 32 := Scalar.muli v3100 c128_i32_1144
  v3101
def k0_off26 : Fin 3 → Nat :=
  let c0_i32_1137 : BitVec 32 := 0#32
  let c1_i32_1138 : BitVec 32 := 1#32
  let v3095 : BitVec 32 := Scalar.shrui c0_i32_1137 c1_i32_1138
  let c2_i32_1142 : BitVec 32 := 2#32
  let v3099 : BitVec 32 := Scalar.shrui v3095 c2_i32_1142
  let c2_i32_1145 : BitVec 32 := 2#32
  let v3106 : BitVec 32 := Scalar.muli v3099 c2_i32_1145
  let c1_i32_1146 : BitVec 32 := 1#32
  let v3107 : BitVec 32 := Scalar.andi v3095 c1_i32_1146
  let v3108 : BitVec 32 := Scalar.addi v3106 v3107
  let v3109 : Index := Scalar.indexCast v3108
  let c1792 : Index := 1792#32
  let c0_1147 : Index := 0#32
  ![v3109.toNat, 1792, 0]
def k0_off27 : Fin 3 → Nat :=
  let c0_i32_1137 : BitVec 32 := 0#32
  let c1_i32_1138 : BitVec 32 := 1#32
  let v3095 : BitVec 32 := Scalar.shrui c0_i32_1137 c1_i32_1138
  let c2_i32_1142 : BitVec 32 := 2#32
  let v3099 : BitVec 32 := Scalar.shrui v3095 c2_i32_1142
  let v3113 : Index := Scalar.indexCast v3099
  let c1792_1149 : Index := 1792#32
  let c0_1150 : Index := 0#32
  ![v3113.toNat, 1792, 0]
def k0_mult17 : BitVec 32 :=
  let c0_i32_1156 : BitVec 32 := 0#32
  let c1_i32_1157 : BitVec 32 := 1#32
  let v3125 : BitVec 32 := Scalar.andi c0_i32_1156 c1_i32_1157
  let c256_i32_1158 : BitVec 32 := 256#32
  let v3126 : BitVec 32 := Scalar.muli v3125 c256_i32_1158
  v3126
def k0_mult18 : BitVec 32 :=
  let c0_i32_1154 : BitVec 32 := 0#32
  let c1_i32_1155 : BitVec 32 := 1#32
  let v3124 : BitVec 32 := Scalar.shrui c0_i32_1154 c1_i32_1155
  let c1_i32_1160 : BitVec 32 := 1#32
  let v3129 : BitVec 32 := Scalar.shrui v3124 c1_i32_1160
  let c128_i32_1161 : BitVec 32 := 128#32
  let v3130 : BitVec 32 := Scalar.muli v3129 c128_i32_1161
  v3130
def k0_off28 : Fin 3 → Nat :=
  let c0_i32_1154 : BitVec 32 := 0#32
  let c1_i32_1155 : BitVec 32 := 1#32
  let v3124 : BitVec 32 := Scalar.shrui c0_i32_1154 c1_i32_1155
  let c2_i32_1159 : BitVec 32 := 2#32
  let v3128 : BitVec 32 := Scalar.shrui v3124 c2_i32_1159
  let c2_i32_1162 : BitVec 32 := 2#32
  let v3135 : BitVec 32 := Scalar.muli v3128 c2_i32_1162
  let c1_i32_1163 : BitVec 32 := 1#32
  let v3136 : BitVec 32 := Scalar.andi v3124 c1_i32_1163
  let v3137 : BitVec 32 := Scalar.addi v3135 v3136
  let v3138 : Index := Scalar.indexCast v3137
  let c2048 : Index := 2048#32
  let c0_1164 : Index := 0#32
  ![v3138.toNat, 2048, 0]
def k0_off29 : Fin 3 → Nat :=
  let c0_i32_1154 : BitVec 32 := 0#32
  let c1_i32_1155 : BitVec 32 := 1#32
  let v3124 : BitVec 32 := Scalar.shrui c0_i32_1154 c1_i32_1155
  let c2_i32_1159 : BitVec 32 := 2#32
  let v3128 : BitVec 32 := Scalar.shrui v3124 c2_i32_1159
  let v3142 : Index := Scalar.indexCast v3128
  let c2048_1166 : Index := 2048#32
  let c0_1167 : Index := 0#32
  ![v3142.toNat, 2048, 0]
def k0_mult19 : BitVec 32 :=
  let c0_i32_1173 : BitVec 32 := 0#32
  let c1_i32_1174 : BitVec 32 := 1#32
  let v3154 : BitVec 32 := Scalar.andi c0_i32_1173 c1_i32_1174
  let c256_i32_1175 : BitVec 32 := 256#32
  let v3155 : BitVec 32 := Scalar.muli v3154 c256_i32_1175
  v3155
def k0_mult20 : BitVec 32 :=
  let c0_i32_1171 : BitVec 32 := 0#32
  let c1_i32_1172 : BitVec 32 := 1#32
  let v3153 : BitVec 32 := Scalar.shrui c0_i32_1171 c1_i32_1172
  let c1_i32_1177 : BitVec 32 := 1#32
  let v3158 : BitVec 32 := Scalar.shrui v3153 c1_i32_1177
  let c128_i32_1178 : BitVec 32 := 128#32
  let v3159 : BitVec 32 := Scalar.muli v3158 c128_i32_1178
  v3159
def k0_off30 : Fin 3 → Nat :=
  let c0_i32_1171 : BitVec 32 := 0#32
  let c1_i32_1172 : BitVec 32 := 1#32
  let v3153 : BitVec 32 := Scalar.shrui c0_i32_1171 c1_i32_1172
  let c2_i32_1176 : BitVec 32 := 2#32
  let v3157 : BitVec 32 := Scalar.shrui v3153 c2_i32_1176
  let c2_i32_1179 : BitVec 32 := 2#32
  let v3164 : BitVec 32 := Scalar.muli v3157 c2_i32_1179
  let c1_i32_1180 : BitVec 32 := 1#32
  let v3165 : BitVec 32 := Scalar.andi v3153 c1_i32_1180
  let v3166 : BitVec 32 := Scalar.addi v3164 v3165
  let v3167 : Index := Scalar.indexCast v3166
  let c2304 : Index := 2304#32
  let c0_1181 : Index := 0#32
  ![v3167.toNat, 2304, 0]
def k0_off31 : Fin 3 → Nat :=
  let c0_i32_1171 : BitVec 32 := 0#32
  let c1_i32_1172 : BitVec 32 := 1#32
  let v3153 : BitVec 32 := Scalar.shrui c0_i32_1171 c1_i32_1172
  let c2_i32_1176 : BitVec 32 := 2#32
  let v3157 : BitVec 32 := Scalar.shrui v3153 c2_i32_1176
  let v3171 : Index := Scalar.indexCast v3157
  let c2304_1183 : Index := 2304#32
  let c0_1184 : Index := 0#32
  ![v3171.toNat, 2304, 0]
def k0_mult21 : BitVec 32 :=
  let c0_i32_1190 : BitVec 32 := 0#32
  let c1_i32_1191 : BitVec 32 := 1#32
  let v3183 : BitVec 32 := Scalar.andi c0_i32_1190 c1_i32_1191
  let c256_i32_1192 : BitVec 32 := 256#32
  let v3184 : BitVec 32 := Scalar.muli v3183 c256_i32_1192
  v3184
def k0_mult22 : BitVec 32 :=
  let c0_i32_1188 : BitVec 32 := 0#32
  let c1_i32_1189 : BitVec 32 := 1#32
  let v3182 : BitVec 32 := Scalar.shrui c0_i32_1188 c1_i32_1189
  let c1_i32_1194 : BitVec 32 := 1#32
  let v3187 : BitVec 32 := Scalar.shrui v3182 c1_i32_1194
  let c128_i32_1195 : BitVec 32 := 128#32
  let v3188 : BitVec 32 := Scalar.muli v3187 c128_i32_1195
  v3188
def k0_off32 : Fin 3 → Nat :=
  let c0_i32_1188 : BitVec 32 := 0#32
  let c1_i32_1189 : BitVec 32 := 1#32
  let v3182 : BitVec 32 := Scalar.shrui c0_i32_1188 c1_i32_1189
  let c2_i32_1193 : BitVec 32 := 2#32
  let v3186 : BitVec 32 := Scalar.shrui v3182 c2_i32_1193
  let c2_i32_1196 : BitVec 32 := 2#32
  let v3193 : BitVec 32 := Scalar.muli v3186 c2_i32_1196
  let c1_i32_1197 : BitVec 32 := 1#32
  let v3194 : BitVec 32 := Scalar.andi v3182 c1_i32_1197
  let v3195 : BitVec 32 := Scalar.addi v3193 v3194
  let v3196 : Index := Scalar.indexCast v3195
  let c2560 : Index := 2560#32
  let c0_1198 : Index := 0#32
  ![v3196.toNat, 2560, 0]
def k0_off33 : Fin 3 → Nat :=
  let c0_i32_1188 : BitVec 32 := 0#32
  let c1_i32_1189 : BitVec 32 := 1#32
  let v3182 : BitVec 32 := Scalar.shrui c0_i32_1188 c1_i32_1189
  let c2_i32_1193 : BitVec 32 := 2#32
  let v3186 : BitVec 32 := Scalar.shrui v3182 c2_i32_1193
  let v3200 : Index := Scalar.indexCast v3186
  let c2560_1200 : Index := 2560#32
  let c0_1201 : Index := 0#32
  ![v3200.toNat, 2560, 0]
def k0_mult23 : BitVec 32 :=
  let c0_i32_1207 : BitVec 32 := 0#32
  let c1_i32_1208 : BitVec 32 := 1#32
  let v3212 : BitVec 32 := Scalar.andi c0_i32_1207 c1_i32_1208
  let c256_i32_1209 : BitVec 32 := 256#32
  let v3213 : BitVec 32 := Scalar.muli v3212 c256_i32_1209
  v3213
def k0_mult24 : BitVec 32 :=
  let c0_i32_1205 : BitVec 32 := 0#32
  let c1_i32_1206 : BitVec 32 := 1#32
  let v3211 : BitVec 32 := Scalar.shrui c0_i32_1205 c1_i32_1206
  let c1_i32_1211 : BitVec 32 := 1#32
  let v3216 : BitVec 32 := Scalar.shrui v3211 c1_i32_1211
  let c128_i32_1212 : BitVec 32 := 128#32
  let v3217 : BitVec 32 := Scalar.muli v3216 c128_i32_1212
  v3217
def k0_off34 : Fin 3 → Nat :=
  let c0_i32_1205 : BitVec 32 := 0#32
  let c1_i32_1206 : BitVec 32 := 1#32
  let v3211 : BitVec 32 := Scalar.shrui c0_i32_1205 c1_i32_1206
  let c2_i32_1210 : BitVec 32 := 2#32
  let v3215 : BitVec 32 := Scalar.shrui v3211 c2_i32_1210
  let c2_i32_1213 : BitVec 32 := 2#32
  let v3222 : BitVec 32 := Scalar.muli v3215 c2_i32_1213
  let c1_i32_1214 : BitVec 32 := 1#32
  let v3223 : BitVec 32 := Scalar.andi v3211 c1_i32_1214
  let v3224 : BitVec 32 := Scalar.addi v3222 v3223
  let v3225 : Index := Scalar.indexCast v3224
  let c2816 : Index := 2816#32
  let c0_1215 : Index := 0#32
  ![v3225.toNat, 2816, 0]
def k0_off35 : Fin 3 → Nat :=
  let c0_i32_1205 : BitVec 32 := 0#32
  let c1_i32_1206 : BitVec 32 := 1#32
  let v3211 : BitVec 32 := Scalar.shrui c0_i32_1205 c1_i32_1206
  let c2_i32_1210 : BitVec 32 := 2#32
  let v3215 : BitVec 32 := Scalar.shrui v3211 c2_i32_1210
  let v3229 : Index := Scalar.indexCast v3215
  let c2816_1217 : Index := 2816#32
  let c0_1218 : Index := 0#32
  ![v3229.toNat, 2816, 0]
def k0_mult25 : BitVec 32 :=
  let c0_i32_1224 : BitVec 32 := 0#32
  let c1_i32_1225 : BitVec 32 := 1#32
  let v3241 : BitVec 32 := Scalar.andi c0_i32_1224 c1_i32_1225
  let c256_i32_1226 : BitVec 32 := 256#32
  let v3242 : BitVec 32 := Scalar.muli v3241 c256_i32_1226
  v3242
def k0_mult26 : BitVec 32 :=
  let c0_i32_1222 : BitVec 32 := 0#32
  let c1_i32_1223 : BitVec 32 := 1#32
  let v3240 : BitVec 32 := Scalar.shrui c0_i32_1222 c1_i32_1223
  let c1_i32_1228 : BitVec 32 := 1#32
  let v3245 : BitVec 32 := Scalar.shrui v3240 c1_i32_1228
  let c128_i32_1229 : BitVec 32 := 128#32
  let v3246 : BitVec 32 := Scalar.muli v3245 c128_i32_1229
  v3246
def k0_off36 : Fin 3 → Nat :=
  let c0_i32_1222 : BitVec 32 := 0#32
  let c1_i32_1223 : BitVec 32 := 1#32
  let v3240 : BitVec 32 := Scalar.shrui c0_i32_1222 c1_i32_1223
  let c2_i32_1227 : BitVec 32 := 2#32
  let v3244 : BitVec 32 := Scalar.shrui v3240 c2_i32_1227
  let c2_i32_1230 : BitVec 32 := 2#32
  let v3251 : BitVec 32 := Scalar.muli v3244 c2_i32_1230
  let c1_i32_1231 : BitVec 32 := 1#32
  let v3252 : BitVec 32 := Scalar.andi v3240 c1_i32_1231
  let v3253 : BitVec 32 := Scalar.addi v3251 v3252
  let v3254 : Index := Scalar.indexCast v3253
  let c3072 : Index := 3072#32
  let c0_1232 : Index := 0#32
  ![v3254.toNat, 3072, 0]
def k0_off37 : Fin 3 → Nat :=
  let c0_i32_1222 : BitVec 32 := 0#32
  let c1_i32_1223 : BitVec 32 := 1#32
  let v3240 : BitVec 32 := Scalar.shrui c0_i32_1222 c1_i32_1223
  let c2_i32_1227 : BitVec 32 := 2#32
  let v3244 : BitVec 32 := Scalar.shrui v3240 c2_i32_1227
  let v3258 : Index := Scalar.indexCast v3244
  let c3072_1234 : Index := 3072#32
  let c0_1235 : Index := 0#32
  ![v3258.toNat, 3072, 0]
def k0_mult27 : BitVec 32 :=
  let c0_i32_1241 : BitVec 32 := 0#32
  let c1_i32_1242 : BitVec 32 := 1#32
  let v3270 : BitVec 32 := Scalar.andi c0_i32_1241 c1_i32_1242
  let c256_i32_1243 : BitVec 32 := 256#32
  let v3271 : BitVec 32 := Scalar.muli v3270 c256_i32_1243
  v3271
def k0_mult28 : BitVec 32 :=
  let c0_i32_1239 : BitVec 32 := 0#32
  let c1_i32_1240 : BitVec 32 := 1#32
  let v3269 : BitVec 32 := Scalar.shrui c0_i32_1239 c1_i32_1240
  let c1_i32_1245 : BitVec 32 := 1#32
  let v3274 : BitVec 32 := Scalar.shrui v3269 c1_i32_1245
  let c128_i32_1246 : BitVec 32 := 128#32
  let v3275 : BitVec 32 := Scalar.muli v3274 c128_i32_1246
  v3275
def k0_off38 : Fin 3 → Nat :=
  let c0_i32_1239 : BitVec 32 := 0#32
  let c1_i32_1240 : BitVec 32 := 1#32
  let v3269 : BitVec 32 := Scalar.shrui c0_i32_1239 c1_i32_1240
  let c2_i32_1244 : BitVec 32 := 2#32
  let v3273 : BitVec 32 := Scalar.shrui v3269 c2_i32_1244
  let c2_i32_1247 : BitVec 32 := 2#32
  let v3280 : BitVec 32 := Scalar.muli v3273 c2_i32_1247
  let c1_i32_1248 : BitVec 32 := 1#32
  let v3281 : BitVec 32 := Scalar.andi v3269 c1_i32_1248
  let v3282 : BitVec 32 := Scalar.addi v3280 v3281
  let v3283 : Index := Scalar.indexCast v3282
  let c3328 : Index := 3328#32
  let c0_1249 : Index := 0#32
  ![v3283.toNat, 3328, 0]
def k0_off39 : Fin 3 → Nat :=
  let c0_i32_1239 : BitVec 32 := 0#32
  let c1_i32_1240 : BitVec 32 := 1#32
  let v3269 : BitVec 32 := Scalar.shrui c0_i32_1239 c1_i32_1240
  let c2_i32_1244 : BitVec 32 := 2#32
  let v3273 : BitVec 32 := Scalar.shrui v3269 c2_i32_1244
  let v3287 : Index := Scalar.indexCast v3273
  let c3328_1251 : Index := 3328#32
  let c0_1252 : Index := 0#32
  ![v3287.toNat, 3328, 0]
def k0_mult29 : BitVec 32 :=
  let c0_i32_1258 : BitVec 32 := 0#32
  let c1_i32_1259 : BitVec 32 := 1#32
  let v3299 : BitVec 32 := Scalar.andi c0_i32_1258 c1_i32_1259
  let c256_i32_1260 : BitVec 32 := 256#32
  let v3300 : BitVec 32 := Scalar.muli v3299 c256_i32_1260
  v3300
def k0_mult30 : BitVec 32 :=
  let c0_i32_1256 : BitVec 32 := 0#32
  let c1_i32_1257 : BitVec 32 := 1#32
  let v3298 : BitVec 32 := Scalar.shrui c0_i32_1256 c1_i32_1257
  let c1_i32_1262 : BitVec 32 := 1#32
  let v3303 : BitVec 32 := Scalar.shrui v3298 c1_i32_1262
  let c128_i32_1263 : BitVec 32 := 128#32
  let v3304 : BitVec 32 := Scalar.muli v3303 c128_i32_1263
  v3304
def k0_off40 : Fin 3 → Nat :=
  let c0_i32_1256 : BitVec 32 := 0#32
  let c1_i32_1257 : BitVec 32 := 1#32
  let v3298 : BitVec 32 := Scalar.shrui c0_i32_1256 c1_i32_1257
  let c2_i32_1261 : BitVec 32 := 2#32
  let v3302 : BitVec 32 := Scalar.shrui v3298 c2_i32_1261
  let c2_i32_1264 : BitVec 32 := 2#32
  let v3309 : BitVec 32 := Scalar.muli v3302 c2_i32_1264
  let c1_i32_1265 : BitVec 32 := 1#32
  let v3310 : BitVec 32 := Scalar.andi v3298 c1_i32_1265
  let v3311 : BitVec 32 := Scalar.addi v3309 v3310
  let v3312 : Index := Scalar.indexCast v3311
  let c3584 : Index := 3584#32
  let c0_1266 : Index := 0#32
  ![v3312.toNat, 3584, 0]
def k0_off41 : Fin 3 → Nat :=
  let c0_i32_1256 : BitVec 32 := 0#32
  let c1_i32_1257 : BitVec 32 := 1#32
  let v3298 : BitVec 32 := Scalar.shrui c0_i32_1256 c1_i32_1257
  let c2_i32_1261 : BitVec 32 := 2#32
  let v3302 : BitVec 32 := Scalar.shrui v3298 c2_i32_1261
  let v3316 : Index := Scalar.indexCast v3302
  let c3584_1268 : Index := 3584#32
  let c0_1269 : Index := 0#32
  ![v3316.toNat, 3584, 0]
def k0_mult31 : BitVec 32 :=
  let c0_i32_1275 : BitVec 32 := 0#32
  let c1_i32_1276 : BitVec 32 := 1#32
  let v3328 : BitVec 32 := Scalar.andi c0_i32_1275 c1_i32_1276
  let c256_i32_1277 : BitVec 32 := 256#32
  let v3329 : BitVec 32 := Scalar.muli v3328 c256_i32_1277
  v3329
def k0_mult32 : BitVec 32 :=
  let c0_i32_1273 : BitVec 32 := 0#32
  let c1_i32_1274 : BitVec 32 := 1#32
  let v3327 : BitVec 32 := Scalar.shrui c0_i32_1273 c1_i32_1274
  let c1_i32_1279 : BitVec 32 := 1#32
  let v3332 : BitVec 32 := Scalar.shrui v3327 c1_i32_1279
  let c128_i32_1280 : BitVec 32 := 128#32
  let v3333 : BitVec 32 := Scalar.muli v3332 c128_i32_1280
  v3333
def k0_off42 : Fin 3 → Nat :=
  let c0_i32_1273 : BitVec 32 := 0#32
  let c1_i32_1274 : BitVec 32 := 1#32
  let v3327 : BitVec 32 := Scalar.shrui c0_i32_1273 c1_i32_1274
  let c2_i32_1278 : BitVec 32 := 2#32
  let v3331 : BitVec 32 := Scalar.shrui v3327 c2_i32_1278
  let c2_i32_1281 : BitVec 32 := 2#32
  let v3338 : BitVec 32 := Scalar.muli v3331 c2_i32_1281
  let c1_i32_1282 : BitVec 32 := 1#32
  let v3339 : BitVec 32 := Scalar.andi v3327 c1_i32_1282
  let v3340 : BitVec 32 := Scalar.addi v3338 v3339
  let v3341 : Index := Scalar.indexCast v3340
  let c3840 : Index := 3840#32
  let c0_1283 : Index := 0#32
  ![v3341.toNat, 3840, 0]
def k0_off43 : Fin 3 → Nat :=
  let c0_i32_1273 : BitVec 32 := 0#32
  let c1_i32_1274 : BitVec 32 := 1#32
  let v3327 : BitVec 32 := Scalar.shrui c0_i32_1273 c1_i32_1274
  let c2_i32_1278 : BitVec 32 := 2#32
  let v3331 : BitVec 32 := Scalar.shrui v3327 c2_i32_1278
  let v3345 : Index := Scalar.indexCast v3331
  let c3840_1285 : Index := 3840#32
  let c0_1286 : Index := 0#32
  ![v3345.toNat, 3840, 0]
@[reducible] def k0_t3_loop : Scf.Loop 32 :=
  let c0_i32_1293 : BitVec 32 := 0#32
  let c8_i32_1294 : BitVec 32 := 8#32
  let v3361 : BitVec 32 := Scalar.addi c0_i32_1293 c8_i32_1294
  let c1_i32_1295 : BitVec 32 := 1#32
  ⟨c0_i32_1293, v3361, c1_i32_1295⟩
def k0_mult33 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1320 : BitVec 32 := 1#32
  let v3389 : BitVec 32 := Scalar.andi v3386 c1_i32_1320
  let c256_i32_1321 : BitVec 32 := 256#32
  let v3390 : BitVec 32 := Scalar.muli v3389 c256_i32_1321
  v3390
def k0_off44 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1319 : BitVec 32 := 1#32
  let v3388 : BitVec 32 := Scalar.shrui v3386 c1_i32_1319
  let v3392 : Index := Scalar.indexCast v3388
  let c1_i32_1320 : BitVec 32 := 1#32
  let v3389 : BitVec 32 := Scalar.andi v3386 c1_i32_1320
  let c256_i32_1321 : BitVec 32 := 256#32
  let v3390 : BitVec 32 := Scalar.muli v3389 c256_i32_1321
  let v3391 : BitVec 32 := v3390
  let v3393 : Index := Scalar.indexCast v3391
  ![v3392.toNat, v3393.toNat]
def k0_mult34 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1327 : BitVec 32 := 1#32
  let v3399 : BitVec 32 := Scalar.andi v3387 c1_i32_1327
  let c256_i32_1328 : BitVec 32 := 256#32
  let v3400 : BitVec 32 := Scalar.muli v3399 c256_i32_1328
  v3400
def k0_mult35 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1326 : BitVec 32 := 1#32
  let v3398 : BitVec 32 := Scalar.shrui v3387 c1_i32_1326
  let c1_i32_1330 : BitVec 32 := 1#32
  let v3403 : BitVec 32 := Scalar.shrui v3398 c1_i32_1330
  let c128_i32_1331 : BitVec 32 := 128#32
  let v3404 : BitVec 32 := Scalar.muli v3403 c128_i32_1331
  v3404
def k0_off45 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1327 : BitVec 32 := 1#32
  let v3399 : BitVec 32 := Scalar.andi v3387 c1_i32_1327
  let c256_i32_1328 : BitVec 32 := 256#32
  let v3400 : BitVec 32 := Scalar.muli v3399 c256_i32_1328
  let v3401 : BitVec 32 := v3400
  let v3406 : Index := Scalar.indexCast v3401
  let c1_i32_1326 : BitVec 32 := 1#32
  let v3398 : BitVec 32 := Scalar.shrui v3387 c1_i32_1326
  let c1_i32_1330 : BitVec 32 := 1#32
  let v3403 : BitVec 32 := Scalar.shrui v3398 c1_i32_1330
  let c128_i32_1331 : BitVec 32 := 128#32
  let v3404 : BitVec 32 := Scalar.muli v3403 c128_i32_1331
  let v3405 : BitVec 32 := v3404
  let v3407 : Index := Scalar.indexCast v3405
  ![v3406.toNat, v3407.toNat]
def k0_off46 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1326 : BitVec 32 := 1#32
  let v3398 : BitVec 32 := Scalar.shrui v3387 c1_i32_1326
  let c2_i32_1329 : BitVec 32 := 2#32
  let v3402 : BitVec 32 := Scalar.shrui v3398 c2_i32_1329
  let c2_i32_1332 : BitVec 32 := 2#32
  let v3409 : BitVec 32 := Scalar.muli v3402 c2_i32_1332
  let c1_i32_1333 : BitVec 32 := 1#32
  let v3410 : BitVec 32 := Scalar.andi v3398 c1_i32_1333
  let v3411 : BitVec 32 := Scalar.addi v3409 v3410
  let v3412 : Index := Scalar.indexCast v3411
  let c0_1334 : Index := 0#32
  let c0_1335 : Index := 0#32
  ![v3412.toNat, 0, 0]
def k0_off47 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1326 : BitVec 32 := 1#32
  let v3398 : BitVec 32 := Scalar.shrui v3387 c1_i32_1326
  let c2_i32_1329 : BitVec 32 := 2#32
  let v3402 : BitVec 32 := Scalar.shrui v3398 c2_i32_1329
  let v3416 : Index := Scalar.indexCast v3402
  let c0_1337 : Index := 0#32
  let c0_1338 : Index := 0#32
  ![v3416.toNat, 0, 0]
def k0_off48 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1342 : BitVec 32 := 1#32
  let v3427 : BitVec 32 := Scalar.shrui v3386 c1_i32_1342
  let c2_i32_1343 : BitVec 32 := 2#32
  let v3428 : BitVec 32 := Scalar.shrui v3427 c2_i32_1343
  let c64_i32_1350 : BitVec 32 := 64#32
  let v3445 : BitVec 32 := Scalar.muli v3428 c64_i32_1350
  let v3446 : Index := Scalar.indexCast v3445
  let c0_1351 : Index := 0#32
  ![v3446.toNat, 0]
def k0_mult36 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1354 : BitVec 32 := 1#32
  let v3451 : BitVec 32 := Scalar.andi v3387 c1_i32_1354
  let c256_i32_1355 : BitVec 32 := 256#32
  let v3452 : BitVec 32 := Scalar.muli v3451 c256_i32_1355
  v3452
def k0_mult37 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1353 : BitVec 32 := 1#32
  let v3450 : BitVec 32 := Scalar.shrui v3387 c1_i32_1353
  let c1_i32_1357 : BitVec 32 := 1#32
  let v3455 : BitVec 32 := Scalar.shrui v3450 c1_i32_1357
  let c128_i32_1358 : BitVec 32 := 128#32
  let v3456 : BitVec 32 := Scalar.muli v3455 c128_i32_1358
  v3456
def k0_off49 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1353 : BitVec 32 := 1#32
  let v3450 : BitVec 32 := Scalar.shrui v3387 c1_i32_1353
  let c2_i32_1356 : BitVec 32 := 2#32
  let v3454 : BitVec 32 := Scalar.shrui v3450 c2_i32_1356
  let c2_i32_1359 : BitVec 32 := 2#32
  let v3461 : BitVec 32 := Scalar.muli v3454 c2_i32_1359
  let c1_i32_1360 : BitVec 32 := 1#32
  let v3462 : BitVec 32 := Scalar.andi v3450 c1_i32_1360
  let v3463 : BitVec 32 := Scalar.addi v3461 v3462
  let v3464 : Index := Scalar.indexCast v3463
  let c256_1361 : Index := 256#32
  let c0_1362 : Index := 0#32
  ![v3464.toNat, 256, 0]
def k0_off50 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1353 : BitVec 32 := 1#32
  let v3450 : BitVec 32 := Scalar.shrui v3387 c1_i32_1353
  let c2_i32_1356 : BitVec 32 := 2#32
  let v3454 : BitVec 32 := Scalar.shrui v3450 c2_i32_1356
  let v3468 : Index := Scalar.indexCast v3454
  let c256_1364 : Index := 256#32
  let c0_1365 : Index := 0#32
  ![v3468.toNat, 256, 0]
def k0_off51 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1369 : BitVec 32 := 1#32
  let v3479 : BitVec 32 := Scalar.shrui v3386 c1_i32_1369
  let c2_i32_1370 : BitVec 32 := 2#32
  let v3480 : BitVec 32 := Scalar.shrui v3479 c2_i32_1370
  let c64_i32_1377 : BitVec 32 := 64#32
  let v3497 : BitVec 32 := Scalar.muli v3480 c64_i32_1377
  let v3498 : Index := Scalar.indexCast v3497
  let c256_1378 : Index := 256#32
  ![v3498.toNat, 256]
def k0_mult38 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1381 : BitVec 32 := 1#32
  let v3503 : BitVec 32 := Scalar.andi v3387 c1_i32_1381
  let c256_i32_1382 : BitVec 32 := 256#32
  let v3504 : BitVec 32 := Scalar.muli v3503 c256_i32_1382
  v3504
def k0_mult39 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1380 : BitVec 32 := 1#32
  let v3502 : BitVec 32 := Scalar.shrui v3387 c1_i32_1380
  let c1_i32_1384 : BitVec 32 := 1#32
  let v3507 : BitVec 32 := Scalar.shrui v3502 c1_i32_1384
  let c128_i32_1385 : BitVec 32 := 128#32
  let v3508 : BitVec 32 := Scalar.muli v3507 c128_i32_1385
  v3508
def k0_off52 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1380 : BitVec 32 := 1#32
  let v3502 : BitVec 32 := Scalar.shrui v3387 c1_i32_1380
  let c2_i32_1383 : BitVec 32 := 2#32
  let v3506 : BitVec 32 := Scalar.shrui v3502 c2_i32_1383
  let c2_i32_1386 : BitVec 32 := 2#32
  let v3513 : BitVec 32 := Scalar.muli v3506 c2_i32_1386
  let c1_i32_1387 : BitVec 32 := 1#32
  let v3514 : BitVec 32 := Scalar.andi v3502 c1_i32_1387
  let v3515 : BitVec 32 := Scalar.addi v3513 v3514
  let v3516 : Index := Scalar.indexCast v3515
  let c512_1388 : Index := 512#32
  let c0_1389 : Index := 0#32
  ![v3516.toNat, 512, 0]
def k0_off53 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1380 : BitVec 32 := 1#32
  let v3502 : BitVec 32 := Scalar.shrui v3387 c1_i32_1380
  let c2_i32_1383 : BitVec 32 := 2#32
  let v3506 : BitVec 32 := Scalar.shrui v3502 c2_i32_1383
  let v3520 : Index := Scalar.indexCast v3506
  let c512_1391 : Index := 512#32
  let c0_1392 : Index := 0#32
  ![v3520.toNat, 512, 0]
def k0_off54 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1396 : BitVec 32 := 1#32
  let v3531 : BitVec 32 := Scalar.shrui v3386 c1_i32_1396
  let c2_i32_1397 : BitVec 32 := 2#32
  let v3532 : BitVec 32 := Scalar.shrui v3531 c2_i32_1397
  let c64_i32_1404 : BitVec 32 := 64#32
  let v3549 : BitVec 32 := Scalar.muli v3532 c64_i32_1404
  let v3550 : Index := Scalar.indexCast v3549
  let c512_1405 : Index := 512#32
  ![v3550.toNat, 512]
def k0_mult40 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1408 : BitVec 32 := 1#32
  let v3555 : BitVec 32 := Scalar.andi v3387 c1_i32_1408
  let c256_i32_1409 : BitVec 32 := 256#32
  let v3556 : BitVec 32 := Scalar.muli v3555 c256_i32_1409
  v3556
def k0_mult41 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1407 : BitVec 32 := 1#32
  let v3554 : BitVec 32 := Scalar.shrui v3387 c1_i32_1407
  let c1_i32_1411 : BitVec 32 := 1#32
  let v3559 : BitVec 32 := Scalar.shrui v3554 c1_i32_1411
  let c128_i32_1412 : BitVec 32 := 128#32
  let v3560 : BitVec 32 := Scalar.muli v3559 c128_i32_1412
  v3560
def k0_off55 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1407 : BitVec 32 := 1#32
  let v3554 : BitVec 32 := Scalar.shrui v3387 c1_i32_1407
  let c2_i32_1410 : BitVec 32 := 2#32
  let v3558 : BitVec 32 := Scalar.shrui v3554 c2_i32_1410
  let c2_i32_1413 : BitVec 32 := 2#32
  let v3565 : BitVec 32 := Scalar.muli v3558 c2_i32_1413
  let c1_i32_1414 : BitVec 32 := 1#32
  let v3566 : BitVec 32 := Scalar.andi v3554 c1_i32_1414
  let v3567 : BitVec 32 := Scalar.addi v3565 v3566
  let v3568 : Index := Scalar.indexCast v3567
  let c768_1415 : Index := 768#32
  let c0_1416 : Index := 0#32
  ![v3568.toNat, 768, 0]
def k0_off56 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1407 : BitVec 32 := 1#32
  let v3554 : BitVec 32 := Scalar.shrui v3387 c1_i32_1407
  let c2_i32_1410 : BitVec 32 := 2#32
  let v3558 : BitVec 32 := Scalar.shrui v3554 c2_i32_1410
  let v3572 : Index := Scalar.indexCast v3558
  let c768_1418 : Index := 768#32
  let c0_1419 : Index := 0#32
  ![v3572.toNat, 768, 0]
def k0_off57 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1423 : BitVec 32 := 1#32
  let v3583 : BitVec 32 := Scalar.shrui v3386 c1_i32_1423
  let c2_i32_1424 : BitVec 32 := 2#32
  let v3584 : BitVec 32 := Scalar.shrui v3583 c2_i32_1424
  let c64_i32_1431 : BitVec 32 := 64#32
  let v3601 : BitVec 32 := Scalar.muli v3584 c64_i32_1431
  let v3602 : Index := Scalar.indexCast v3601
  let c768_1432 : Index := 768#32
  ![v3602.toNat, 768]
def k0_mult42 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1435 : BitVec 32 := 1#32
  let v3607 : BitVec 32 := Scalar.andi v3387 c1_i32_1435
  let c256_i32_1436 : BitVec 32 := 256#32
  let v3608 : BitVec 32 := Scalar.muli v3607 c256_i32_1436
  v3608
def k0_mult43 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1434 : BitVec 32 := 1#32
  let v3606 : BitVec 32 := Scalar.shrui v3387 c1_i32_1434
  let c1_i32_1438 : BitVec 32 := 1#32
  let v3611 : BitVec 32 := Scalar.shrui v3606 c1_i32_1438
  let c128_i32_1439 : BitVec 32 := 128#32
  let v3612 : BitVec 32 := Scalar.muli v3611 c128_i32_1439
  v3612
def k0_off58 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1434 : BitVec 32 := 1#32
  let v3606 : BitVec 32 := Scalar.shrui v3387 c1_i32_1434
  let c2_i32_1437 : BitVec 32 := 2#32
  let v3610 : BitVec 32 := Scalar.shrui v3606 c2_i32_1437
  let c2_i32_1440 : BitVec 32 := 2#32
  let v3617 : BitVec 32 := Scalar.muli v3610 c2_i32_1440
  let c1_i32_1441 : BitVec 32 := 1#32
  let v3618 : BitVec 32 := Scalar.andi v3606 c1_i32_1441
  let v3619 : BitVec 32 := Scalar.addi v3617 v3618
  let v3620 : Index := Scalar.indexCast v3619
  let c1024_1442 : Index := 1024#32
  let c0_1443 : Index := 0#32
  ![v3620.toNat, 1024, 0]
def k0_off59 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1434 : BitVec 32 := 1#32
  let v3606 : BitVec 32 := Scalar.shrui v3387 c1_i32_1434
  let c2_i32_1437 : BitVec 32 := 2#32
  let v3610 : BitVec 32 := Scalar.shrui v3606 c2_i32_1437
  let v3624 : Index := Scalar.indexCast v3610
  let c1024_1445 : Index := 1024#32
  let c0_1446 : Index := 0#32
  ![v3624.toNat, 1024, 0]
def k0_off60 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1450 : BitVec 32 := 1#32
  let v3635 : BitVec 32 := Scalar.shrui v3386 c1_i32_1450
  let c2_i32_1451 : BitVec 32 := 2#32
  let v3636 : BitVec 32 := Scalar.shrui v3635 c2_i32_1451
  let c64_i32_1458 : BitVec 32 := 64#32
  let v3653 : BitVec 32 := Scalar.muli v3636 c64_i32_1458
  let v3654 : Index := Scalar.indexCast v3653
  let c1024_1459 : Index := 1024#32
  ![v3654.toNat, 1024]
def k0_mult44 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1462 : BitVec 32 := 1#32
  let v3659 : BitVec 32 := Scalar.andi v3387 c1_i32_1462
  let c256_i32_1463 : BitVec 32 := 256#32
  let v3660 : BitVec 32 := Scalar.muli v3659 c256_i32_1463
  v3660
def k0_mult45 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1461 : BitVec 32 := 1#32
  let v3658 : BitVec 32 := Scalar.shrui v3387 c1_i32_1461
  let c1_i32_1465 : BitVec 32 := 1#32
  let v3663 : BitVec 32 := Scalar.shrui v3658 c1_i32_1465
  let c128_i32_1466 : BitVec 32 := 128#32
  let v3664 : BitVec 32 := Scalar.muli v3663 c128_i32_1466
  v3664
def k0_off61 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1461 : BitVec 32 := 1#32
  let v3658 : BitVec 32 := Scalar.shrui v3387 c1_i32_1461
  let c2_i32_1464 : BitVec 32 := 2#32
  let v3662 : BitVec 32 := Scalar.shrui v3658 c2_i32_1464
  let c2_i32_1467 : BitVec 32 := 2#32
  let v3669 : BitVec 32 := Scalar.muli v3662 c2_i32_1467
  let c1_i32_1468 : BitVec 32 := 1#32
  let v3670 : BitVec 32 := Scalar.andi v3658 c1_i32_1468
  let v3671 : BitVec 32 := Scalar.addi v3669 v3670
  let v3672 : Index := Scalar.indexCast v3671
  let c1280_1469 : Index := 1280#32
  let c0_1470 : Index := 0#32
  ![v3672.toNat, 1280, 0]
def k0_off62 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1461 : BitVec 32 := 1#32
  let v3658 : BitVec 32 := Scalar.shrui v3387 c1_i32_1461
  let c2_i32_1464 : BitVec 32 := 2#32
  let v3662 : BitVec 32 := Scalar.shrui v3658 c2_i32_1464
  let v3676 : Index := Scalar.indexCast v3662
  let c1280_1472 : Index := 1280#32
  let c0_1473 : Index := 0#32
  ![v3676.toNat, 1280, 0]
def k0_off63 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1477 : BitVec 32 := 1#32
  let v3687 : BitVec 32 := Scalar.shrui v3386 c1_i32_1477
  let c2_i32_1478 : BitVec 32 := 2#32
  let v3688 : BitVec 32 := Scalar.shrui v3687 c2_i32_1478
  let c64_i32_1485 : BitVec 32 := 64#32
  let v3705 : BitVec 32 := Scalar.muli v3688 c64_i32_1485
  let v3706 : Index := Scalar.indexCast v3705
  let c1280_1486 : Index := 1280#32
  ![v3706.toNat, 1280]
def k0_mult46 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1489 : BitVec 32 := 1#32
  let v3711 : BitVec 32 := Scalar.andi v3387 c1_i32_1489
  let c256_i32_1490 : BitVec 32 := 256#32
  let v3712 : BitVec 32 := Scalar.muli v3711 c256_i32_1490
  v3712
def k0_mult47 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1488 : BitVec 32 := 1#32
  let v3710 : BitVec 32 := Scalar.shrui v3387 c1_i32_1488
  let c1_i32_1492 : BitVec 32 := 1#32
  let v3715 : BitVec 32 := Scalar.shrui v3710 c1_i32_1492
  let c128_i32_1493 : BitVec 32 := 128#32
  let v3716 : BitVec 32 := Scalar.muli v3715 c128_i32_1493
  v3716
def k0_off64 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1488 : BitVec 32 := 1#32
  let v3710 : BitVec 32 := Scalar.shrui v3387 c1_i32_1488
  let c2_i32_1491 : BitVec 32 := 2#32
  let v3714 : BitVec 32 := Scalar.shrui v3710 c2_i32_1491
  let c2_i32_1494 : BitVec 32 := 2#32
  let v3721 : BitVec 32 := Scalar.muli v3714 c2_i32_1494
  let c1_i32_1495 : BitVec 32 := 1#32
  let v3722 : BitVec 32 := Scalar.andi v3710 c1_i32_1495
  let v3723 : BitVec 32 := Scalar.addi v3721 v3722
  let v3724 : Index := Scalar.indexCast v3723
  let c1536_1496 : Index := 1536#32
  let c0_1497 : Index := 0#32
  ![v3724.toNat, 1536, 0]
def k0_off65 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1488 : BitVec 32 := 1#32
  let v3710 : BitVec 32 := Scalar.shrui v3387 c1_i32_1488
  let c2_i32_1491 : BitVec 32 := 2#32
  let v3714 : BitVec 32 := Scalar.shrui v3710 c2_i32_1491
  let v3728 : Index := Scalar.indexCast v3714
  let c1536_1499 : Index := 1536#32
  let c0_1500 : Index := 0#32
  ![v3728.toNat, 1536, 0]
def k0_off66 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1504 : BitVec 32 := 1#32
  let v3739 : BitVec 32 := Scalar.shrui v3386 c1_i32_1504
  let c2_i32_1505 : BitVec 32 := 2#32
  let v3740 : BitVec 32 := Scalar.shrui v3739 c2_i32_1505
  let c64_i32_1512 : BitVec 32 := 64#32
  let v3757 : BitVec 32 := Scalar.muli v3740 c64_i32_1512
  let v3758 : Index := Scalar.indexCast v3757
  let c1536_1513 : Index := 1536#32
  ![v3758.toNat, 1536]
def k0_mult48 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1516 : BitVec 32 := 1#32
  let v3763 : BitVec 32 := Scalar.andi v3387 c1_i32_1516
  let c256_i32_1517 : BitVec 32 := 256#32
  let v3764 : BitVec 32 := Scalar.muli v3763 c256_i32_1517
  v3764
def k0_mult49 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1515 : BitVec 32 := 1#32
  let v3762 : BitVec 32 := Scalar.shrui v3387 c1_i32_1515
  let c1_i32_1519 : BitVec 32 := 1#32
  let v3767 : BitVec 32 := Scalar.shrui v3762 c1_i32_1519
  let c128_i32_1520 : BitVec 32 := 128#32
  let v3768 : BitVec 32 := Scalar.muli v3767 c128_i32_1520
  v3768
def k0_off67 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1515 : BitVec 32 := 1#32
  let v3762 : BitVec 32 := Scalar.shrui v3387 c1_i32_1515
  let c2_i32_1518 : BitVec 32 := 2#32
  let v3766 : BitVec 32 := Scalar.shrui v3762 c2_i32_1518
  let c2_i32_1521 : BitVec 32 := 2#32
  let v3773 : BitVec 32 := Scalar.muli v3766 c2_i32_1521
  let c1_i32_1522 : BitVec 32 := 1#32
  let v3774 : BitVec 32 := Scalar.andi v3762 c1_i32_1522
  let v3775 : BitVec 32 := Scalar.addi v3773 v3774
  let v3776 : Index := Scalar.indexCast v3775
  let c1792_1523 : Index := 1792#32
  let c0_1524 : Index := 0#32
  ![v3776.toNat, 1792, 0]
def k0_off68 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1515 : BitVec 32 := 1#32
  let v3762 : BitVec 32 := Scalar.shrui v3387 c1_i32_1515
  let c2_i32_1518 : BitVec 32 := 2#32
  let v3766 : BitVec 32 := Scalar.shrui v3762 c2_i32_1518
  let v3780 : Index := Scalar.indexCast v3766
  let c1792_1526 : Index := 1792#32
  let c0_1527 : Index := 0#32
  ![v3780.toNat, 1792, 0]
def k0_off69 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1531 : BitVec 32 := 1#32
  let v3791 : BitVec 32 := Scalar.shrui v3386 c1_i32_1531
  let c2_i32_1532 : BitVec 32 := 2#32
  let v3792 : BitVec 32 := Scalar.shrui v3791 c2_i32_1532
  let c64_i32_1539 : BitVec 32 := 64#32
  let v3809 : BitVec 32 := Scalar.muli v3792 c64_i32_1539
  let v3810 : Index := Scalar.indexCast v3809
  let c1792_1540 : Index := 1792#32
  ![v3810.toNat, 1792]
def k0_mult50 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1543 : BitVec 32 := 1#32
  let v3815 : BitVec 32 := Scalar.andi v3387 c1_i32_1543
  let c256_i32_1544 : BitVec 32 := 256#32
  let v3816 : BitVec 32 := Scalar.muli v3815 c256_i32_1544
  v3816
def k0_mult51 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1542 : BitVec 32 := 1#32
  let v3814 : BitVec 32 := Scalar.shrui v3387 c1_i32_1542
  let c1_i32_1546 : BitVec 32 := 1#32
  let v3819 : BitVec 32 := Scalar.shrui v3814 c1_i32_1546
  let c128_i32_1547 : BitVec 32 := 128#32
  let v3820 : BitVec 32 := Scalar.muli v3819 c128_i32_1547
  v3820
def k0_off70 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1542 : BitVec 32 := 1#32
  let v3814 : BitVec 32 := Scalar.shrui v3387 c1_i32_1542
  let c2_i32_1545 : BitVec 32 := 2#32
  let v3818 : BitVec 32 := Scalar.shrui v3814 c2_i32_1545
  let c2_i32_1548 : BitVec 32 := 2#32
  let v3825 : BitVec 32 := Scalar.muli v3818 c2_i32_1548
  let c1_i32_1549 : BitVec 32 := 1#32
  let v3826 : BitVec 32 := Scalar.andi v3814 c1_i32_1549
  let v3827 : BitVec 32 := Scalar.addi v3825 v3826
  let v3828 : Index := Scalar.indexCast v3827
  let c2048_1550 : Index := 2048#32
  let c0_1551 : Index := 0#32
  ![v3828.toNat, 2048, 0]
def k0_off71 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1542 : BitVec 32 := 1#32
  let v3814 : BitVec 32 := Scalar.shrui v3387 c1_i32_1542
  let c2_i32_1545 : BitVec 32 := 2#32
  let v3818 : BitVec 32 := Scalar.shrui v3814 c2_i32_1545
  let v3832 : Index := Scalar.indexCast v3818
  let c2048_1553 : Index := 2048#32
  let c0_1554 : Index := 0#32
  ![v3832.toNat, 2048, 0]
def k0_off72 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1558 : BitVec 32 := 1#32
  let v3843 : BitVec 32 := Scalar.shrui v3386 c1_i32_1558
  let c2_i32_1559 : BitVec 32 := 2#32
  let v3844 : BitVec 32 := Scalar.shrui v3843 c2_i32_1559
  let c64_i32_1566 : BitVec 32 := 64#32
  let v3861 : BitVec 32 := Scalar.muli v3844 c64_i32_1566
  let v3862 : Index := Scalar.indexCast v3861
  let c2048_1567 : Index := 2048#32
  ![v3862.toNat, 2048]
def k0_mult52 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1570 : BitVec 32 := 1#32
  let v3867 : BitVec 32 := Scalar.andi v3387 c1_i32_1570
  let c256_i32_1571 : BitVec 32 := 256#32
  let v3868 : BitVec 32 := Scalar.muli v3867 c256_i32_1571
  v3868
def k0_mult53 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1569 : BitVec 32 := 1#32
  let v3866 : BitVec 32 := Scalar.shrui v3387 c1_i32_1569
  let c1_i32_1573 : BitVec 32 := 1#32
  let v3871 : BitVec 32 := Scalar.shrui v3866 c1_i32_1573
  let c128_i32_1574 : BitVec 32 := 128#32
  let v3872 : BitVec 32 := Scalar.muli v3871 c128_i32_1574
  v3872
def k0_off73 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1569 : BitVec 32 := 1#32
  let v3866 : BitVec 32 := Scalar.shrui v3387 c1_i32_1569
  let c2_i32_1572 : BitVec 32 := 2#32
  let v3870 : BitVec 32 := Scalar.shrui v3866 c2_i32_1572
  let c2_i32_1575 : BitVec 32 := 2#32
  let v3877 : BitVec 32 := Scalar.muli v3870 c2_i32_1575
  let c1_i32_1576 : BitVec 32 := 1#32
  let v3878 : BitVec 32 := Scalar.andi v3866 c1_i32_1576
  let v3879 : BitVec 32 := Scalar.addi v3877 v3878
  let v3880 : Index := Scalar.indexCast v3879
  let c2304_1577 : Index := 2304#32
  let c0_1578 : Index := 0#32
  ![v3880.toNat, 2304, 0]
def k0_off74 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1569 : BitVec 32 := 1#32
  let v3866 : BitVec 32 := Scalar.shrui v3387 c1_i32_1569
  let c2_i32_1572 : BitVec 32 := 2#32
  let v3870 : BitVec 32 := Scalar.shrui v3866 c2_i32_1572
  let v3884 : Index := Scalar.indexCast v3870
  let c2304_1580 : Index := 2304#32
  let c0_1581 : Index := 0#32
  ![v3884.toNat, 2304, 0]
def k0_off75 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1585 : BitVec 32 := 1#32
  let v3895 : BitVec 32 := Scalar.shrui v3386 c1_i32_1585
  let c2_i32_1586 : BitVec 32 := 2#32
  let v3896 : BitVec 32 := Scalar.shrui v3895 c2_i32_1586
  let c64_i32_1593 : BitVec 32 := 64#32
  let v3913 : BitVec 32 := Scalar.muli v3896 c64_i32_1593
  let v3914 : Index := Scalar.indexCast v3913
  let c2304_1594 : Index := 2304#32
  ![v3914.toNat, 2304]
def k0_mult54 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1597 : BitVec 32 := 1#32
  let v3919 : BitVec 32 := Scalar.andi v3387 c1_i32_1597
  let c256_i32_1598 : BitVec 32 := 256#32
  let v3920 : BitVec 32 := Scalar.muli v3919 c256_i32_1598
  v3920
def k0_mult55 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1596 : BitVec 32 := 1#32
  let v3918 : BitVec 32 := Scalar.shrui v3387 c1_i32_1596
  let c1_i32_1600 : BitVec 32 := 1#32
  let v3923 : BitVec 32 := Scalar.shrui v3918 c1_i32_1600
  let c128_i32_1601 : BitVec 32 := 128#32
  let v3924 : BitVec 32 := Scalar.muli v3923 c128_i32_1601
  v3924
def k0_off76 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1596 : BitVec 32 := 1#32
  let v3918 : BitVec 32 := Scalar.shrui v3387 c1_i32_1596
  let c2_i32_1599 : BitVec 32 := 2#32
  let v3922 : BitVec 32 := Scalar.shrui v3918 c2_i32_1599
  let c2_i32_1602 : BitVec 32 := 2#32
  let v3929 : BitVec 32 := Scalar.muli v3922 c2_i32_1602
  let c1_i32_1603 : BitVec 32 := 1#32
  let v3930 : BitVec 32 := Scalar.andi v3918 c1_i32_1603
  let v3931 : BitVec 32 := Scalar.addi v3929 v3930
  let v3932 : Index := Scalar.indexCast v3931
  let c2560_1604 : Index := 2560#32
  let c0_1605 : Index := 0#32
  ![v3932.toNat, 2560, 0]
def k0_off77 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1596 : BitVec 32 := 1#32
  let v3918 : BitVec 32 := Scalar.shrui v3387 c1_i32_1596
  let c2_i32_1599 : BitVec 32 := 2#32
  let v3922 : BitVec 32 := Scalar.shrui v3918 c2_i32_1599
  let v3936 : Index := Scalar.indexCast v3922
  let c2560_1607 : Index := 2560#32
  let c0_1608 : Index := 0#32
  ![v3936.toNat, 2560, 0]
def k0_off78 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1612 : BitVec 32 := 1#32
  let v3947 : BitVec 32 := Scalar.shrui v3386 c1_i32_1612
  let c2_i32_1613 : BitVec 32 := 2#32
  let v3948 : BitVec 32 := Scalar.shrui v3947 c2_i32_1613
  let c64_i32_1620 : BitVec 32 := 64#32
  let v3965 : BitVec 32 := Scalar.muli v3948 c64_i32_1620
  let v3966 : Index := Scalar.indexCast v3965
  let c2560_1621 : Index := 2560#32
  ![v3966.toNat, 2560]
def k0_mult56 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1624 : BitVec 32 := 1#32
  let v3971 : BitVec 32 := Scalar.andi v3387 c1_i32_1624
  let c256_i32_1625 : BitVec 32 := 256#32
  let v3972 : BitVec 32 := Scalar.muli v3971 c256_i32_1625
  v3972
def k0_mult57 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1623 : BitVec 32 := 1#32
  let v3970 : BitVec 32 := Scalar.shrui v3387 c1_i32_1623
  let c1_i32_1627 : BitVec 32 := 1#32
  let v3975 : BitVec 32 := Scalar.shrui v3970 c1_i32_1627
  let c128_i32_1628 : BitVec 32 := 128#32
  let v3976 : BitVec 32 := Scalar.muli v3975 c128_i32_1628
  v3976
def k0_off79 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1623 : BitVec 32 := 1#32
  let v3970 : BitVec 32 := Scalar.shrui v3387 c1_i32_1623
  let c2_i32_1626 : BitVec 32 := 2#32
  let v3974 : BitVec 32 := Scalar.shrui v3970 c2_i32_1626
  let c2_i32_1629 : BitVec 32 := 2#32
  let v3981 : BitVec 32 := Scalar.muli v3974 c2_i32_1629
  let c1_i32_1630 : BitVec 32 := 1#32
  let v3982 : BitVec 32 := Scalar.andi v3970 c1_i32_1630
  let v3983 : BitVec 32 := Scalar.addi v3981 v3982
  let v3984 : Index := Scalar.indexCast v3983
  let c2816_1631 : Index := 2816#32
  let c0_1632 : Index := 0#32
  ![v3984.toNat, 2816, 0]
def k0_off80 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1623 : BitVec 32 := 1#32
  let v3970 : BitVec 32 := Scalar.shrui v3387 c1_i32_1623
  let c2_i32_1626 : BitVec 32 := 2#32
  let v3974 : BitVec 32 := Scalar.shrui v3970 c2_i32_1626
  let v3988 : Index := Scalar.indexCast v3974
  let c2816_1634 : Index := 2816#32
  let c0_1635 : Index := 0#32
  ![v3988.toNat, 2816, 0]
def k0_off81 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1639 : BitVec 32 := 1#32
  let v3999 : BitVec 32 := Scalar.shrui v3386 c1_i32_1639
  let c2_i32_1640 : BitVec 32 := 2#32
  let v4000 : BitVec 32 := Scalar.shrui v3999 c2_i32_1640
  let c64_i32_1647 : BitVec 32 := 64#32
  let v4017 : BitVec 32 := Scalar.muli v4000 c64_i32_1647
  let v4018 : Index := Scalar.indexCast v4017
  let c2816_1648 : Index := 2816#32
  ![v4018.toNat, 2816]
def k0_mult58 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1651 : BitVec 32 := 1#32
  let v4023 : BitVec 32 := Scalar.andi v3387 c1_i32_1651
  let c256_i32_1652 : BitVec 32 := 256#32
  let v4024 : BitVec 32 := Scalar.muli v4023 c256_i32_1652
  v4024
def k0_mult59 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1650 : BitVec 32 := 1#32
  let v4022 : BitVec 32 := Scalar.shrui v3387 c1_i32_1650
  let c1_i32_1654 : BitVec 32 := 1#32
  let v4027 : BitVec 32 := Scalar.shrui v4022 c1_i32_1654
  let c128_i32_1655 : BitVec 32 := 128#32
  let v4028 : BitVec 32 := Scalar.muli v4027 c128_i32_1655
  v4028
def k0_off82 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1650 : BitVec 32 := 1#32
  let v4022 : BitVec 32 := Scalar.shrui v3387 c1_i32_1650
  let c2_i32_1653 : BitVec 32 := 2#32
  let v4026 : BitVec 32 := Scalar.shrui v4022 c2_i32_1653
  let c2_i32_1656 : BitVec 32 := 2#32
  let v4033 : BitVec 32 := Scalar.muli v4026 c2_i32_1656
  let c1_i32_1657 : BitVec 32 := 1#32
  let v4034 : BitVec 32 := Scalar.andi v4022 c1_i32_1657
  let v4035 : BitVec 32 := Scalar.addi v4033 v4034
  let v4036 : Index := Scalar.indexCast v4035
  let c3072_1658 : Index := 3072#32
  let c0_1659 : Index := 0#32
  ![v4036.toNat, 3072, 0]
def k0_off83 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1650 : BitVec 32 := 1#32
  let v4022 : BitVec 32 := Scalar.shrui v3387 c1_i32_1650
  let c2_i32_1653 : BitVec 32 := 2#32
  let v4026 : BitVec 32 := Scalar.shrui v4022 c2_i32_1653
  let v4040 : Index := Scalar.indexCast v4026
  let c3072_1661 : Index := 3072#32
  let c0_1662 : Index := 0#32
  ![v4040.toNat, 3072, 0]
def k0_off84 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1666 : BitVec 32 := 1#32
  let v4051 : BitVec 32 := Scalar.shrui v3386 c1_i32_1666
  let c2_i32_1667 : BitVec 32 := 2#32
  let v4052 : BitVec 32 := Scalar.shrui v4051 c2_i32_1667
  let c64_i32_1674 : BitVec 32 := 64#32
  let v4069 : BitVec 32 := Scalar.muli v4052 c64_i32_1674
  let v4070 : Index := Scalar.indexCast v4069
  let c3072_1675 : Index := 3072#32
  ![v4070.toNat, 3072]
def k0_mult60 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1678 : BitVec 32 := 1#32
  let v4075 : BitVec 32 := Scalar.andi v3387 c1_i32_1678
  let c256_i32_1679 : BitVec 32 := 256#32
  let v4076 : BitVec 32 := Scalar.muli v4075 c256_i32_1679
  v4076
def k0_mult61 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1677 : BitVec 32 := 1#32
  let v4074 : BitVec 32 := Scalar.shrui v3387 c1_i32_1677
  let c1_i32_1681 : BitVec 32 := 1#32
  let v4079 : BitVec 32 := Scalar.shrui v4074 c1_i32_1681
  let c128_i32_1682 : BitVec 32 := 128#32
  let v4080 : BitVec 32 := Scalar.muli v4079 c128_i32_1682
  v4080
def k0_off85 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1677 : BitVec 32 := 1#32
  let v4074 : BitVec 32 := Scalar.shrui v3387 c1_i32_1677
  let c2_i32_1680 : BitVec 32 := 2#32
  let v4078 : BitVec 32 := Scalar.shrui v4074 c2_i32_1680
  let c2_i32_1683 : BitVec 32 := 2#32
  let v4085 : BitVec 32 := Scalar.muli v4078 c2_i32_1683
  let c1_i32_1684 : BitVec 32 := 1#32
  let v4086 : BitVec 32 := Scalar.andi v4074 c1_i32_1684
  let v4087 : BitVec 32 := Scalar.addi v4085 v4086
  let v4088 : Index := Scalar.indexCast v4087
  let c3328_1685 : Index := 3328#32
  let c0_1686 : Index := 0#32
  ![v4088.toNat, 3328, 0]
def k0_off86 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1677 : BitVec 32 := 1#32
  let v4074 : BitVec 32 := Scalar.shrui v3387 c1_i32_1677
  let c2_i32_1680 : BitVec 32 := 2#32
  let v4078 : BitVec 32 := Scalar.shrui v4074 c2_i32_1680
  let v4092 : Index := Scalar.indexCast v4078
  let c3328_1688 : Index := 3328#32
  let c0_1689 : Index := 0#32
  ![v4092.toNat, 3328, 0]
def k0_off87 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1693 : BitVec 32 := 1#32
  let v4103 : BitVec 32 := Scalar.shrui v3386 c1_i32_1693
  let c2_i32_1694 : BitVec 32 := 2#32
  let v4104 : BitVec 32 := Scalar.shrui v4103 c2_i32_1694
  let c64_i32_1701 : BitVec 32 := 64#32
  let v4121 : BitVec 32 := Scalar.muli v4104 c64_i32_1701
  let v4122 : Index := Scalar.indexCast v4121
  let c3328_1702 : Index := 3328#32
  ![v4122.toNat, 3328]
def k0_mult62 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1705 : BitVec 32 := 1#32
  let v4127 : BitVec 32 := Scalar.andi v3387 c1_i32_1705
  let c256_i32_1706 : BitVec 32 := 256#32
  let v4128 : BitVec 32 := Scalar.muli v4127 c256_i32_1706
  v4128
def k0_mult63 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1704 : BitVec 32 := 1#32
  let v4126 : BitVec 32 := Scalar.shrui v3387 c1_i32_1704
  let c1_i32_1708 : BitVec 32 := 1#32
  let v4131 : BitVec 32 := Scalar.shrui v4126 c1_i32_1708
  let c128_i32_1709 : BitVec 32 := 128#32
  let v4132 : BitVec 32 := Scalar.muli v4131 c128_i32_1709
  v4132
def k0_off88 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1704 : BitVec 32 := 1#32
  let v4126 : BitVec 32 := Scalar.shrui v3387 c1_i32_1704
  let c2_i32_1707 : BitVec 32 := 2#32
  let v4130 : BitVec 32 := Scalar.shrui v4126 c2_i32_1707
  let c2_i32_1710 : BitVec 32 := 2#32
  let v4137 : BitVec 32 := Scalar.muli v4130 c2_i32_1710
  let c1_i32_1711 : BitVec 32 := 1#32
  let v4138 : BitVec 32 := Scalar.andi v4126 c1_i32_1711
  let v4139 : BitVec 32 := Scalar.addi v4137 v4138
  let v4140 : Index := Scalar.indexCast v4139
  let c3584_1712 : Index := 3584#32
  let c0_1713 : Index := 0#32
  ![v4140.toNat, 3584, 0]
def k0_off89 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1704 : BitVec 32 := 1#32
  let v4126 : BitVec 32 := Scalar.shrui v3387 c1_i32_1704
  let c2_i32_1707 : BitVec 32 := 2#32
  let v4130 : BitVec 32 := Scalar.shrui v4126 c2_i32_1707
  let v4144 : Index := Scalar.indexCast v4130
  let c3584_1715 : Index := 3584#32
  let c0_1716 : Index := 0#32
  ![v4144.toNat, 3584, 0]
def k0_off90 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1720 : BitVec 32 := 1#32
  let v4155 : BitVec 32 := Scalar.shrui v3386 c1_i32_1720
  let c2_i32_1721 : BitVec 32 := 2#32
  let v4156 : BitVec 32 := Scalar.shrui v4155 c2_i32_1721
  let c64_i32_1728 : BitVec 32 := 64#32
  let v4173 : BitVec 32 := Scalar.muli v4156 c64_i32_1728
  let v4174 : Index := Scalar.indexCast v4173
  let c3584_1729 : Index := 3584#32
  ![v4174.toNat, 3584]
def k0_mult64 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1732 : BitVec 32 := 1#32
  let v4179 : BitVec 32 := Scalar.andi v3387 c1_i32_1732
  let c256_i32_1733 : BitVec 32 := 256#32
  let v4180 : BitVec 32 := Scalar.muli v4179 c256_i32_1733
  v4180
def k0_mult65 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1731 : BitVec 32 := 1#32
  let v4178 : BitVec 32 := Scalar.shrui v3387 c1_i32_1731
  let c1_i32_1735 : BitVec 32 := 1#32
  let v4183 : BitVec 32 := Scalar.shrui v4178 c1_i32_1735
  let c128_i32_1736 : BitVec 32 := 128#32
  let v4184 : BitVec 32 := Scalar.muli v4183 c128_i32_1736
  v4184
def k0_off91 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1731 : BitVec 32 := 1#32
  let v4178 : BitVec 32 := Scalar.shrui v3387 c1_i32_1731
  let c2_i32_1734 : BitVec 32 := 2#32
  let v4182 : BitVec 32 := Scalar.shrui v4178 c2_i32_1734
  let c2_i32_1737 : BitVec 32 := 2#32
  let v4189 : BitVec 32 := Scalar.muli v4182 c2_i32_1737
  let c1_i32_1738 : BitVec 32 := 1#32
  let v4190 : BitVec 32 := Scalar.andi v4178 c1_i32_1738
  let v4191 : BitVec 32 := Scalar.addi v4189 v4190
  let v4192 : Index := Scalar.indexCast v4191
  let c3840_1739 : Index := 3840#32
  let c0_1740 : Index := 0#32
  ![v4192.toNat, 3840, 0]
def k0_off92 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1318 : BitVec 32 := 1#32
  let v3387 : BitVec 32 := Scalar.addi v3386 c1_i32_1318
  let c1_i32_1731 : BitVec 32 := 1#32
  let v4178 : BitVec 32 := Scalar.shrui v3387 c1_i32_1731
  let c2_i32_1734 : BitVec 32 := 2#32
  let v4182 : BitVec 32 := Scalar.shrui v4178 c2_i32_1734
  let v4196 : Index := Scalar.indexCast v4182
  let c3840_1742 : Index := 3840#32
  let c0_1743 : Index := 0#32
  ![v4196.toNat, 3840, 0]
def k0_off93 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1747 : BitVec 32 := 1#32
  let v4207 : BitVec 32 := Scalar.shrui v3386 c1_i32_1747
  let c2_i32_1748 : BitVec 32 := 2#32
  let v4208 : BitVec 32 := Scalar.shrui v4207 c2_i32_1748
  let c64_i32_1755 : BitVec 32 := 64#32
  let v4225 : BitVec 32 := Scalar.muli v4208 c64_i32_1755
  let v4226 : Index := Scalar.indexCast v4225
  let c3840_1756 : Index := 3840#32
  ![v4226.toNat, 3840]
def k0_mult66 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1762 : BitVec 32 := 1#32
  let v4236 : BitVec 32 := Scalar.andi v3386 c1_i32_1762
  let c256_i32_1763 : BitVec 32 := 256#32
  let v4237 : BitVec 32 := Scalar.muli v4236 c256_i32_1763
  v4237
def k0_off94 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1761 : BitVec 32 := 1#32
  let v4235 : BitVec 32 := Scalar.shrui v3386 c1_i32_1761
  let c2_i32_1764 : BitVec 32 := 2#32
  let v4239 : BitVec 32 := Scalar.shrui v4235 c2_i32_1764
  let c64_i32_1766 : BitVec 32 := 64#32
  let v4242 : BitVec 32 := Scalar.muli v4239 c64_i32_1766
  let v4243 : Index := Scalar.indexCast v4242
  let c0_1767 : Index := 0#32
  ![v4243.toNat, 0]
def k0_off95 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1761 : BitVec 32 := 1#32
  let v4235 : BitVec 32 := Scalar.shrui v3386 c1_i32_1761
  let c64_i32_1769 : BitVec 32 := 64#32
  let v4251 : BitVec 32 := Scalar.muli v4235 c64_i32_1769
  let v4252 : Index := Scalar.indexCast v4251
  let c1_i32_1762 : BitVec 32 := 1#32
  let v4236 : BitVec 32 := Scalar.andi v3386 c1_i32_1762
  let c256_i32_1763 : BitVec 32 := 256#32
  let v4237 : BitVec 32 := Scalar.muli v4236 c256_i32_1763
  let v4238 : BitVec 32 := v4237
  let v4253 : Index := Scalar.indexCast v4238
  ![v4252.toNat, v4253.toNat]
def k0_mult67 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1771 : BitVec 32 := 1#32
  let v4259 : BitVec 32 := Scalar.addi v3386 c1_i32_1771
  let c1_i32_1773 : BitVec 32 := 1#32
  let v4261 : BitVec 32 := Scalar.andi v4259 c1_i32_1773
  let c256_i32_1774 : BitVec 32 := 256#32
  let v4262 : BitVec 32 := Scalar.muli v4261 c256_i32_1774
  v4262
def k0_off96 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1771 : BitVec 32 := 1#32
  let v4259 : BitVec 32 := Scalar.addi v3386 c1_i32_1771
  let c1_i32_1772 : BitVec 32 := 1#32
  let v4260 : BitVec 32 := Scalar.shrui v4259 c1_i32_1772
  let v4264 : Index := Scalar.indexCast v4260
  let c1_i32_1773 : BitVec 32 := 1#32
  let v4261 : BitVec 32 := Scalar.andi v4259 c1_i32_1773
  let c256_i32_1774 : BitVec 32 := 256#32
  let v4262 : BitVec 32 := Scalar.muli v4261 c256_i32_1774
  let v4263 : BitVec 32 := v4262
  let v4265 : Index := Scalar.indexCast v4263
  ![v4264.toNat, v4265.toNat]
def k0_mult68 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1780 : BitVec 32 := 1#32
  let v4271 : BitVec 32 := Scalar.andi v4258 c1_i32_1780
  let c256_i32_1781 : BitVec 32 := 256#32
  let v4272 : BitVec 32 := Scalar.muli v4271 c256_i32_1781
  v4272
def k0_mult69 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1779 : BitVec 32 := 1#32
  let v4270 : BitVec 32 := Scalar.shrui v4258 c1_i32_1779
  let c1_i32_1783 : BitVec 32 := 1#32
  let v4275 : BitVec 32 := Scalar.shrui v4270 c1_i32_1783
  let c128_i32_1784 : BitVec 32 := 128#32
  let v4276 : BitVec 32 := Scalar.muli v4275 c128_i32_1784
  v4276
def k0_off97 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1780 : BitVec 32 := 1#32
  let v4271 : BitVec 32 := Scalar.andi v4258 c1_i32_1780
  let c256_i32_1781 : BitVec 32 := 256#32
  let v4272 : BitVec 32 := Scalar.muli v4271 c256_i32_1781
  let v4273 : BitVec 32 := v4272
  let v4278 : Index := Scalar.indexCast v4273
  let c1_i32_1779 : BitVec 32 := 1#32
  let v4270 : BitVec 32 := Scalar.shrui v4258 c1_i32_1779
  let c1_i32_1783 : BitVec 32 := 1#32
  let v4275 : BitVec 32 := Scalar.shrui v4270 c1_i32_1783
  let c128_i32_1784 : BitVec 32 := 128#32
  let v4276 : BitVec 32 := Scalar.muli v4275 c128_i32_1784
  let v4277 : BitVec 32 := v4276
  let v4279 : Index := Scalar.indexCast v4277
  ![v4278.toNat, v4279.toNat]
def k0_off98 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1779 : BitVec 32 := 1#32
  let v4270 : BitVec 32 := Scalar.shrui v4258 c1_i32_1779
  let c2_i32_1782 : BitVec 32 := 2#32
  let v4274 : BitVec 32 := Scalar.shrui v4270 c2_i32_1782
  let c2_i32_1785 : BitVec 32 := 2#32
  let v4281 : BitVec 32 := Scalar.muli v4274 c2_i32_1785
  let c1_i32_1786 : BitVec 32 := 1#32
  let v4282 : BitVec 32 := Scalar.andi v4270 c1_i32_1786
  let v4283 : BitVec 32 := Scalar.addi v4281 v4282
  let v4284 : Index := Scalar.indexCast v4283
  let c0_1787 : Index := 0#32
  let c0_1788 : Index := 0#32
  ![v4284.toNat, 0, 0]
def k0_off99 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1779 : BitVec 32 := 1#32
  let v4270 : BitVec 32 := Scalar.shrui v4258 c1_i32_1779
  let c2_i32_1782 : BitVec 32 := 2#32
  let v4274 : BitVec 32 := Scalar.shrui v4270 c2_i32_1782
  let v4288 : Index := Scalar.indexCast v4274
  let c0_1790 : Index := 0#32
  let c0_1791 : Index := 0#32
  ![v4288.toNat, 0, 0]
def k0_off100 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1771 : BitVec 32 := 1#32
  let v4259 : BitVec 32 := Scalar.addi v3386 c1_i32_1771
  let c1_i32_1795 : BitVec 32 := 1#32
  let v4299 : BitVec 32 := Scalar.shrui v4259 c1_i32_1795
  let c2_i32_1796 : BitVec 32 := 2#32
  let v4300 : BitVec 32 := Scalar.shrui v4299 c2_i32_1796
  let c64_i32_1803 : BitVec 32 := 64#32
  let v4317 : BitVec 32 := Scalar.muli v4300 c64_i32_1803
  let v4318 : Index := Scalar.indexCast v4317
  let c0_1804 : Index := 0#32
  ![v4318.toNat, 0]
def k0_mult70 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1807 : BitVec 32 := 1#32
  let v4323 : BitVec 32 := Scalar.andi v4258 c1_i32_1807
  let c256_i32_1808 : BitVec 32 := 256#32
  let v4324 : BitVec 32 := Scalar.muli v4323 c256_i32_1808
  v4324
def k0_mult71 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1806 : BitVec 32 := 1#32
  let v4322 : BitVec 32 := Scalar.shrui v4258 c1_i32_1806
  let c1_i32_1810 : BitVec 32 := 1#32
  let v4327 : BitVec 32 := Scalar.shrui v4322 c1_i32_1810
  let c128_i32_1811 : BitVec 32 := 128#32
  let v4328 : BitVec 32 := Scalar.muli v4327 c128_i32_1811
  v4328
def k0_off101 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1806 : BitVec 32 := 1#32
  let v4322 : BitVec 32 := Scalar.shrui v4258 c1_i32_1806
  let c2_i32_1809 : BitVec 32 := 2#32
  let v4326 : BitVec 32 := Scalar.shrui v4322 c2_i32_1809
  let c2_i32_1812 : BitVec 32 := 2#32
  let v4333 : BitVec 32 := Scalar.muli v4326 c2_i32_1812
  let c1_i32_1813 : BitVec 32 := 1#32
  let v4334 : BitVec 32 := Scalar.andi v4322 c1_i32_1813
  let v4335 : BitVec 32 := Scalar.addi v4333 v4334
  let v4336 : Index := Scalar.indexCast v4335
  let c256_1814 : Index := 256#32
  let c0_1815 : Index := 0#32
  ![v4336.toNat, 256, 0]
def k0_off102 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1806 : BitVec 32 := 1#32
  let v4322 : BitVec 32 := Scalar.shrui v4258 c1_i32_1806
  let c2_i32_1809 : BitVec 32 := 2#32
  let v4326 : BitVec 32 := Scalar.shrui v4322 c2_i32_1809
  let v4340 : Index := Scalar.indexCast v4326
  let c256_1817 : Index := 256#32
  let c0_1818 : Index := 0#32
  ![v4340.toNat, 256, 0]
def k0_off103 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1771 : BitVec 32 := 1#32
  let v4259 : BitVec 32 := Scalar.addi v3386 c1_i32_1771
  let c1_i32_1822 : BitVec 32 := 1#32
  let v4351 : BitVec 32 := Scalar.shrui v4259 c1_i32_1822
  let c2_i32_1823 : BitVec 32 := 2#32
  let v4352 : BitVec 32 := Scalar.shrui v4351 c2_i32_1823
  let c64_i32_1830 : BitVec 32 := 64#32
  let v4369 : BitVec 32 := Scalar.muli v4352 c64_i32_1830
  let v4370 : Index := Scalar.indexCast v4369
  let c256_1831 : Index := 256#32
  ![v4370.toNat, 256]
def k0_mult72 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1834 : BitVec 32 := 1#32
  let v4375 : BitVec 32 := Scalar.andi v4258 c1_i32_1834
  let c256_i32_1835 : BitVec 32 := 256#32
  let v4376 : BitVec 32 := Scalar.muli v4375 c256_i32_1835
  v4376
def k0_mult73 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1833 : BitVec 32 := 1#32
  let v4374 : BitVec 32 := Scalar.shrui v4258 c1_i32_1833
  let c1_i32_1837 : BitVec 32 := 1#32
  let v4379 : BitVec 32 := Scalar.shrui v4374 c1_i32_1837
  let c128_i32_1838 : BitVec 32 := 128#32
  let v4380 : BitVec 32 := Scalar.muli v4379 c128_i32_1838
  v4380
def k0_off104 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1833 : BitVec 32 := 1#32
  let v4374 : BitVec 32 := Scalar.shrui v4258 c1_i32_1833
  let c2_i32_1836 : BitVec 32 := 2#32
  let v4378 : BitVec 32 := Scalar.shrui v4374 c2_i32_1836
  let c2_i32_1839 : BitVec 32 := 2#32
  let v4385 : BitVec 32 := Scalar.muli v4378 c2_i32_1839
  let c1_i32_1840 : BitVec 32 := 1#32
  let v4386 : BitVec 32 := Scalar.andi v4374 c1_i32_1840
  let v4387 : BitVec 32 := Scalar.addi v4385 v4386
  let v4388 : Index := Scalar.indexCast v4387
  let c512_1841 : Index := 512#32
  let c0_1842 : Index := 0#32
  ![v4388.toNat, 512, 0]
def k0_off105 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1833 : BitVec 32 := 1#32
  let v4374 : BitVec 32 := Scalar.shrui v4258 c1_i32_1833
  let c2_i32_1836 : BitVec 32 := 2#32
  let v4378 : BitVec 32 := Scalar.shrui v4374 c2_i32_1836
  let v4392 : Index := Scalar.indexCast v4378
  let c512_1844 : Index := 512#32
  let c0_1845 : Index := 0#32
  ![v4392.toNat, 512, 0]
def k0_off106 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1771 : BitVec 32 := 1#32
  let v4259 : BitVec 32 := Scalar.addi v3386 c1_i32_1771
  let c1_i32_1849 : BitVec 32 := 1#32
  let v4403 : BitVec 32 := Scalar.shrui v4259 c1_i32_1849
  let c2_i32_1850 : BitVec 32 := 2#32
  let v4404 : BitVec 32 := Scalar.shrui v4403 c2_i32_1850
  let c64_i32_1857 : BitVec 32 := 64#32
  let v4421 : BitVec 32 := Scalar.muli v4404 c64_i32_1857
  let v4422 : Index := Scalar.indexCast v4421
  let c512_1858 : Index := 512#32
  ![v4422.toNat, 512]
def k0_mult74 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1861 : BitVec 32 := 1#32
  let v4427 : BitVec 32 := Scalar.andi v4258 c1_i32_1861
  let c256_i32_1862 : BitVec 32 := 256#32
  let v4428 : BitVec 32 := Scalar.muli v4427 c256_i32_1862
  v4428
def k0_mult75 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1860 : BitVec 32 := 1#32
  let v4426 : BitVec 32 := Scalar.shrui v4258 c1_i32_1860
  let c1_i32_1864 : BitVec 32 := 1#32
  let v4431 : BitVec 32 := Scalar.shrui v4426 c1_i32_1864
  let c128_i32_1865 : BitVec 32 := 128#32
  let v4432 : BitVec 32 := Scalar.muli v4431 c128_i32_1865
  v4432
def k0_off107 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1860 : BitVec 32 := 1#32
  let v4426 : BitVec 32 := Scalar.shrui v4258 c1_i32_1860
  let c2_i32_1863 : BitVec 32 := 2#32
  let v4430 : BitVec 32 := Scalar.shrui v4426 c2_i32_1863
  let c2_i32_1866 : BitVec 32 := 2#32
  let v4437 : BitVec 32 := Scalar.muli v4430 c2_i32_1866
  let c1_i32_1867 : BitVec 32 := 1#32
  let v4438 : BitVec 32 := Scalar.andi v4426 c1_i32_1867
  let v4439 : BitVec 32 := Scalar.addi v4437 v4438
  let v4440 : Index := Scalar.indexCast v4439
  let c768_1868 : Index := 768#32
  let c0_1869 : Index := 0#32
  ![v4440.toNat, 768, 0]
def k0_off108 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1860 : BitVec 32 := 1#32
  let v4426 : BitVec 32 := Scalar.shrui v4258 c1_i32_1860
  let c2_i32_1863 : BitVec 32 := 2#32
  let v4430 : BitVec 32 := Scalar.shrui v4426 c2_i32_1863
  let v4444 : Index := Scalar.indexCast v4430
  let c768_1871 : Index := 768#32
  let c0_1872 : Index := 0#32
  ![v4444.toNat, 768, 0]
def k0_off109 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1771 : BitVec 32 := 1#32
  let v4259 : BitVec 32 := Scalar.addi v3386 c1_i32_1771
  let c1_i32_1876 : BitVec 32 := 1#32
  let v4455 : BitVec 32 := Scalar.shrui v4259 c1_i32_1876
  let c2_i32_1877 : BitVec 32 := 2#32
  let v4456 : BitVec 32 := Scalar.shrui v4455 c2_i32_1877
  let c64_i32_1884 : BitVec 32 := 64#32
  let v4473 : BitVec 32 := Scalar.muli v4456 c64_i32_1884
  let v4474 : Index := Scalar.indexCast v4473
  let c768_1885 : Index := 768#32
  ![v4474.toNat, 768]
def k0_mult76 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1888 : BitVec 32 := 1#32
  let v4479 : BitVec 32 := Scalar.andi v4258 c1_i32_1888
  let c256_i32_1889 : BitVec 32 := 256#32
  let v4480 : BitVec 32 := Scalar.muli v4479 c256_i32_1889
  v4480
def k0_mult77 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1887 : BitVec 32 := 1#32
  let v4478 : BitVec 32 := Scalar.shrui v4258 c1_i32_1887
  let c1_i32_1891 : BitVec 32 := 1#32
  let v4483 : BitVec 32 := Scalar.shrui v4478 c1_i32_1891
  let c128_i32_1892 : BitVec 32 := 128#32
  let v4484 : BitVec 32 := Scalar.muli v4483 c128_i32_1892
  v4484
def k0_off110 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1887 : BitVec 32 := 1#32
  let v4478 : BitVec 32 := Scalar.shrui v4258 c1_i32_1887
  let c2_i32_1890 : BitVec 32 := 2#32
  let v4482 : BitVec 32 := Scalar.shrui v4478 c2_i32_1890
  let c2_i32_1893 : BitVec 32 := 2#32
  let v4489 : BitVec 32 := Scalar.muli v4482 c2_i32_1893
  let c1_i32_1894 : BitVec 32 := 1#32
  let v4490 : BitVec 32 := Scalar.andi v4478 c1_i32_1894
  let v4491 : BitVec 32 := Scalar.addi v4489 v4490
  let v4492 : Index := Scalar.indexCast v4491
  let c1024_1895 : Index := 1024#32
  let c0_1896 : Index := 0#32
  ![v4492.toNat, 1024, 0]
def k0_off111 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1887 : BitVec 32 := 1#32
  let v4478 : BitVec 32 := Scalar.shrui v4258 c1_i32_1887
  let c2_i32_1890 : BitVec 32 := 2#32
  let v4482 : BitVec 32 := Scalar.shrui v4478 c2_i32_1890
  let v4496 : Index := Scalar.indexCast v4482
  let c1024_1898 : Index := 1024#32
  let c0_1899 : Index := 0#32
  ![v4496.toNat, 1024, 0]
def k0_off112 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1771 : BitVec 32 := 1#32
  let v4259 : BitVec 32 := Scalar.addi v3386 c1_i32_1771
  let c1_i32_1903 : BitVec 32 := 1#32
  let v4507 : BitVec 32 := Scalar.shrui v4259 c1_i32_1903
  let c2_i32_1904 : BitVec 32 := 2#32
  let v4508 : BitVec 32 := Scalar.shrui v4507 c2_i32_1904
  let c64_i32_1911 : BitVec 32 := 64#32
  let v4525 : BitVec 32 := Scalar.muli v4508 c64_i32_1911
  let v4526 : Index := Scalar.indexCast v4525
  let c1024_1912 : Index := 1024#32
  ![v4526.toNat, 1024]
def k0_mult78 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1915 : BitVec 32 := 1#32
  let v4531 : BitVec 32 := Scalar.andi v4258 c1_i32_1915
  let c256_i32_1916 : BitVec 32 := 256#32
  let v4532 : BitVec 32 := Scalar.muli v4531 c256_i32_1916
  v4532
def k0_mult79 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1914 : BitVec 32 := 1#32
  let v4530 : BitVec 32 := Scalar.shrui v4258 c1_i32_1914
  let c1_i32_1918 : BitVec 32 := 1#32
  let v4535 : BitVec 32 := Scalar.shrui v4530 c1_i32_1918
  let c128_i32_1919 : BitVec 32 := 128#32
  let v4536 : BitVec 32 := Scalar.muli v4535 c128_i32_1919
  v4536
def k0_off113 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1914 : BitVec 32 := 1#32
  let v4530 : BitVec 32 := Scalar.shrui v4258 c1_i32_1914
  let c2_i32_1917 : BitVec 32 := 2#32
  let v4534 : BitVec 32 := Scalar.shrui v4530 c2_i32_1917
  let c2_i32_1920 : BitVec 32 := 2#32
  let v4541 : BitVec 32 := Scalar.muli v4534 c2_i32_1920
  let c1_i32_1921 : BitVec 32 := 1#32
  let v4542 : BitVec 32 := Scalar.andi v4530 c1_i32_1921
  let v4543 : BitVec 32 := Scalar.addi v4541 v4542
  let v4544 : Index := Scalar.indexCast v4543
  let c1280_1922 : Index := 1280#32
  let c0_1923 : Index := 0#32
  ![v4544.toNat, 1280, 0]
def k0_off114 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1914 : BitVec 32 := 1#32
  let v4530 : BitVec 32 := Scalar.shrui v4258 c1_i32_1914
  let c2_i32_1917 : BitVec 32 := 2#32
  let v4534 : BitVec 32 := Scalar.shrui v4530 c2_i32_1917
  let v4548 : Index := Scalar.indexCast v4534
  let c1280_1925 : Index := 1280#32
  let c0_1926 : Index := 0#32
  ![v4548.toNat, 1280, 0]
def k0_off115 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1771 : BitVec 32 := 1#32
  let v4259 : BitVec 32 := Scalar.addi v3386 c1_i32_1771
  let c1_i32_1930 : BitVec 32 := 1#32
  let v4559 : BitVec 32 := Scalar.shrui v4259 c1_i32_1930
  let c2_i32_1931 : BitVec 32 := 2#32
  let v4560 : BitVec 32 := Scalar.shrui v4559 c2_i32_1931
  let c64_i32_1938 : BitVec 32 := 64#32
  let v4577 : BitVec 32 := Scalar.muli v4560 c64_i32_1938
  let v4578 : Index := Scalar.indexCast v4577
  let c1280_1939 : Index := 1280#32
  ![v4578.toNat, 1280]
def k0_mult80 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1942 : BitVec 32 := 1#32
  let v4583 : BitVec 32 := Scalar.andi v4258 c1_i32_1942
  let c256_i32_1943 : BitVec 32 := 256#32
  let v4584 : BitVec 32 := Scalar.muli v4583 c256_i32_1943
  v4584
def k0_mult81 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1941 : BitVec 32 := 1#32
  let v4582 : BitVec 32 := Scalar.shrui v4258 c1_i32_1941
  let c1_i32_1945 : BitVec 32 := 1#32
  let v4587 : BitVec 32 := Scalar.shrui v4582 c1_i32_1945
  let c128_i32_1946 : BitVec 32 := 128#32
  let v4588 : BitVec 32 := Scalar.muli v4587 c128_i32_1946
  v4588
def k0_off116 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1941 : BitVec 32 := 1#32
  let v4582 : BitVec 32 := Scalar.shrui v4258 c1_i32_1941
  let c2_i32_1944 : BitVec 32 := 2#32
  let v4586 : BitVec 32 := Scalar.shrui v4582 c2_i32_1944
  let c2_i32_1947 : BitVec 32 := 2#32
  let v4593 : BitVec 32 := Scalar.muli v4586 c2_i32_1947
  let c1_i32_1948 : BitVec 32 := 1#32
  let v4594 : BitVec 32 := Scalar.andi v4582 c1_i32_1948
  let v4595 : BitVec 32 := Scalar.addi v4593 v4594
  let v4596 : Index := Scalar.indexCast v4595
  let c1536_1949 : Index := 1536#32
  let c0_1950 : Index := 0#32
  ![v4596.toNat, 1536, 0]
def k0_off117 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1941 : BitVec 32 := 1#32
  let v4582 : BitVec 32 := Scalar.shrui v4258 c1_i32_1941
  let c2_i32_1944 : BitVec 32 := 2#32
  let v4586 : BitVec 32 := Scalar.shrui v4582 c2_i32_1944
  let v4600 : Index := Scalar.indexCast v4586
  let c1536_1952 : Index := 1536#32
  let c0_1953 : Index := 0#32
  ![v4600.toNat, 1536, 0]
def k0_off118 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1771 : BitVec 32 := 1#32
  let v4259 : BitVec 32 := Scalar.addi v3386 c1_i32_1771
  let c1_i32_1957 : BitVec 32 := 1#32
  let v4611 : BitVec 32 := Scalar.shrui v4259 c1_i32_1957
  let c2_i32_1958 : BitVec 32 := 2#32
  let v4612 : BitVec 32 := Scalar.shrui v4611 c2_i32_1958
  let c64_i32_1965 : BitVec 32 := 64#32
  let v4629 : BitVec 32 := Scalar.muli v4612 c64_i32_1965
  let v4630 : Index := Scalar.indexCast v4629
  let c1536_1966 : Index := 1536#32
  ![v4630.toNat, 1536]
def k0_mult82 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1969 : BitVec 32 := 1#32
  let v4635 : BitVec 32 := Scalar.andi v4258 c1_i32_1969
  let c256_i32_1970 : BitVec 32 := 256#32
  let v4636 : BitVec 32 := Scalar.muli v4635 c256_i32_1970
  v4636
def k0_mult83 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1968 : BitVec 32 := 1#32
  let v4634 : BitVec 32 := Scalar.shrui v4258 c1_i32_1968
  let c1_i32_1972 : BitVec 32 := 1#32
  let v4639 : BitVec 32 := Scalar.shrui v4634 c1_i32_1972
  let c128_i32_1973 : BitVec 32 := 128#32
  let v4640 : BitVec 32 := Scalar.muli v4639 c128_i32_1973
  v4640
def k0_off119 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1968 : BitVec 32 := 1#32
  let v4634 : BitVec 32 := Scalar.shrui v4258 c1_i32_1968
  let c2_i32_1971 : BitVec 32 := 2#32
  let v4638 : BitVec 32 := Scalar.shrui v4634 c2_i32_1971
  let c2_i32_1974 : BitVec 32 := 2#32
  let v4645 : BitVec 32 := Scalar.muli v4638 c2_i32_1974
  let c1_i32_1975 : BitVec 32 := 1#32
  let v4646 : BitVec 32 := Scalar.andi v4634 c1_i32_1975
  let v4647 : BitVec 32 := Scalar.addi v4645 v4646
  let v4648 : Index := Scalar.indexCast v4647
  let c1792_1976 : Index := 1792#32
  let c0_1977 : Index := 0#32
  ![v4648.toNat, 1792, 0]
def k0_off120 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1968 : BitVec 32 := 1#32
  let v4634 : BitVec 32 := Scalar.shrui v4258 c1_i32_1968
  let c2_i32_1971 : BitVec 32 := 2#32
  let v4638 : BitVec 32 := Scalar.shrui v4634 c2_i32_1971
  let v4652 : Index := Scalar.indexCast v4638
  let c1792_1979 : Index := 1792#32
  let c0_1980 : Index := 0#32
  ![v4652.toNat, 1792, 0]
def k0_off121 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1771 : BitVec 32 := 1#32
  let v4259 : BitVec 32 := Scalar.addi v3386 c1_i32_1771
  let c1_i32_1984 : BitVec 32 := 1#32
  let v4663 : BitVec 32 := Scalar.shrui v4259 c1_i32_1984
  let c2_i32_1985 : BitVec 32 := 2#32
  let v4664 : BitVec 32 := Scalar.shrui v4663 c2_i32_1985
  let c64_i32_1992 : BitVec 32 := 64#32
  let v4681 : BitVec 32 := Scalar.muli v4664 c64_i32_1992
  let v4682 : Index := Scalar.indexCast v4681
  let c1792_1993 : Index := 1792#32
  ![v4682.toNat, 1792]
def k0_mult84 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1996 : BitVec 32 := 1#32
  let v4687 : BitVec 32 := Scalar.andi v4258 c1_i32_1996
  let c256_i32_1997 : BitVec 32 := 256#32
  let v4688 : BitVec 32 := Scalar.muli v4687 c256_i32_1997
  v4688
def k0_mult85 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1995 : BitVec 32 := 1#32
  let v4686 : BitVec 32 := Scalar.shrui v4258 c1_i32_1995
  let c1_i32_1999 : BitVec 32 := 1#32
  let v4691 : BitVec 32 := Scalar.shrui v4686 c1_i32_1999
  let c128_i32_2000 : BitVec 32 := 128#32
  let v4692 : BitVec 32 := Scalar.muli v4691 c128_i32_2000
  v4692
def k0_off122 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1995 : BitVec 32 := 1#32
  let v4686 : BitVec 32 := Scalar.shrui v4258 c1_i32_1995
  let c2_i32_1998 : BitVec 32 := 2#32
  let v4690 : BitVec 32 := Scalar.shrui v4686 c2_i32_1998
  let c2_i32_2001 : BitVec 32 := 2#32
  let v4697 : BitVec 32 := Scalar.muli v4690 c2_i32_2001
  let c1_i32_2002 : BitVec 32 := 1#32
  let v4698 : BitVec 32 := Scalar.andi v4686 c1_i32_2002
  let v4699 : BitVec 32 := Scalar.addi v4697 v4698
  let v4700 : Index := Scalar.indexCast v4699
  let c2048_2003 : Index := 2048#32
  let c0_2004 : Index := 0#32
  ![v4700.toNat, 2048, 0]
def k0_off123 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_1995 : BitVec 32 := 1#32
  let v4686 : BitVec 32 := Scalar.shrui v4258 c1_i32_1995
  let c2_i32_1998 : BitVec 32 := 2#32
  let v4690 : BitVec 32 := Scalar.shrui v4686 c2_i32_1998
  let v4704 : Index := Scalar.indexCast v4690
  let c2048_2006 : Index := 2048#32
  let c0_2007 : Index := 0#32
  ![v4704.toNat, 2048, 0]
def k0_off124 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1771 : BitVec 32 := 1#32
  let v4259 : BitVec 32 := Scalar.addi v3386 c1_i32_1771
  let c1_i32_2011 : BitVec 32 := 1#32
  let v4715 : BitVec 32 := Scalar.shrui v4259 c1_i32_2011
  let c2_i32_2012 : BitVec 32 := 2#32
  let v4716 : BitVec 32 := Scalar.shrui v4715 c2_i32_2012
  let c64_i32_2019 : BitVec 32 := 64#32
  let v4733 : BitVec 32 := Scalar.muli v4716 c64_i32_2019
  let v4734 : Index := Scalar.indexCast v4733
  let c2048_2020 : Index := 2048#32
  ![v4734.toNat, 2048]
def k0_mult86 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_2023 : BitVec 32 := 1#32
  let v4739 : BitVec 32 := Scalar.andi v4258 c1_i32_2023
  let c256_i32_2024 : BitVec 32 := 256#32
  let v4740 : BitVec 32 := Scalar.muli v4739 c256_i32_2024
  v4740
def k0_mult87 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_2022 : BitVec 32 := 1#32
  let v4738 : BitVec 32 := Scalar.shrui v4258 c1_i32_2022
  let c1_i32_2026 : BitVec 32 := 1#32
  let v4743 : BitVec 32 := Scalar.shrui v4738 c1_i32_2026
  let c128_i32_2027 : BitVec 32 := 128#32
  let v4744 : BitVec 32 := Scalar.muli v4743 c128_i32_2027
  v4744
def k0_off125 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_2022 : BitVec 32 := 1#32
  let v4738 : BitVec 32 := Scalar.shrui v4258 c1_i32_2022
  let c2_i32_2025 : BitVec 32 := 2#32
  let v4742 : BitVec 32 := Scalar.shrui v4738 c2_i32_2025
  let c2_i32_2028 : BitVec 32 := 2#32
  let v4749 : BitVec 32 := Scalar.muli v4742 c2_i32_2028
  let c1_i32_2029 : BitVec 32 := 1#32
  let v4750 : BitVec 32 := Scalar.andi v4738 c1_i32_2029
  let v4751 : BitVec 32 := Scalar.addi v4749 v4750
  let v4752 : Index := Scalar.indexCast v4751
  let c2304_2030 : Index := 2304#32
  let c0_2031 : Index := 0#32
  ![v4752.toNat, 2304, 0]
def k0_off126 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_2022 : BitVec 32 := 1#32
  let v4738 : BitVec 32 := Scalar.shrui v4258 c1_i32_2022
  let c2_i32_2025 : BitVec 32 := 2#32
  let v4742 : BitVec 32 := Scalar.shrui v4738 c2_i32_2025
  let v4756 : Index := Scalar.indexCast v4742
  let c2304_2033 : Index := 2304#32
  let c0_2034 : Index := 0#32
  ![v4756.toNat, 2304, 0]
def k0_off127 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1771 : BitVec 32 := 1#32
  let v4259 : BitVec 32 := Scalar.addi v3386 c1_i32_1771
  let c1_i32_2038 : BitVec 32 := 1#32
  let v4767 : BitVec 32 := Scalar.shrui v4259 c1_i32_2038
  let c2_i32_2039 : BitVec 32 := 2#32
  let v4768 : BitVec 32 := Scalar.shrui v4767 c2_i32_2039
  let c64_i32_2046 : BitVec 32 := 64#32
  let v4785 : BitVec 32 := Scalar.muli v4768 c64_i32_2046
  let v4786 : Index := Scalar.indexCast v4785
  let c2304_2047 : Index := 2304#32
  ![v4786.toNat, 2304]
def k0_mult88 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_2050 : BitVec 32 := 1#32
  let v4791 : BitVec 32 := Scalar.andi v4258 c1_i32_2050
  let c256_i32_2051 : BitVec 32 := 256#32
  let v4792 : BitVec 32 := Scalar.muli v4791 c256_i32_2051
  v4792
def k0_mult89 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_2049 : BitVec 32 := 1#32
  let v4790 : BitVec 32 := Scalar.shrui v4258 c1_i32_2049
  let c1_i32_2053 : BitVec 32 := 1#32
  let v4795 : BitVec 32 := Scalar.shrui v4790 c1_i32_2053
  let c128_i32_2054 : BitVec 32 := 128#32
  let v4796 : BitVec 32 := Scalar.muli v4795 c128_i32_2054
  v4796
def k0_off128 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_2049 : BitVec 32 := 1#32
  let v4790 : BitVec 32 := Scalar.shrui v4258 c1_i32_2049
  let c2_i32_2052 : BitVec 32 := 2#32
  let v4794 : BitVec 32 := Scalar.shrui v4790 c2_i32_2052
  let c2_i32_2055 : BitVec 32 := 2#32
  let v4801 : BitVec 32 := Scalar.muli v4794 c2_i32_2055
  let c1_i32_2056 : BitVec 32 := 1#32
  let v4802 : BitVec 32 := Scalar.andi v4790 c1_i32_2056
  let v4803 : BitVec 32 := Scalar.addi v4801 v4802
  let v4804 : Index := Scalar.indexCast v4803
  let c2560_2057 : Index := 2560#32
  let c0_2058 : Index := 0#32
  ![v4804.toNat, 2560, 0]
def k0_off129 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_2049 : BitVec 32 := 1#32
  let v4790 : BitVec 32 := Scalar.shrui v4258 c1_i32_2049
  let c2_i32_2052 : BitVec 32 := 2#32
  let v4794 : BitVec 32 := Scalar.shrui v4790 c2_i32_2052
  let v4808 : Index := Scalar.indexCast v4794
  let c2560_2060 : Index := 2560#32
  let c0_2061 : Index := 0#32
  ![v4808.toNat, 2560, 0]
def k0_off130 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1771 : BitVec 32 := 1#32
  let v4259 : BitVec 32 := Scalar.addi v3386 c1_i32_1771
  let c1_i32_2065 : BitVec 32 := 1#32
  let v4819 : BitVec 32 := Scalar.shrui v4259 c1_i32_2065
  let c2_i32_2066 : BitVec 32 := 2#32
  let v4820 : BitVec 32 := Scalar.shrui v4819 c2_i32_2066
  let c64_i32_2073 : BitVec 32 := 64#32
  let v4837 : BitVec 32 := Scalar.muli v4820 c64_i32_2073
  let v4838 : Index := Scalar.indexCast v4837
  let c2560_2074 : Index := 2560#32
  ![v4838.toNat, 2560]
def k0_mult90 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_2077 : BitVec 32 := 1#32
  let v4843 : BitVec 32 := Scalar.andi v4258 c1_i32_2077
  let c256_i32_2078 : BitVec 32 := 256#32
  let v4844 : BitVec 32 := Scalar.muli v4843 c256_i32_2078
  v4844
def k0_mult91 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_2076 : BitVec 32 := 1#32
  let v4842 : BitVec 32 := Scalar.shrui v4258 c1_i32_2076
  let c1_i32_2080 : BitVec 32 := 1#32
  let v4847 : BitVec 32 := Scalar.shrui v4842 c1_i32_2080
  let c128_i32_2081 : BitVec 32 := 128#32
  let v4848 : BitVec 32 := Scalar.muli v4847 c128_i32_2081
  v4848
def k0_off131 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_2076 : BitVec 32 := 1#32
  let v4842 : BitVec 32 := Scalar.shrui v4258 c1_i32_2076
  let c2_i32_2079 : BitVec 32 := 2#32
  let v4846 : BitVec 32 := Scalar.shrui v4842 c2_i32_2079
  let c2_i32_2082 : BitVec 32 := 2#32
  let v4853 : BitVec 32 := Scalar.muli v4846 c2_i32_2082
  let c1_i32_2083 : BitVec 32 := 1#32
  let v4854 : BitVec 32 := Scalar.andi v4842 c1_i32_2083
  let v4855 : BitVec 32 := Scalar.addi v4853 v4854
  let v4856 : Index := Scalar.indexCast v4855
  let c2816_2084 : Index := 2816#32
  let c0_2085 : Index := 0#32
  ![v4856.toNat, 2816, 0]
def k0_off132 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_2076 : BitVec 32 := 1#32
  let v4842 : BitVec 32 := Scalar.shrui v4258 c1_i32_2076
  let c2_i32_2079 : BitVec 32 := 2#32
  let v4846 : BitVec 32 := Scalar.shrui v4842 c2_i32_2079
  let v4860 : Index := Scalar.indexCast v4846
  let c2816_2087 : Index := 2816#32
  let c0_2088 : Index := 0#32
  ![v4860.toNat, 2816, 0]
def k0_off133 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1771 : BitVec 32 := 1#32
  let v4259 : BitVec 32 := Scalar.addi v3386 c1_i32_1771
  let c1_i32_2092 : BitVec 32 := 1#32
  let v4871 : BitVec 32 := Scalar.shrui v4259 c1_i32_2092
  let c2_i32_2093 : BitVec 32 := 2#32
  let v4872 : BitVec 32 := Scalar.shrui v4871 c2_i32_2093
  let c64_i32_2100 : BitVec 32 := 64#32
  let v4889 : BitVec 32 := Scalar.muli v4872 c64_i32_2100
  let v4890 : Index := Scalar.indexCast v4889
  let c2816_2101 : Index := 2816#32
  ![v4890.toNat, 2816]
def k0_mult92 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_2104 : BitVec 32 := 1#32
  let v4895 : BitVec 32 := Scalar.andi v4258 c1_i32_2104
  let c256_i32_2105 : BitVec 32 := 256#32
  let v4896 : BitVec 32 := Scalar.muli v4895 c256_i32_2105
  v4896
def k0_mult93 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_2103 : BitVec 32 := 1#32
  let v4894 : BitVec 32 := Scalar.shrui v4258 c1_i32_2103
  let c1_i32_2107 : BitVec 32 := 1#32
  let v4899 : BitVec 32 := Scalar.shrui v4894 c1_i32_2107
  let c128_i32_2108 : BitVec 32 := 128#32
  let v4900 : BitVec 32 := Scalar.muli v4899 c128_i32_2108
  v4900
def k0_off134 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_2103 : BitVec 32 := 1#32
  let v4894 : BitVec 32 := Scalar.shrui v4258 c1_i32_2103
  let c2_i32_2106 : BitVec 32 := 2#32
  let v4898 : BitVec 32 := Scalar.shrui v4894 c2_i32_2106
  let c2_i32_2109 : BitVec 32 := 2#32
  let v4905 : BitVec 32 := Scalar.muli v4898 c2_i32_2109
  let c1_i32_2110 : BitVec 32 := 1#32
  let v4906 : BitVec 32 := Scalar.andi v4894 c1_i32_2110
  let v4907 : BitVec 32 := Scalar.addi v4905 v4906
  let v4908 : Index := Scalar.indexCast v4907
  let c3072_2111 : Index := 3072#32
  let c0_2112 : Index := 0#32
  ![v4908.toNat, 3072, 0]
def k0_off135 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_2103 : BitVec 32 := 1#32
  let v4894 : BitVec 32 := Scalar.shrui v4258 c1_i32_2103
  let c2_i32_2106 : BitVec 32 := 2#32
  let v4898 : BitVec 32 := Scalar.shrui v4894 c2_i32_2106
  let v4912 : Index := Scalar.indexCast v4898
  let c3072_2114 : Index := 3072#32
  let c0_2115 : Index := 0#32
  ![v4912.toNat, 3072, 0]
def k0_off136 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1771 : BitVec 32 := 1#32
  let v4259 : BitVec 32 := Scalar.addi v3386 c1_i32_1771
  let c1_i32_2119 : BitVec 32 := 1#32
  let v4923 : BitVec 32 := Scalar.shrui v4259 c1_i32_2119
  let c2_i32_2120 : BitVec 32 := 2#32
  let v4924 : BitVec 32 := Scalar.shrui v4923 c2_i32_2120
  let c64_i32_2127 : BitVec 32 := 64#32
  let v4941 : BitVec 32 := Scalar.muli v4924 c64_i32_2127
  let v4942 : Index := Scalar.indexCast v4941
  let c3072_2128 : Index := 3072#32
  ![v4942.toNat, 3072]
def k0_mult94 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_2131 : BitVec 32 := 1#32
  let v4947 : BitVec 32 := Scalar.andi v4258 c1_i32_2131
  let c256_i32_2132 : BitVec 32 := 256#32
  let v4948 : BitVec 32 := Scalar.muli v4947 c256_i32_2132
  v4948
def k0_mult95 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_2130 : BitVec 32 := 1#32
  let v4946 : BitVec 32 := Scalar.shrui v4258 c1_i32_2130
  let c1_i32_2134 : BitVec 32 := 1#32
  let v4951 : BitVec 32 := Scalar.shrui v4946 c1_i32_2134
  let c128_i32_2135 : BitVec 32 := 128#32
  let v4952 : BitVec 32 := Scalar.muli v4951 c128_i32_2135
  v4952
def k0_off137 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_2130 : BitVec 32 := 1#32
  let v4946 : BitVec 32 := Scalar.shrui v4258 c1_i32_2130
  let c2_i32_2133 : BitVec 32 := 2#32
  let v4950 : BitVec 32 := Scalar.shrui v4946 c2_i32_2133
  let c2_i32_2136 : BitVec 32 := 2#32
  let v4957 : BitVec 32 := Scalar.muli v4950 c2_i32_2136
  let c1_i32_2137 : BitVec 32 := 1#32
  let v4958 : BitVec 32 := Scalar.andi v4946 c1_i32_2137
  let v4959 : BitVec 32 := Scalar.addi v4957 v4958
  let v4960 : Index := Scalar.indexCast v4959
  let c3328_2138 : Index := 3328#32
  let c0_2139 : Index := 0#32
  ![v4960.toNat, 3328, 0]
def k0_off138 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_2130 : BitVec 32 := 1#32
  let v4946 : BitVec 32 := Scalar.shrui v4258 c1_i32_2130
  let c2_i32_2133 : BitVec 32 := 2#32
  let v4950 : BitVec 32 := Scalar.shrui v4946 c2_i32_2133
  let v4964 : Index := Scalar.indexCast v4950
  let c3328_2141 : Index := 3328#32
  let c0_2142 : Index := 0#32
  ![v4964.toNat, 3328, 0]
def k0_off139 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1771 : BitVec 32 := 1#32
  let v4259 : BitVec 32 := Scalar.addi v3386 c1_i32_1771
  let c1_i32_2146 : BitVec 32 := 1#32
  let v4975 : BitVec 32 := Scalar.shrui v4259 c1_i32_2146
  let c2_i32_2147 : BitVec 32 := 2#32
  let v4976 : BitVec 32 := Scalar.shrui v4975 c2_i32_2147
  let c64_i32_2154 : BitVec 32 := 64#32
  let v4993 : BitVec 32 := Scalar.muli v4976 c64_i32_2154
  let v4994 : Index := Scalar.indexCast v4993
  let c3328_2155 : Index := 3328#32
  ![v4994.toNat, 3328]
def k0_mult96 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_2158 : BitVec 32 := 1#32
  let v4999 : BitVec 32 := Scalar.andi v4258 c1_i32_2158
  let c256_i32_2159 : BitVec 32 := 256#32
  let v5000 : BitVec 32 := Scalar.muli v4999 c256_i32_2159
  v5000
def k0_mult97 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_2157 : BitVec 32 := 1#32
  let v4998 : BitVec 32 := Scalar.shrui v4258 c1_i32_2157
  let c1_i32_2161 : BitVec 32 := 1#32
  let v5003 : BitVec 32 := Scalar.shrui v4998 c1_i32_2161
  let c128_i32_2162 : BitVec 32 := 128#32
  let v5004 : BitVec 32 := Scalar.muli v5003 c128_i32_2162
  v5004
def k0_off140 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_2157 : BitVec 32 := 1#32
  let v4998 : BitVec 32 := Scalar.shrui v4258 c1_i32_2157
  let c2_i32_2160 : BitVec 32 := 2#32
  let v5002 : BitVec 32 := Scalar.shrui v4998 c2_i32_2160
  let c2_i32_2163 : BitVec 32 := 2#32
  let v5009 : BitVec 32 := Scalar.muli v5002 c2_i32_2163
  let c1_i32_2164 : BitVec 32 := 1#32
  let v5010 : BitVec 32 := Scalar.andi v4998 c1_i32_2164
  let v5011 : BitVec 32 := Scalar.addi v5009 v5010
  let v5012 : Index := Scalar.indexCast v5011
  let c3584_2165 : Index := 3584#32
  let c0_2166 : Index := 0#32
  ![v5012.toNat, 3584, 0]
def k0_off141 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_2157 : BitVec 32 := 1#32
  let v4998 : BitVec 32 := Scalar.shrui v4258 c1_i32_2157
  let c2_i32_2160 : BitVec 32 := 2#32
  let v5002 : BitVec 32 := Scalar.shrui v4998 c2_i32_2160
  let v5016 : Index := Scalar.indexCast v5002
  let c3584_2168 : Index := 3584#32
  let c0_2169 : Index := 0#32
  ![v5016.toNat, 3584, 0]
def k0_off142 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1771 : BitVec 32 := 1#32
  let v4259 : BitVec 32 := Scalar.addi v3386 c1_i32_1771
  let c1_i32_2173 : BitVec 32 := 1#32
  let v5027 : BitVec 32 := Scalar.shrui v4259 c1_i32_2173
  let c2_i32_2174 : BitVec 32 := 2#32
  let v5028 : BitVec 32 := Scalar.shrui v5027 c2_i32_2174
  let c64_i32_2181 : BitVec 32 := 64#32
  let v5045 : BitVec 32 := Scalar.muli v5028 c64_i32_2181
  let v5046 : Index := Scalar.indexCast v5045
  let c3584_2182 : Index := 3584#32
  ![v5046.toNat, 3584]
def k0_mult98 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_2185 : BitVec 32 := 1#32
  let v5051 : BitVec 32 := Scalar.andi v4258 c1_i32_2185
  let c256_i32_2186 : BitVec 32 := 256#32
  let v5052 : BitVec 32 := Scalar.muli v5051 c256_i32_2186
  v5052
def k0_mult99 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_2184 : BitVec 32 := 1#32
  let v5050 : BitVec 32 := Scalar.shrui v4258 c1_i32_2184
  let c1_i32_2188 : BitVec 32 := 1#32
  let v5055 : BitVec 32 := Scalar.shrui v5050 c1_i32_2188
  let c128_i32_2189 : BitVec 32 := 128#32
  let v5056 : BitVec 32 := Scalar.muli v5055 c128_i32_2189
  v5056
def k0_off143 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_2184 : BitVec 32 := 1#32
  let v5050 : BitVec 32 := Scalar.shrui v4258 c1_i32_2184
  let c2_i32_2187 : BitVec 32 := 2#32
  let v5054 : BitVec 32 := Scalar.shrui v5050 c2_i32_2187
  let c2_i32_2190 : BitVec 32 := 2#32
  let v5061 : BitVec 32 := Scalar.muli v5054 c2_i32_2190
  let c1_i32_2191 : BitVec 32 := 1#32
  let v5062 : BitVec 32 := Scalar.andi v5050 c1_i32_2191
  let v5063 : BitVec 32 := Scalar.addi v5061 v5062
  let v5064 : Index := Scalar.indexCast v5063
  let c3840_2192 : Index := 3840#32
  let c0_2193 : Index := 0#32
  ![v5064.toNat, 3840, 0]
def k0_off144 (k0_t3 : Fin k0_t3_loop.trips) : Fin 3 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c2_i32_1770 : BitVec 32 := 2#32
  let v4257 : BitVec 32 := Scalar.addi v3386 c2_i32_1770
  let c15_i32 : BitVec 32 := 15#32
  let v4258 : BitVec 32 := Scalar.andi v4257 c15_i32
  let c1_i32_2184 : BitVec 32 := 1#32
  let v5050 : BitVec 32 := Scalar.shrui v4258 c1_i32_2184
  let c2_i32_2187 : BitVec 32 := 2#32
  let v5054 : BitVec 32 := Scalar.shrui v5050 c2_i32_2187
  let v5068 : Index := Scalar.indexCast v5054
  let c3840_2195 : Index := 3840#32
  let c0_2196 : Index := 0#32
  ![v5068.toNat, 3840, 0]
def k0_off145 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1771 : BitVec 32 := 1#32
  let v4259 : BitVec 32 := Scalar.addi v3386 c1_i32_1771
  let c1_i32_2200 : BitVec 32 := 1#32
  let v5079 : BitVec 32 := Scalar.shrui v4259 c1_i32_2200
  let c2_i32_2201 : BitVec 32 := 2#32
  let v5080 : BitVec 32 := Scalar.shrui v5079 c2_i32_2201
  let c64_i32_2208 : BitVec 32 := 64#32
  let v5097 : BitVec 32 := Scalar.muli v5080 c64_i32_2208
  let v5098 : Index := Scalar.indexCast v5097
  let c3840_2209 : Index := 3840#32
  ![v5098.toNat, 3840]
def k0_mult100 (k0_t3 : Fin k0_t3_loop.trips) : BitVec 32 :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1771 : BitVec 32 := 1#32
  let v4259 : BitVec 32 := Scalar.addi v3386 c1_i32_1771
  let c1_i32_2215 : BitVec 32 := 1#32
  let v5108 : BitVec 32 := Scalar.andi v4259 c1_i32_2215
  let c256_i32_2216 : BitVec 32 := 256#32
  let v5109 : BitVec 32 := Scalar.muli v5108 c256_i32_2216
  v5109
def k0_off146 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1771 : BitVec 32 := 1#32
  let v4259 : BitVec 32 := Scalar.addi v3386 c1_i32_1771
  let c1_i32_2214 : BitVec 32 := 1#32
  let v5107 : BitVec 32 := Scalar.shrui v4259 c1_i32_2214
  let c2_i32_2217 : BitVec 32 := 2#32
  let v5111 : BitVec 32 := Scalar.shrui v5107 c2_i32_2217
  let c64_i32_2219 : BitVec 32 := 64#32
  let v5114 : BitVec 32 := Scalar.muli v5111 c64_i32_2219
  let v5115 : Index := Scalar.indexCast v5114
  let c0_2220 : Index := 0#32
  ![v5115.toNat, 0]
def k0_off147 (k0_t3 : Fin k0_t3_loop.trips) : Fin 2 → Nat :=
  let c2_i32_1317 : BitVec 32 := 2#32
  let c0_i32_1293 : BitVec 32 := 0#32
  let c1_i32_1295 : BitVec 32 := 1#32
  let arg23 : BitVec 32 := Scf.iv c0_i32_1293 c1_i32_1295 k0_t3
  let v3386 : BitVec 32 := Scalar.muli c2_i32_1317 arg23
  let c1_i32_1771 : BitVec 32 := 1#32
  let v4259 : BitVec 32 := Scalar.addi v3386 c1_i32_1771
  let c1_i32_2214 : BitVec 32 := 1#32
  let v5107 : BitVec 32 := Scalar.shrui v4259 c1_i32_2214
  let c64_i32_2222 : BitVec 32 := 64#32
  let v5123 : BitVec 32 := Scalar.muli v5107 c64_i32_2222
  let v5124 : Index := Scalar.indexCast v5123
  let c1_i32_2215 : BitVec 32 := 1#32
  let v5108 : BitVec 32 := Scalar.andi v4259 c1_i32_2215
  let c256_i32_2216 : BitVec 32 := 256#32
  let v5109 : BitVec 32 := Scalar.muli v5108 c256_i32_2216
  let v5110 : BitVec 32 := v5109
  let v5125 : Index := Scalar.indexCast v5110
  ![v5124.toNat, v5125.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4096x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4096x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "sm_scale_log2e" => some (((1 / 8) * (Real.log 2)⁻¹ : ℝ) : EReal)
  | _ => none
-- ==== ReferenceIdeal.lean ====
abbrev S9x4096x512 : Shape := ⟨3, ![9, 4096, 512]⟩
abbrev S9x4096x128 : Shape := ⟨3, ![9, 4096, 128]⟩
abbrev S9x4096x2x4x64 : Shape := ⟨5, ![9, 4096, 2, 4, 64]⟩
abbrev S_ : Shape := ⟨0, ![]⟩
abbrev S9x4096x2x4 : Shape := ⟨4, ![9, 4096, 2, 4]⟩
abbrev S9x4096x2x4x1 : Shape := ⟨5, ![9, 4096, 2, 4, 1]⟩
abbrev S9x4096x2x64 : Shape := ⟨4, ![9, 4096, 2, 64]⟩
abbrev S9x4096x2 : Shape := ⟨3, ![9, 4096, 2]⟩
abbrev S9x4096x2x1 : Shape := ⟨4, ![9, 4096, 2, 1]⟩
abbrev S9x2x64 : Shape := ⟨3, ![9, 2, 64]⟩
abbrev S9x1x2x64 : Shape := ⟨4, ![9, 1, 2, 64]⟩
abbrev S9x2x4096x4x4096 : Shape := ⟨5, ![9, 2, 4096, 4, 4096]⟩
abbrev S9x2x4096 : Shape := ⟨3, ![9, 2, 4096]⟩
abbrev S9x2x1x1x4096 : Shape := ⟨5, ![9, 2, 1, 1, 4096]⟩
abbrev S9x2x4096x4 : Shape := ⟨4, ![9, 2, 4096, 4]⟩
abbrev S9x2x4096x4x1 : Shape := ⟨5, ![9, 2, 4096, 4, 1]⟩
abbrev S9x2x4096x4x64 : Shape := ⟨5, ![9, 2, 4096, 4, 64]⟩
abbrev S9x2x1x1x64 : Shape := ⟨5, ![9, 2, 1, 1, 64]⟩
abbrev S9x4096x8 : Shape := ⟨3, ![9, 4096, 8]⟩
abbrev S9x1x128 : Shape := ⟨3, ![9, 1, 128]⟩

abbrev nBuf : Space → Nat
  | .hbm => 184
  | .vmem => 6
  | .smem => 0
  | _ => 0

abbrev hbmTy0_0 (i : Nat) : BufTy := match i % 128 with
  | 0 => ⟨S9x4096x512, .bf16⟩
  | 1 => ⟨S9x4096x128, .bf16⟩
  | 2 => ⟨S9x4096x128, .bf16⟩
  | 3 => ⟨S9x4096x512, .f32⟩
  | 4 => ⟨S9x4096x2x4x64, .f32⟩
  | 5 => ⟨S9x4096x2x4x64, .f32⟩
  | 6 => ⟨S_, .f32⟩
  | 7 => ⟨S9x4096x2x4, .f32⟩
  | 8 => ⟨S9x4096x2x4x1, .f32⟩
  | 9 => ⟨S_, .f32⟩
  | 10 => ⟨S9x4096x2x4x1, .f32⟩
  | 11 => ⟨S9x4096x2x4x1, .f32⟩
  | 12 => ⟨S_, .f32⟩
  | 13 => ⟨S9x4096x2x4x1, .f32⟩
  | 14 => ⟨S9x4096x2x4x1, .i1⟩
  | 15 => ⟨S9x4096x2x4x1, .f32⟩
  | 16 => ⟨S_, .f32⟩
  | 17 => ⟨S_, .f32⟩
  | 18 => ⟨S9x4096x2x4x1, .f32⟩
  | 19 => ⟨S9x4096x2x4x1, .f32⟩
  | 20 => ⟨S9x4096x2x4x1, .f32⟩
  | 21 => ⟨S_, .f32⟩
  | 22 => ⟨S9x4096x2x4x1, .f32⟩
  | 23 => ⟨S9x4096x2x4x1, .f32⟩
  | 24 => ⟨S_, .f32⟩
  | 25 => ⟨S_, .f32⟩
  | 26 => ⟨S9x4096x2x4x1, .f32⟩
  | 27 => ⟨S9x4096x2x4x1, .f32⟩
  | 28 => ⟨S9x4096x2x4x1, .f32⟩
  | 29 => ⟨S_, .f32⟩
  | 30 => ⟨S9x4096x2x4x1, .f32⟩
  | 31 => ⟨S9x4096x2x4x1, .f32⟩
  | 32 => ⟨S9x4096x2x4x64, .f32⟩
  | 33 => ⟨S9x4096x2x4x64, .f32⟩
  | 34 => ⟨S_, .f32⟩
  | 35 => ⟨S_, .f32⟩
  | 36 => ⟨S_, .f32⟩
  | 37 => ⟨S9x4096x2x4x64, .f32⟩
  | 38 => ⟨S9x4096x2x4x64, .f32⟩
  | 39 => ⟨S_, .f32⟩
  | 40 => ⟨S9x4096x2x4x64, .f32⟩
  | 41 => ⟨S9x4096x2x4x64, .f32⟩
  | 42 => ⟨S_, .f32⟩
  | 43 => ⟨S9x4096x2x4x1, .f32⟩
  | 44 => ⟨S9x4096x2x4x1, .f32⟩
  | 45 => ⟨S9x4096x2x4, .f32⟩
  | 46 => ⟨S9x4096x128, .f32⟩
  | 47 => ⟨S9x4096x2x64, .f32⟩
  | 48 => ⟨S9x4096x2x64, .f32⟩
  | 49 => ⟨S_, .f32⟩
  | 50 => ⟨S9x4096x2, .f32⟩
  | 51 => ⟨S9x4096x2x1, .f32⟩
  | 52 => ⟨S_, .f32⟩
  | 53 => ⟨S9x4096x2x1, .f32⟩
  | 54 => ⟨S9x4096x2x1, .f32⟩
  | 55 => ⟨S_, .f32⟩
  | 56 => ⟨S9x4096x2x1, .f32⟩
  | 57 => ⟨S9x4096x2x1, .i1⟩
  | 58 => ⟨S9x4096x2x1, .f32⟩
  | 59 => ⟨S_, .f32⟩
  | 60 => ⟨S_, .f32⟩
  | 61 => ⟨S9x4096x2x1, .f32⟩
  | 62 => ⟨S9x4096x2x1, .f32⟩
  | 63 => ⟨S9x4096x2x1, .f32⟩
  | 64 => ⟨S_, .f32⟩
  | 65 => ⟨S9x4096x2x1, .f32⟩
  | 66 => ⟨S9x4096x2x1, .f32⟩
  | 67 => ⟨S_, .f32⟩
  | 68 => ⟨S_, .f32⟩
  | 69 => ⟨S9x4096x2x1, .f32⟩
  | 70 => ⟨S9x4096x2x1, .f32⟩
  | 71 => ⟨S9x4096x2x1, .f32⟩
  | 72 => ⟨S_, .f32⟩
  | 73 => ⟨S9x4096x2x1, .f32⟩
  | 74 => ⟨S9x4096x2x1, .f32⟩
  | 75 => ⟨S9x4096x2x64, .f32⟩
  | 76 => ⟨S9x4096x2x64, .f32⟩
  | 77 => ⟨S_, .f32⟩
  | 78 => ⟨S_, .f32⟩
  | 79 => ⟨S_, .f32⟩
  | 80 => ⟨S9x4096x2x64, .f32⟩
  | 81 => ⟨S9x4096x2x64, .f32⟩
  | 82 => ⟨S_, .f32⟩
  | 83 => ⟨S9x4096x2x64, .f32⟩
  | 84 => ⟨S9x4096x2x64, .f32⟩
  | 85 => ⟨S_, .f32⟩
  | 86 => ⟨S9x4096x2x1, .f32⟩
  | 87 => ⟨S9x4096x2x1, .f32⟩
  | 88 => ⟨S9x4096x2, .f32⟩
  | 89 => ⟨S9x4096x128, .f32⟩
  | 90 => ⟨S9x4096x2x64, .f32⟩
  | 91 => ⟨S9x4096x2x64, .f32⟩
  | 92 => ⟨S_, .f32⟩
  | 93 => ⟨S9x2x64, .f32⟩
  | 94 => ⟨S9x1x2x64, .f32⟩
  | 95 => ⟨S_, .f32⟩
  | 96 => ⟨S9x1x2x64, .f32⟩
  | 97 => ⟨S9x1x2x64, .f32⟩
  | 98 => ⟨S_, .f32⟩
  | 99 => ⟨S9x1x2x64, .f32⟩
  | 100 => ⟨S9x1x2x64, .i1⟩
  | 101 => ⟨S9x1x2x64, .f32⟩
  | 102 => ⟨S_, .f32⟩
  | 103 => ⟨S_, .f32⟩
  | 104 => ⟨S9x1x2x64, .f32⟩
  | 105 => ⟨S9x1x2x64, .f32⟩
  | 106 => ⟨S9x1x2x64, .f32⟩
  | 107 => ⟨S_, .f32⟩
  | 108 => ⟨S9x1x2x64, .f32⟩
  | 109 => ⟨S9x1x2x64, .f32⟩
  | 110 => ⟨S_, .f32⟩
  | 111 => ⟨S_, .f32⟩
  | 112 => ⟨S9x1x2x64, .f32⟩
  | 113 => ⟨S9x1x2x64, .f32⟩
  | 114 => ⟨S9x1x2x64, .f32⟩
  | 115 => ⟨S_, .f32⟩
  | 116 => ⟨S9x1x2x64, .f32⟩
  | 117 => ⟨S9x1x2x64, .f32⟩
  | 118 => ⟨S9x4096x2x64, .f32⟩
  | 119 => ⟨S9x4096x2x64, .f32⟩
  | 120 => ⟨S_, .f32⟩
  | 121 => ⟨S_, .f32⟩
  | 122 => ⟨S_, .f32⟩
  | 123 => ⟨S9x4096x2x64, .f32⟩
  | 124 => ⟨S9x4096x2x64, .f32⟩
  | 125 => ⟨S_, .f32⟩
  | 126 => ⟨S9x4096x2x64, .f32⟩
  | 127 => ⟨S9x4096x2x64, .f32⟩
  | _ => ⟨S9x4096x512, .bf16⟩

abbrev hbmTy0_1 (i : Nat) : BufTy := match i % 128 with
  | 0 => ⟨S_, .f32⟩
  | 1 => ⟨S9x1x2x64, .f32⟩
  | 2 => ⟨S9x1x2x64, .f32⟩
  | 3 => ⟨S9x2x64, .f32⟩
  | 4 => ⟨S9x2x4096x4x4096, .f32⟩
  | 5 => ⟨S9x2x4096, .f32⟩
  | 6 => ⟨S9x2x1x1x4096, .f32⟩
  | 7 => ⟨S_, .f32⟩
  | 8 => ⟨S9x4096x2x4, .f32⟩
  | 9 => ⟨S9x4096x2x4, .f32⟩
  | 10 => ⟨S9x2x4096x4, .f32⟩
  | 11 => ⟨S9x2x4096x4x1, .f32⟩
  | 12 => ⟨S9x2x4096x4x4096, .f32⟩
  | 13 => ⟨S9x2x4096x4x4096, .f32⟩
  | 14 => ⟨S9x2x4096x4x4096, .f32⟩
  | 15 => ⟨S9x2x4096x4x4096, .f32⟩
  | 16 => ⟨S_, .f32⟩
  | 17 => ⟨S9x2x4096x4, .f32⟩
  | 18 => ⟨S9x2x4096x4x1, .f32⟩
  | 19 => ⟨S9x2x4096x4x4096, .f32⟩
  | 20 => ⟨S9x2x4096x4x4096, .f32⟩
  | 21 => ⟨S9x2x4096x4x4096, .f32⟩
  | 22 => ⟨S_, .f32⟩
  | 23 => ⟨S9x2x4096x4, .f32⟩
  | 24 => ⟨S9x2x4096x4x1, .f32⟩
  | 25 => ⟨S_, .f32⟩
  | 26 => ⟨S9x2x4096x4x4096, .f32⟩
  | 27 => ⟨S9x2x4096x4x4096, .f32⟩
  | 28 => ⟨S_, .f32⟩
  | 29 => ⟨S_, .f32⟩
  | 30 => ⟨S_, .f32⟩
  | 31 => ⟨S9x2x4096x4x4096, .f32⟩
  | 32 => ⟨S9x2x4096x4x4096, .f32⟩
  | 33 => ⟨S_, .f32⟩
  | 34 => ⟨S9x2x4096x4x4096, .f32⟩
  | 35 => ⟨S9x2x4096x4x4096, .f32⟩
  | 36 => ⟨S9x2x4096x4x64, .f32⟩
  | 37 => ⟨S9x2x1x1x64, .f32⟩
  | 38 => ⟨S_, .f32⟩
  | 39 => ⟨S9x2x1x1x64, .f32⟩
  | 40 => ⟨S9x2x1x1x64, .f32⟩
  | 41 => ⟨S9x2x4096x4x64, .f32⟩
  | 42 => ⟨S9x2x4096x4x64, .f32⟩
  | 43 => ⟨S9x2x4096x4x64, .f32⟩
  | 44 => ⟨S9x2x4096x4x64, .f32⟩
  | 45 => ⟨S9x4096x2x4x64, .f32⟩
  | 46 => ⟨S9x4096x512, .f32⟩
  | 47 => ⟨S9x4096x512, .bf16⟩
  | 48 => ⟨S9x4096x512, .f32⟩
  | 49 => ⟨S9x4096x128, .f32⟩
  | 50 => ⟨S9x4096x128, .f32⟩
  | 51 => ⟨S9x4096x8, .f32⟩
  | 52 => ⟨S9x1x128, .f32⟩
  | 53 => ⟨S9x4096x512, .fp8e4m3⟩
  | 54 => ⟨S9x4096x128, .fp8e4m3⟩
  | 55 => ⟨S9x4096x128, .fp8e4m3⟩
  | _ => ⟨S9x4096x512, .bf16⟩

abbrev hbmTy (i : Nat) : BufTy := match i / 128 with
  | 0 => hbmTy0_0 i
  | 1 => hbmTy0_1 i
  | _ => ⟨S9x4096x512, .bf16⟩

abbrev bufTy : (tb : Table) → Fin (tcTables nBuf tb) → BufTy
  | .hbm, ⟨i, _⟩ => hbmTy i
  | .local _ .vmem, ⟨0, _⟩ => ⟨S9x4096x512, .f32⟩
  | .local _ .vmem, ⟨1, _⟩ => ⟨S9x4096x128, .f32⟩
  | .local _ .vmem, ⟨2, _⟩ => ⟨S9x4096x128, .f32⟩
  | .local _ .vmem, ⟨3, _⟩ => ⟨S9x4096x512, .fp8e4m3⟩
  | .local _ .vmem, ⟨4, _⟩ => ⟨S9x4096x128, .fp8e4m3⟩
  | .local _ .vmem, ⟨5, _⟩ => ⟨S9x4096x128, .fp8e4m3⟩
  | _, _ => ⟨S9x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v22 : Ref sig .tc := ⟨.hbm, 41, rfl⟩
abbrev main_cst_8 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_9 : Ref sig .tc := ⟨.hbm, 49, rfl⟩
abbrev main_v29 : Ref sig .tc := ⟨.hbm, 50, rfl⟩
abbrev main_v30 : Ref sig .tc := ⟨.hbm, 51, rfl⟩
abbrev main_cst_10 : Ref sig .tc := ⟨.hbm, 52, rfl⟩
abbrev main_v31 : Ref sig .tc := ⟨.hbm, 53, rfl⟩
abbrev main_v32 : Ref sig .tc := ⟨.hbm, 54, rfl⟩
abbrev main_cst_11 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_12 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_13 : Ref sig .tc := ⟨.hbm, 64, rfl⟩
abbrev main_v40 : Ref sig .tc := ⟨.hbm, 65, rfl⟩
abbrev main_v41 : Ref sig .tc := ⟨.hbm, 66, rfl⟩
abbrev main_cst_14 : Ref sig .tc := ⟨.hbm, 67, rfl⟩
abbrev main_call2_v0 : Ref sig .tc := ⟨.hbm, 68, rfl⟩
abbrev main_call2_v1 : Ref sig .tc := ⟨.hbm, 69, rfl⟩
abbrev main_v42 : Ref sig .tc := ⟨.hbm, 70, rfl⟩
abbrev main_v43 : Ref sig .tc := ⟨.hbm, 71, rfl⟩
abbrev main_cst_15 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_16 : Ref sig .tc := ⟨.hbm, 77, rfl⟩
abbrev main_cst_17 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_v48 : Ref sig .tc := ⟨.hbm, 84, rfl⟩
abbrev main_cst_18 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_19 : Ref sig .tc := ⟨.hbm, 92, rfl⟩
abbrev main_v55 : Ref sig .tc := ⟨.hbm, 93, rfl⟩
abbrev main_v56 : Ref sig .tc := ⟨.hbm, 94, rfl⟩
abbrev main_cst_20 : Ref sig .tc := ⟨.hbm, 95, rfl⟩
abbrev main_v57 : Ref sig .tc := ⟨.hbm, 96, rfl⟩
abbrev main_v58 : Ref sig .tc := ⟨.hbm, 97, rfl⟩
abbrev main_cst_21 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_22 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_23 : Ref sig .tc := ⟨.hbm, 107, rfl⟩
abbrev main_v66 : Ref sig .tc := ⟨.hbm, 108, rfl⟩
abbrev main_v67 : Ref sig .tc := ⟨.hbm, 109, rfl⟩
abbrev main_cst_24 : Ref sig .tc := ⟨.hbm, 110, rfl⟩
abbrev main_call4_v0 : Ref sig .tc := ⟨.hbm, 111, rfl⟩
abbrev main_call4_v1 : Ref sig .tc := ⟨.hbm, 112, rfl⟩
abbrev main_v68 : Ref sig .tc := ⟨.hbm, 113, rfl⟩
abbrev main_v69 : Ref sig .tc := ⟨.hbm, 114, rfl⟩
abbrev main_cst_25 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_cst_26 : Ref sig .tc := ⟨.hbm, 120, rfl⟩
abbrev main_cst_27 : Ref sig .tc := ⟨.hbm, 121, rfl⟩
abbrev main_call5_v0 : Ref sig .tc := ⟨.hbm, 122, rfl⟩
abbrev main_call5_v1 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_v74 : Ref sig .tc := ⟨.hbm, 127, rfl⟩
abbrev main_cst_28 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_cst_29 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_cst_30 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_cst_31 : Ref sig .tc := ⟨.hbm, 150, rfl⟩
abbrev main_v94 : Ref sig .tc := ⟨.hbm, 151, rfl⟩
abbrev main_v95 : Ref sig .tc := ⟨.hbm, 152, rfl⟩
abbrev main_cst_32 : Ref sig .tc := ⟨.hbm, 153, rfl⟩
abbrev main_v96 : Ref sig .tc := ⟨.hbm, 154, rfl⟩
abbrev main_v97 : Ref sig .tc := ⟨.hbm, 155, rfl⟩
abbrev main_cst_33 : Ref sig .tc := ⟨.hbm, 156, rfl⟩
abbrev main_cst_34 : Ref sig .tc := ⟨.hbm, 157, rfl⟩
abbrev main_call6_v0 : Ref sig .tc := ⟨.hbm, 158, rfl⟩
abbrev main_call6_v1 : Ref sig .tc := ⟨.hbm, 159, rfl⟩
abbrev main_call6_v2 : Ref sig .tc := ⟨.hbm, 160, rfl⟩
abbrev main_call6_v3 : Ref sig .tc := ⟨.hbm, 161, rfl⟩
abbrev main_call6_v4 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_cst_35 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115_0 : Ref sig .tc := ⟨.hbm, 181, rfl⟩
abbrev main_v115_1 : Ref sig .tc := ⟨.hbm, 182, rfl⟩
abbrev main_v115_2 : Ref sig .tc := ⟨.hbm, 183, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S9x4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9x4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9x4096x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9x4096x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9x4096x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Setup.lean ====
/- What the two runs of the kernel's body share: the condition of its one conditional in closed form, the
   staging and scratch memrefs, and the invariant of the launch with each scratch buffer owned. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 8) — by arithmetic of the point. -/
theorem hcond0_0 : ∀ t : Fin cfg0.N, cond0_0 (grid0.coords t) ↔ t.val % 8 = 0 :=
  (fun t => by
    have ht : t.val < 72 := Nat.lt_of_lt_of_eq t.isLt N_0
    have e0 : (grid0.coords t 0).val = t.val / 8 % 9 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x8 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4096x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x4096x2 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x4096x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x128 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S4x4096x128 .fp8e4m3 := Memref.whole cc0_scratch0
abbrev scM0_1 : Memref sig .tc .vmem S2x4096x128 .f32 := Memref.whole cc0_scratch1
abbrev scM0_2 : Memref sig .tc .vmem S128x4096 .fp8e4m3 := Memref.whole cc0_scratch2
abbrev scM0_3 : Memref sig .tc .vmem S128x128 .f32 := Memref.whole cc0_scratch3
abbrev scM0_4 : Memref sig .tc .vmem S512x512 .fp8e4m3 := Memref.whole cc0_scratch4
abbrev scM0_5 : Memref sig .tc .vmem S8x512 .f32 := Memref.whole cc0_scratch5
abbrev scM0_6 : Memref sig .tc .vmem S4096x256 .f32 := Memref.whole cc0_scratch6
abbrev scM0_7 : Memref sig .tc .vmem S4096x256 .f32 := Memref.whole cc0_scratch7
abbrev scM0_8 : Memref sig .tc .vmem S1x256 .f32 := Memref.whole cc0_scratch8
abbrev scM0_9 : Memref sig .tc .vmem S1x256 .f32 := Memref.whole cc0_scratch9
abbrev scM0_10 : Memref sig .tc .vmem S512x512 .f32 := Memref.whole cc0_scratch10

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, owns_whole]; try rfl

end Cert.Kernel.Gen

end
-- ==== Proof.Kernel.RunA.lean ====
/- The kernel's body run at the first point of a batch, where the keys and values are prepared. -/
module

public import proofs.«01_k».proof.Proof.Kernel.Setup

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2944000 in
/-- The body's triple IN CASE A (`scf.if` 0 taken: points 0, 8, … 64: 9 of 72): on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1x512x512 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x512x512 .bf16) (harg5 : arg5.IsWhole) (arg6 : Memref sig .tc .vmem S1x512x512 .fp8e4m3) (harg6 : arg6.IsWhole) (arg7 : Memref sig .tc .vmem S1x512x8 .f32) (harg7 : arg7.IsWhole) (arg8 : Memref sig .tc .vmem S1x4096x128 .fp8e4m3) (harg8 : arg8.IsWhole) (arg9 : Memref sig .tc .vmem S1x4096x2 .f32) (harg9 : arg9.IsWhole) (arg10 : Memref sig .tc .vmem S1x4096x128 .fp8e4m3) (harg10 : arg10.IsWhole) (arg11 : Memref sig .tc .vmem S1x1x128 .f32) (harg11 : arg11.IsWhole) (arg12 : Memref sig .tc .vmem S4x4096x128 .fp8e4m3) (harg12 : arg12.IsWhole) (arg13 : Memref sig .tc .vmem S2x4096x128 .f32) (harg13 : arg13.IsWhole) (arg14 : Memref sig .tc .vmem S128x4096 .fp8e4m3) (harg14 : arg14.IsWhole) (arg15 : Memref sig .tc .vmem S128x128 .f32) (harg15 : arg15.IsWhole) (arg16 : Memref sig .tc .vmem S512x512 .fp8e4m3) (harg16 : arg16.IsWhole) (arg17 : Memref sig .tc .vmem S8x512 .f32) (harg17 : arg17.IsWhole) (arg18 : Memref sig .tc .vmem S4096x256 .f32) (harg18 : arg18.IsWhole) (arg19 : Memref sig .tc .vmem S4096x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S512x512 .f32) (harg22 : arg22.IsWhole) (hc0 : cond0_0 i)
    (x0 : Vec F S1x512x512 .bf16) (x1 : Vec F S1x4096x128 .bf16) (x2 : Vec F S1x4096x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_fp8_gqa_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_fp8_gqa_attention_eq_skeleton]; unfold cc0_fp8_gqa_attention_skel
    simp only [k0_part132_eq_skeleton, k0_part53_eq_skeleton, k0_part6_eq_skeleton, k0_part7_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part133_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    iexists _, _; isplitr; swap; · iexact HS10
    ipureintro; rfl

end Cert.Kernel.Gen

end
-- ==== Proof.Kernel.RunB.lean ====
/- The kernel's body run at the later points of a batch, where the keys and values are kept. -/
module

public import proofs.«01_k».proof.Proof.Kernel.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2732000 in
/-- The body's triple IN CASE B (`scf.if` 0 not taken: points 1, 2, … 71: 63 of 72): on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S1x512x512 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x512x512 .bf16) (harg5 : arg5.IsWhole) (arg6 : Memref sig .tc .vmem S1x512x512 .fp8e4m3) (harg6 : arg6.IsWhole) (arg7 : Memref sig .tc .vmem S1x512x8 .f32) (harg7 : arg7.IsWhole) (arg8 : Memref sig .tc .vmem S1x4096x128 .fp8e4m3) (harg8 : arg8.IsWhole) (arg9 : Memref sig .tc .vmem S1x4096x2 .f32) (harg9 : arg9.IsWhole) (arg10 : Memref sig .tc .vmem S1x4096x128 .fp8e4m3) (harg10 : arg10.IsWhole) (arg11 : Memref sig .tc .vmem S1x1x128 .f32) (harg11 : arg11.IsWhole) (arg12 : Memref sig .tc .vmem S4x4096x128 .fp8e4m3) (harg12 : arg12.IsWhole) (arg13 : Memref sig .tc .vmem S2x4096x128 .f32) (harg13 : arg13.IsWhole) (arg14 : Memref sig .tc .vmem S128x4096 .fp8e4m3) (harg14 : arg14.IsWhole) (arg15 : Memref sig .tc .vmem S128x128 .f32) (harg15 : arg15.IsWhole) (arg16 : Memref sig .tc .vmem S512x512 .fp8e4m3) (harg16 : arg16.IsWhole) (arg17 : Memref sig .tc .vmem S8x512 .f32) (harg17 : arg17.IsWhole) (arg18 : Memref sig .tc .vmem S4096x256 .f32) (harg18 : arg18.IsWhole) (arg19 : Memref sig .tc .vmem S4096x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S512x512 .f32) (harg22 : arg22.IsWhole) (hc0 : ¬cond0_0 i)
    (x0 : Vec F S1x512x512 .bf16) (x1 : Vec F S1x4096x128 .bf16) (x2 : Vec F S1x4096x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_fp8_gqa_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_fp8_gqa_attention_eq_skeleton]; unfold cc0_fp8_gqa_attention_skel
    simp only [k0_part132_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part133_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    iexists _, _; isplitr; swap; · iexact HS10
    ipureintro; rfl

end Cert.Kernel.Gen

end
-- ==== Proof.Kernel.Frame.lean ====
/- The frame of the kernel: the body's obligation at every point, the launch, and the arguments unchanged. -/
module

public import proofs.«01_k».proof.Proof.Kernel.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3, 4, 5, 6, 7, 8, 9): nothing reads what the kernel leaves in them, so nothing
    of it is named (Lib/Pipeline/Dat.lean `Dat.toRForget`). -/
def forgets0 : Fin 10 → Bool := fun w => w.val == 3 || w.val == 4 || w.val == 5 || w.val == 6 || w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 4000000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 72 := lt_of_lt_of_eq t.isLt (show cfg0.N = 72 from N_0)
  by_cases h0 : t.val % 8 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨⟨HS0, HS1, HS2, HS3, HS4, HS5, HS6, HS7, HS8, HS9, HS10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    iintro ⟨H0, H1, H2, H3, H4, H5, H6, H7, H8, H9, HS0, HS1, HS2, HS3, HS4, HS5, HS6, HS7, HS8, HS9, HS10⟩
    isplitl [HS0 HS1 HS2 HS3 HS4 HS5 HS6 HS7 HS8 HS9 HS10 Hg]
    · isplitl [HS0 HS1 HS2 HS3 HS4 HS5 HS6 HS7 HS8 HS9 HS10]
      · isplitl [HS0]
        · iexact HS0
        isplitl [HS1]
        · iexact HS1
        isplitl [HS2]
        · iexact HS2
        isplitl [HS3]
        · iexact HS3
        isplitl [HS4]
        · iexact HS4
        isplitl [HS5]
        · iexact HS5
        isplitl [HS6]
        · iexact HS6
        isplitl [HS7]
        · iexact HS7
        isplitl [HS8]
        · iexact HS8
        isplitl [HS9]
        · iexact HS9
        iexact HS10
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨⟨HS0, HS1, HS2, HS3, HS4, HS5, HS6, HS7, HS8, HS9, HS10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    iintro ⟨H0, H1, H2, H3, H4, H5, H6, H7, H8, H9, HS0, HS1, HS2, HS3, HS4, HS5, HS6, HS7, HS8, HS9, HS10⟩
    isplitl [HS0 HS1 HS2 HS3 HS4 HS5 HS6 HS7 HS8 HS9 HS10 Hg]
    · isplitl [HS0 HS1 HS2 HS3 HS4 HS5 HS6 HS7 HS8 HS9 HS10]
      · isplitl [HS0]
        · iexact HS0
        isplitl [HS1]
        · iexact HS1
        isplitl [HS2]
        · iexact HS2
        isplitl [HS3]
        · iexact HS3
        isplitl [HS4]
        · iexact HS4
        isplitl [HS5]
        · iexact HS5
        isplitl [HS6]
        · iexact HS6
        isplitl [HS7]
        · iexact HS7
        isplitl [HS8]
        · iexact HS8
        isplitl [HS9]
        · iexact HS9
        iexact HS10
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5, 6, 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of_forget m ρ (fun c => (dats m 0 c).toRForget forgets0) (A_eq m) (run_main m ρ)

/-- THE FRAME: `Cert.quiescent_Kernel`'s statement (Defs.lean) at any `F` (Proof.lean cites it). -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.KernelIdeal.Parts.lean ====
/- The parts of the kernel that mention no named constant, each equal to its skeleton for every reading of the
   floats, with no reading of the named constants asked for. -/
module

public import proofs.«01_k».proof.Proof.Gen.KernelIdeal.Skeleton

@[expose] public section

set_option maxRecDepth 65536

noncomputable section

namespace Cert.KernelIdeal

open Cert.KernelIdeal.Gen
open Idealize.ShloMosaic Idealize.ShloMosaic.TcCoe

variable {F : FTy → Type} [FloatOps F]

theorem k0_part1_eq_skeleton : k0_part1 (F := F) = k0_part1_skel (F := F) := rfl
theorem k0_part2_eq_skeleton : k0_part2 (F := F) = k0_part2_skel (F := F) := rfl
theorem k0_part3_eq_skeleton : k0_part3 (F := F) = k0_part3_skel (F := F) := rfl
theorem k0_part4_eq_skeleton : k0_part4 (F := F) = k0_part4_skel (F := F) := rfl
theorem k0_part5_eq_skeleton : k0_part5 (F := F) = k0_part5_skel (F := F) := rfl
theorem k0_part6_eq_skeleton : k0_part6 (F := F) = k0_part6_skel (F := F) := rfl
theorem k0_part7_eq_skeleton : k0_part7 (F := F) = k0_part7_skel (F := F) := rfl
theorem k0_part8_eq_skeleton : k0_part8 (F := F) = k0_part8_skel (F := F) := rfl
theorem k0_part9_eq_skeleton : k0_part9 (F := F) = k0_part9_skel (F := F) := rfl
theorem k0_part10_eq_skeleton : k0_part10 (F := F) = k0_part10_skel (F := F) := rfl
theorem k0_part11_eq_skeleton : k0_part11 (F := F) = k0_part11_skel (F := F) := rfl
theorem k0_part12_eq_skeleton : k0_part12 (F := F) = k0_part12_skel (F := F) := rfl
theorem k0_part13_eq_skeleton : k0_part13 (F := F) = k0_part13_skel (F := F) := rfl
theorem k0_part14_eq_skeleton : k0_part14 (F := F) = k0_part14_skel (F := F) := rfl
theorem k0_part15_eq_skeleton : k0_part15 (F := F) = k0_part15_skel (F := F) := rfl
theorem k0_part16_eq_skeleton : k0_part16 (F := F) = k0_part16_skel (F := F) := rfl
theorem k0_part17_eq_skeleton : k0_part17 (F := F) = k0_part17_skel (F := F) := rfl
theorem k0_part18_eq_skeleton : k0_part18 (F := F) = k0_part18_skel (F := F) := rfl
theorem k0_part19_eq_skeleton : k0_part19 (F := F) = k0_part19_skel (F := F) := rfl
theorem k0_part20_eq_skeleton : k0_part20 (F := F) = k0_part20_skel (F := F) := rfl
theorem k0_part21_eq_skeleton : k0_part21 (F := F) = k0_part21_skel (F := F) := rfl
theorem k0_part22_eq_skeleton : k0_part22 (F := F) = k0_part22_skel (F := F) := rfl
theorem k0_part23_eq_skeleton : k0_part23 (F := F) = k0_part23_skel (F := F) := rfl
theorem k0_part24_eq_skeleton : k0_part24 (F := F) = k0_part24_skel (F := F) := rfl
theorem k0_part25_eq_skeleton : k0_part25 (F := F) = k0_part25_skel (F := F) := rfl
theorem k0_part26_eq_skeleton : k0_part26 (F := F) = k0_part26_skel (F := F) := rfl
theorem k0_part27_eq_skeleton : k0_part27 (F := F) = k0_part27_skel (F := F) := rfl
theorem k0_part28_eq_skeleton : k0_part28 (F := F) = k0_part28_skel (F := F) := rfl
theorem k0_part29_eq_skeleton : k0_part29 (F := F) = k0_part29_skel (F := F) := rfl
theorem k0_part30_eq_skeleton : k0_part30 (F := F) = k0_part30_skel (F := F) := rfl
theorem k0_part31_eq_skeleton : k0_part31 (F := F) = k0_part31_skel (F := F) := rfl
theorem k0_part32_eq_skeleton : k0_part32 (F := F) = k0_part32_skel (F := F) := rfl
theorem k0_part33_eq_skeleton : k0_part33 (F := F) = k0_part33_skel (F := F) := rfl
theorem k0_part34_eq_skeleton : k0_part34 (F := F) = k0_part34_skel (F := F) := rfl
theorem k0_part35_eq_skeleton : k0_part35 (F := F) = k0_part35_skel (F := F) := rfl
theorem k0_part36_eq_skeleton : k0_part36 (F := F) = k0_part36_skel (F := F) := rfl
theorem k0_part37_eq_skeleton : k0_part37 (F := F) = k0_part37_skel (F := F) := rfl
theorem k0_part38_eq_skeleton : k0_part38 (F := F) = k0_part38_skel (F := F) := rfl
theorem k0_part39_eq_skeleton : k0_part39 (F := F) = k0_part39_skel (F := F) := rfl
theorem k0_part40_eq_skeleton : k0_part40 (F := F) = k0_part40_skel (F := F) := rfl
theorem k0_part41_eq_skeleton : k0_part41 (F := F) = k0_part41_skel (F := F) := rfl
theorem k0_part42_eq_skeleton : k0_part42 (F := F) = k0_part42_skel (F := F) := rfl
theorem k0_part43_eq_skeleton : k0_part43 (F := F) = k0_part43_skel (F := F) := rfl
theorem k0_part44_eq_skeleton : k0_part44 (F := F) = k0_part44_skel (F := F) := rfl
theorem k0_part45_eq_skeleton : k0_part45 (F := F) = k0_part45_skel (F := F) := rfl
theorem k0_part46_eq_skeleton : k0_part46 (F := F) = k0_part46_skel (F := F) := rfl
theorem k0_part47_eq_skeleton : k0_part47 (F := F) = k0_part47_skel (F := F) := rfl
theorem k0_part48_eq_skeleton : k0_part48 (F := F) = k0_part48_skel (F := F) := rfl
theorem k0_part49_eq_skeleton : k0_part49 (F := F) = k0_part49_skel (F := F) := rfl
theorem k0_part50_eq_skeleton : k0_part50 (F := F) = k0_part50_skel (F := F) := rfl
theorem k0_part51_eq_skeleton : k0_part51 (F := F) = k0_part51_skel (F := F) := rfl
theorem k0_part52_eq_skeleton : k0_part52 (F := F) = k0_part52_skel (F := F) := rfl
theorem k0_part53_eq_skeleton : k0_part53 (F := F) = k0_part53_skel (F := F) := rfl
theorem k0_part54_eq_skeleton : k0_part54 (F := F) = k0_part54_skel (F := F) := rfl
theorem k0_part55_eq_skeleton : k0_part55 (F := F) = k0_part55_skel (F := F) := rfl
theorem k0_part56_eq_skeleton : k0_part56 (F := F) = k0_part56_skel (F := F) := rfl
theorem k0_part57_eq_skeleton : k0_part57 (F := F) = k0_part57_skel (F := F) := rfl
theorem k0_part58_eq_skeleton : k0_part58 (F := F) = k0_part58_skel (F := F) := rfl
theorem k0_part59_eq_skeleton : k0_part59 (F := F) = k0_part59_skel (F := F) := rfl
theorem k0_part60_eq_skeleton : k0_part60 (F := F) = k0_part60_skel (F := F) := rfl
theorem k0_part61_eq_skeleton : k0_part61 (F := F) = k0_part61_skel (F := F) := rfl
theorem k0_part62_eq_skeleton : k0_part62 (F := F) = k0_part62_skel (F := F) := rfl
theorem k0_part63_eq_skeleton : k0_part63 (F := F) = k0_part63_skel (F := F) := rfl
theorem k0_part64_eq_skeleton : k0_part64 (F := F) = k0_part64_skel (F := F) := rfl
theorem k0_part65_eq_skeleton : k0_part65 (F := F) = k0_part65_skel (F := F) := rfl
theorem k0_part66_eq_skeleton : k0_part66 (F := F) = k0_part66_skel (F := F) := rfl
theorem k0_part67_eq_skeleton : k0_part67 (F := F) = k0_part67_skel (F := F) := rfl
theorem k0_part68_eq_skeleton : k0_part68 (F := F) = k0_part68_skel (F := F) := rfl
theorem k0_part70_eq_skeleton : k0_part70 (F := F) = k0_part70_skel (F := F) := rfl
theorem k0_part71_eq_skeleton : k0_part71 (F := F) = k0_part71_skel (F := F) := rfl
theorem k0_part72_eq_skeleton : k0_part72 (F := F) = k0_part72_skel (F := F) := rfl
theorem k0_part73_eq_skeleton : k0_part73 (F := F) = k0_part73_skel (F := F) := rfl
theorem k0_part74_eq_skeleton : k0_part74 (F := F) = k0_part74_skel (F := F) := rfl
theorem k0_part75_eq_skeleton : k0_part75 (F := F) = k0_part75_skel (F := F) := rfl
theorem k0_part76_eq_skeleton : k0_part76 (F := F) = k0_part76_skel (F := F) := rfl
theorem k0_part77_eq_skeleton : k0_part77 (F := F) = k0_part77_skel (F := F) := rfl
theorem k0_part78_eq_skeleton : k0_part78 (F := F) = k0_part78_skel (F := F) := rfl
theorem k0_part79_eq_skeleton : k0_part79 (F := F) = k0_part79_skel (F := F) := rfl
theorem k0_part80_eq_skeleton : k0_part80 (F := F) = k0_part80_skel (F := F) := rfl
theorem k0_part81_eq_skeleton : k0_part81 (F := F) = k0_part81_skel (F := F) := rfl
theorem k0_part82_eq_skeleton : k0_part82 (F := F) = k0_part82_skel (F := F) := rfl
theorem k0_part83_eq_skeleton : k0_part83 (F := F) = k0_part83_skel (F := F) := rfl
theorem k0_part84_eq_skeleton : k0_part84 (F := F) = k0_part84_skel (F := F) := rfl
theorem k0_part86_eq_skeleton : k0_part86 (F := F) = k0_part86_skel (F := F) := rfl
theorem k0_part87_eq_skeleton : k0_part87 (F := F) = k0_part87_skel (F := F) := rfl
theorem k0_part88_eq_skeleton : k0_part88 (F := F) = k0_part88_skel (F := F) := rfl
theorem k0_part89_eq_skeleton : k0_part89 (F := F) = k0_part89_skel (F := F) := rfl
theorem k0_part90_eq_skeleton : k0_part90 (F := F) = k0_part90_skel (F := F) := rfl
theorem k0_part91_eq_skeleton : k0_part91 (F := F) = k0_part91_skel (F := F) := rfl
theorem k0_part92_eq_skeleton : k0_part92 (F := F) = k0_part92_skel (F := F) := rfl
theorem k0_part93_eq_skeleton : k0_part93 (F := F) = k0_part93_skel (F := F) := rfl
theorem k0_part94_eq_skeleton : k0_part94 (F := F) = k0_part94_skel (F := F) := rfl
theorem k0_part95_eq_skeleton : k0_part95 (F := F) = k0_part95_skel (F := F) := rfl
theorem k0_part96_eq_skeleton : k0_part96 (F := F) = k0_part96_skel (F := F) := rfl
theorem k0_part97_eq_skeleton : k0_part97 (F := F) = k0_part97_skel (F := F) := rfl
theorem k0_part98_eq_skeleton : k0_part98 (F := F) = k0_part98_skel (F := F) := rfl
theorem k0_part99_eq_skeleton : k0_part99 (F := F) = k0_part99_skel (F := F) := rfl
theorem k0_part100_eq_skeleton : k0_part100 (F := F) = k0_part100_skel (F := F) := rfl
theorem k0_part101_eq_skeleton : k0_part101 (F := F) = k0_part101_skel (F := F) := rfl
theorem k0_part103_eq_skeleton : k0_part103 (F := F) = k0_part103_skel (F := F) := rfl
theorem k0_part104_eq_skeleton : k0_part104 (F := F) = k0_part104_skel (F := F) := rfl
theorem k0_part105_eq_skeleton : k0_part105 (F := F) = k0_part105_skel (F := F) := rfl
theorem k0_part106_eq_skeleton : k0_part106 (F := F) = k0_part106_skel (F := F) := rfl
theorem k0_part107_eq_skeleton : k0_part107 (F := F) = k0_part107_skel (F := F) := rfl
theorem k0_part108_eq_skeleton : k0_part108 (F := F) = k0_part108_skel (F := F) := rfl
theorem k0_part109_eq_skeleton : k0_part109 (F := F) = k0_part109_skel (F := F) := rfl
theorem k0_part110_eq_skeleton : k0_part110 (F := F) = k0_part110_skel (F := F) := rfl
theorem k0_part111_eq_skeleton : k0_part111 (F := F) = k0_part111_skel (F := F) := rfl
theorem k0_part112_eq_skeleton : k0_part112 (F := F) = k0_part112_skel (F := F) := rfl
theorem k0_part113_eq_skeleton : k0_part113 (F := F) = k0_part113_skel (F := F) := rfl
theorem k0_part114_eq_skeleton : k0_part114 (F := F) = k0_part114_skel (F := F) := rfl
theorem k0_part115_eq_skeleton : k0_part115 (F := F) = k0_part115_skel (F := F) := rfl
theorem k0_part116_eq_skeleton : k0_part116 (F := F) = k0_part116_skel (F := F) := rfl
theorem k0_part117_eq_skeleton : k0_part117 (F := F) = k0_part117_skel (F := F) := rfl
theorem k0_part119_eq_skeleton : k0_part119 (F := F) = k0_part119_skel (F := F) := rfl
theorem k0_part120_eq_skeleton : k0_part120 (F := F) = k0_part120_skel (F := F) := rfl
theorem k0_part121_eq_skeleton : k0_part121 (F := F) = k0_part121_skel (F := F) := rfl
theorem k0_part122_eq_skeleton : k0_part122 (F := F) = k0_part122_skel (F := F) := rfl
theorem k0_part123_eq_skeleton : k0_part123 (F := F) = k0_part123_skel (F := F) := rfl
theorem k0_part124_eq_skeleton : k0_part124 (F := F) = k0_part124_skel (F := F) := rfl
theorem k0_part125_eq_skeleton : k0_part125 (F := F) = k0_part125_skel (F := F) := rfl
theorem k0_part126_eq_skeleton : k0_part126 (F := F) = k0_part126_skel (F := F) := rfl
theorem k0_part127_eq_skeleton : k0_part127 (F := F) = k0_part127_skel (F := F) := rfl
theorem k0_part128_eq_skeleton : k0_part128 (F := F) = k0_part128_skel (F := F) := rfl
theorem k0_part129_eq_skeleton : k0_part129 (F := F) = k0_part129_skel (F := F) := rfl
theorem k0_part130_eq_skeleton : k0_part130 (F := F) = k0_part130_skel (F := F) := rfl
theorem k0_part131_eq_skeleton : k0_part131 (F := F) = k0_part131_skel (F := F) := rfl

end Cert.KernelIdeal
-- ==== Proof.KernelIdeal.Setup.lean ====
/- What the two runs of the kernel's body share: the condition of its one conditional in closed form, the
   staging and scratch memrefs, and the invariant of the launch with each scratch buffer owned. -/
module

public import proofs.«01_k».proof.Proof.Gen.KernelIdeal.Launch
public import proofs.«01_k».proof.Proof.KernelIdeal.Parts
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 8) — by arithmetic of the point. -/
theorem hcond0_0 : ∀ t : Fin cfg0.N, cond0_0 (grid0.coords t) ↔ t.val % 8 = 0 :=
  (fun t => by
    have ht : t.val < 72 := Nat.lt_of_lt_of_eq t.isLt N_0
    have e0 : (grid0.coords t 0).val = t.val / 8 % 9 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x8 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4096x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x4096x2 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x4096x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x128 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S4x4096x128 .fp8e4m3 := Memref.whole cc0_scratch0
abbrev scM0_1 : Memref sig .tc .vmem S2x4096x128 .f32 := Memref.whole cc0_scratch1
abbrev scM0_2 : Memref sig .tc .vmem S128x4096 .fp8e4m3 := Memref.whole cc0_scratch2
abbrev scM0_3 : Memref sig .tc .vmem S128x128 .f32 := Memref.whole cc0_scratch3
abbrev scM0_4 : Memref sig .tc .vmem S512x512 .fp8e4m3 := Memref.whole cc0_scratch4
abbrev scM0_5 : Memref sig .tc .vmem S8x512 .f32 := Memref.whole cc0_scratch5
abbrev scM0_6 : Memref sig .tc .vmem S4096x256 .f32 := Memref.whole cc0_scratch6
abbrev scM0_7 : Memref sig .tc .vmem S4096x256 .f32 := Memref.whole cc0_scratch7
abbrev scM0_8 : Memref sig .tc .vmem S1x256 .f32 := Memref.whole cc0_scratch8
abbrev scM0_9 : Memref sig .tc .vmem S1x256 .f32 := Memref.whole cc0_scratch9
abbrev scM0_10 : Memref sig .tc .vmem S512x512 .f32 := Memref.whole cc0_scratch10

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, owns_whole]; try rfl

end Cert.KernelIdeal.Gen

end
-- ==== Proof.KernelIdeal.RunA.lean ====
/- The kernel's body run at the first point of a batch, where the keys and values are prepared. -/
module

public import proofs.«01_k».proof.Proof.KernelIdeal.Setup

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2944000 in
/-- The body's triple IN CASE A (`scf.if` 0 taken: points 0, 8, … 64: 9 of 72): on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1x512x512 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x512x512 .bf16) (harg5 : arg5.IsWhole) (arg6 : Memref sig .tc .vmem S1x512x512 .fp8e4m3) (harg6 : arg6.IsWhole) (arg7 : Memref sig .tc .vmem S1x512x8 .f32) (harg7 : arg7.IsWhole) (arg8 : Memref sig .tc .vmem S1x4096x128 .fp8e4m3) (harg8 : arg8.IsWhole) (arg9 : Memref sig .tc .vmem S1x4096x2 .f32) (harg9 : arg9.IsWhole) (arg10 : Memref sig .tc .vmem S1x4096x128 .fp8e4m3) (harg10 : arg10.IsWhole) (arg11 : Memref sig .tc .vmem S1x1x128 .f32) (harg11 : arg11.IsWhole) (arg12 : Memref sig .tc .vmem S4x4096x128 .fp8e4m3) (harg12 : arg12.IsWhole) (arg13 : Memref sig .tc .vmem S2x4096x128 .f32) (harg13 : arg13.IsWhole) (arg14 : Memref sig .tc .vmem S128x4096 .fp8e4m3) (harg14 : arg14.IsWhole) (arg15 : Memref sig .tc .vmem S128x128 .f32) (harg15 : arg15.IsWhole) (arg16 : Memref sig .tc .vmem S512x512 .fp8e4m3) (harg16 : arg16.IsWhole) (arg17 : Memref sig .tc .vmem S8x512 .f32) (harg17 : arg17.IsWhole) (arg18 : Memref sig .tc .vmem S4096x256 .f32) (harg18 : arg18.IsWhole) (arg19 : Memref sig .tc .vmem S4096x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S512x512 .f32) (harg22 : arg22.IsWhole) (hc0 : cond0_0 i)
    (x0 : Vec F S1x512x512 .bf16) (x1 : Vec F S1x4096x128 .bf16) (x2 : Vec F S1x4096x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_fp8_gqa_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_fp8_gqa_attention_eq_skeleton]; unfold cc0_fp8_gqa_attention_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    iexists _, _; isplitr; swap; · iexact HS10
    ipureintro; rfl

end Cert.KernelIdeal.Gen

end
-- ==== Proof.KernelIdeal.RunB.lean ====
/- The kernel's body run at the later points of a batch, where the keys and values are kept. -/
module

public import proofs.«01_k».proof.Proof.KernelIdeal.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2732000 in
/-- The body's triple IN CASE B (`scf.if` 0 not taken: points 1, 2, … 71: 63 of 72): on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S1x512x512 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x512x512 .bf16) (harg5 : arg5.IsWhole) (arg6 : Memref sig .tc .vmem S1x512x512 .fp8e4m3) (harg6 : arg6.IsWhole) (arg7 : Memref sig .tc .vmem S1x512x8 .f32) (harg7 : arg7.IsWhole) (arg8 : Memref sig .tc .vmem S1x4096x128 .fp8e4m3) (harg8 : arg8.IsWhole) (arg9 : Memref sig .tc .vmem S1x4096x2 .f32) (harg9 : arg9.IsWhole) (arg10 : Memref sig .tc .vmem S1x4096x128 .fp8e4m3) (harg10 : arg10.IsWhole) (arg11 : Memref sig .tc .vmem S1x1x128 .f32) (harg11 : arg11.IsWhole) (arg12 : Memref sig .tc .vmem S4x4096x128 .fp8e4m3) (harg12 : arg12.IsWhole) (arg13 : Memref sig .tc .vmem S2x4096x128 .f32) (harg13 : arg13.IsWhole) (arg14 : Memref sig .tc .vmem S128x4096 .fp8e4m3) (harg14 : arg14.IsWhole) (arg15 : Memref sig .tc .vmem S128x128 .f32) (harg15 : arg15.IsWhole) (arg16 : Memref sig .tc .vmem S512x512 .fp8e4m3) (harg16 : arg16.IsWhole) (arg17 : Memref sig .tc .vmem S8x512 .f32) (harg17 : arg17.IsWhole) (arg18 : Memref sig .tc .vmem S4096x256 .f32) (harg18 : arg18.IsWhole) (arg19 : Memref sig .tc .vmem S4096x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S512x512 .f32) (harg22 : arg22.IsWhole) (hc0 : ¬cond0_0 i)
    (x0 : Vec F S1x512x512 .bf16) (x1 : Vec F S1x4096x128 .bf16) (x2 : Vec F S1x4096x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_fp8_gqa_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_fp8_gqa_attention_eq_skeleton]; unfold cc0_fp8_gqa_attention_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    iexists _, _; isplitr; swap; · iexact HS10
    ipureintro; rfl

end Cert.KernelIdeal.Gen

end
-- ==== Proof.KernelIdeal.Frame.lean ====
/- The frame of the kernel: the body's obligation at every point, the launch, and the arguments unchanged. -/
module

public import proofs.«01_k».proof.Proof.KernelIdeal.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3, 4, 5, 6, 7, 8, 9): nothing reads what the kernel leaves in them, so nothing
    of it is named (Lib/Pipeline/Dat.lean `Dat.toRForget`). -/
def forgets0 : Fin 10 → Bool := fun w => w.val == 3 || w.val == 4 || w.val == 5 || w.val == 6 || w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 4000000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 72 := lt_of_lt_of_eq t.isLt (show cfg0.N = 72 from N_0)
  by_cases h0 : t.val % 8 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨⟨HS0, HS1, HS2, HS3, HS4, HS5, HS6, HS7, HS8, HS9, HS10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    iintro ⟨H0, H1, H2, H3, H4, H5, H6, H7, H8, H9, HS0, HS1, HS2, HS3, HS4, HS5, HS6, HS7, HS8, HS9, HS10⟩
    isplitl [HS0 HS1 HS2 HS3 HS4 HS5 HS6 HS7 HS8 HS9 HS10 Hg]
    · isplitl [HS0 HS1 HS2 HS3 HS4 HS5 HS6 HS7 HS8 HS9 HS10]
      · isplitl [HS0]
        · iexact HS0
        isplitl [HS1]
        · iexact HS1
        isplitl [HS2]
        · iexact HS2
        isplitl [HS3]
        · iexact HS3
        isplitl [HS4]
        · iexact HS4
        isplitl [HS5]
        · iexact HS5
        isplitl [HS6]
        · iexact HS6
        isplitl [HS7]
        · iexact HS7
        isplitl [HS8]
        · iexact HS8
        isplitl [HS9]
        · iexact HS9
        iexact HS10
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨⟨HS0, HS1, HS2, HS3, HS4, HS5, HS6, HS7, HS8, HS9, HS10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    iintro ⟨H0, H1, H2, H3, H4, H5, H6, H7, H8, H9, HS0, HS1, HS2, HS3, HS4, HS5, HS6, HS7, HS8, HS9, HS10⟩
    isplitl [HS0 HS1 HS2 HS3 HS4 HS5 HS6 HS7 HS8 HS9 HS10 Hg]
    · isplitl [HS0 HS1 HS2 HS3 HS4 HS5 HS6 HS7 HS8 HS9 HS10]
      · isplitl [HS0]
        · iexact HS0
        isplitl [HS1]
        · iexact HS1
        isplitl [HS2]
        · iexact HS2
        isplitl [HS3]
        · iexact HS3
        isplitl [HS4]
        · iexact HS4
        isplitl [HS5]
        · iexact HS5
        isplitl [HS6]
        · iexact HS6
        isplitl [HS7]
        · iexact HS7
        isplitl [HS8]
        · iexact HS8
        isplitl [HS9]
        · iexact HS9
        iexact HS10
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5, 6, 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of_forget m ρ (fun c => (dats m 0 c).toRForget forgets0) (A_eq m) (run_main m ρ)

/-- THE FRAME: `Cert.quiescent_KernelIdeal`'s statement (Defs.lean) at any `F` (Proof.lean cites it). -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.Attn.Quant.lean ====
/- The quantiser as the kernel computes it: the exponent by a search over its bits, the two powers of two, and the codes. -/
module

public import proofs.«01_k».proof.Proof.Gen.KernelIdeal.Skeleton
public import Idealize.ShloMosaic.Lib.Pointwise

@[expose] public section

set_option maxRecDepth 16384

noncomputable section

namespace Cert.KernelIdeal.Attn

open Idealize.ShloMosaic Idealize.ShloMosaic.TcCoe
open Cert.KernelIdeal.Gen

/-- One step of the search: take the bit if the power of two that it names is not above `y`. -/
def bitStep (y : EReal) (e bit : BitVec 32) : BitVec 32 :=
  if Ideal.ofBits .f32 ((e + bit) <<< (23 : ℕ)) ≤ y then e + bit else e

/-- The biased exponent of `y`, and 126 where `y` has none. -/
def bexp (y : EReal) : BitVec 32 :=
  let e := bitStep y (bitStep y (bitStep y (bitStep y (bitStep y (bitStep y (bitStep y (bitStep y 0#32 128#32) 64#32) 32#32) 16#32) 8#32) 4#32) 2#32) 1#32
  if e = 0#32 ∨ e = 255#32 then 126#32 else e

/-- The scale of a group whose magnitudes reach `448 y`, -/
def scaleOf (y : EReal) : EReal := Ideal.ofBits .f32 ((bexp y + 1#32) <<< (23 : ℕ))
/-- its inverse, -/
def invOf (y : EReal) : EReal := Ideal.ofBits .f32 ((253#32 - bexp y) <<< (23 : ℕ))
/-- and the clipping to the range of the codes. -/
def clip (x : EReal) : EReal := min (Ideal.ofBits .f32 0x43E00000#32) (max (Ideal.ofBits .f32 0xC3E00000#32) x)

section Ops
variable {s : Shape}

/-- One step of the search, on an array. -/
def stepV (y : FVec Ideal s .f32) (e : IVec s 32) (bit : BitVec 32) : IVec s 32 :=
  select (cmpf .oge y (bitcastToFloat .f32 (shli (addi e (broadcast s bit)) (broadcast s 23#32)))) (addi e (broadcast s bit)) e

/-- The search, on an array. -/
def expV (y : FVec Ideal s .f32) : IVec s 32 :=
  let e := stepV y (stepV y (stepV y (stepV y (stepV y (stepV y (stepV y (stepV y (broadcast s 0#32) 128#32) 64#32) 32#32) 16#32) 8#32) 4#32) 2#32) 1#32
  select (ori (cmpi .eq e (broadcast s 0#32)) (cmpi .eq e (broadcast s 255#32))) (broadcast s 126#32) e

def scaleV (y : FVec Ideal s .f32) : FVec Ideal s .f32 := bitcastToFloat .f32 (shli (addi (expV y) (broadcast s 1#32)) (broadcast s 23#32))
def invV (y : FVec Ideal s .f32) : FVec Ideal s .f32 := bitcastToFloat .f32 (shli (subi (broadcast s 253#32) (expV y)) (broadcast s 23#32))
def clipV (x : FVec Ideal s .f32) : FVec Ideal s .f32 :=
  minimumf (broadcast s (Scalar.ofBits .f32 0x43E00000#32)) (maximumf (broadcast s (Scalar.ofBits .f32 0xC3E00000#32)) x)

end Ops

theorem stepV_apply {a b : ℕ} (y : FVec Ideal ⟨2, ![a, b]⟩ .f32) (e : IVec ⟨2, ![a, b]⟩ 32) (bit : BitVec 32) (i : Fin a) (j : Fin b) :
    stepV y e bit (ix2 i j) = bitStep (y (ix2 i j)) (e (ix2 i j)) bit := by
  unfold stepV bitStep
  pointwise
  rfl

theorem select_eq (e a b r : BitVec 32) :
    Scalar.select (IntOp.ori (IntOp.cmpi .eq e a) (IntOp.cmpi .eq e b)) r e = if e = a ∨ e = b then r else e := by
  by_cases h : e = a
  · subst h
    cases h' : (e == b) <;> simp [Scalar.select, IntOp.ori, IntOp.cmpi, h']
  · by_cases h' : e = b
    · subst h'
      cases h' : (e == a) <;> simp [Scalar.select, IntOp.ori, IntOp.cmpi, h']
    · have h₁ : (e == a) = false := by simpa using h
      have h₂ : (e == b) = false := by simpa using h'
      simp [Scalar.select, IntOp.ori, IntOp.cmpi, h, h', h₁, h₂]

theorem expV_apply {a b : ℕ} (y : FVec Ideal ⟨2, ![a, b]⟩ .f32) (i : Fin a) (j : Fin b) : expV y (ix2 i j) = bexp (y (ix2 i j)) := by
  unfold expV bexp
  pointwise
  simp only [stepV_apply]
  exact select_eq _ _ _ _

theorem scaleV_apply {a b : ℕ} (y : FVec Ideal ⟨2, ![a, b]⟩ .f32) (i : Fin a) (j : Fin b) : scaleV y (ix2 i j) = scaleOf (y (ix2 i j)) := by
  unfold scaleV scaleOf
  pointwise
  rw [expV_apply]
  rfl

theorem invV_apply {a b : ℕ} (y : FVec Ideal ⟨2, ![a, b]⟩ .f32) (i : Fin a) (j : Fin b) : invV y (ix2 i j) = invOf (y (ix2 i j)) := by
  unfold invV invOf
  pointwise
  rw [expV_apply]
  rfl

theorem clipV_apply {a b : ℕ} (x : FVec Ideal ⟨2, ![a, b]⟩ .f32) (i : Fin a) (j : Fin b) : clipV x (ix2 i j) = clip (x (ix2 i j)) := by
  unfold clipV clip
  pointwise

/-- The largest magnitude of a row of a head. -/
def headMax (x : FVec Ideal S1x128x64 .bf16) : FVec Ideal S128x1 .f32 :=
  mulf (shapeCast S128x1 (multiReduction .maximumf [1] S128 (absf (extf (F := Ideal) .f32 (shapeCast S128x64 x shapeCasts_S1x128x64_S128x64) bitsLt_bf16_f32))
    0xFF800000#32 reduces_S128x64_S128 (.inl rfl) rfl) shapeCasts_S128_S128x1) (broadcast S128x1 (Scalar.ofBits .f32 0x3B124925#32))

def headCodes (x : FVec Ideal S1x128x64 .bf16) : FVec Ideal S128x64 .f32 :=
  clipV (mulf (extf (F := Ideal) .f32 (shapeCast S128x64 x shapeCasts_S1x128x64_S128x64) bitsLt_bf16_f32) (broadcastTo S128x64 (invV (headMax x)) broadcasts_S128x1_S128x64))

def headScale (x : FVec Ideal S1x128x64 .bf16) : FVec Ideal S128x1 .f32 := scaleV (headMax x)

/-- The largest magnitude of a group, over 448. -/
def level {n : ℕ} (f : Fin n → EReal) : EReal :=
  Finset.fold max (Ideal.ofBits .f32 0xFF800000#32) (fun l => FloatOps.absf (F := Ideal) (φ := .f32) (f l)) Finset.univ * Ideal.ofBits .f32 0x3B124925#32

theorem headMax_apply (x : FVec Ideal S1x128x64 .bf16) (r : Fin 128) : headMax x (ix2 r 0) = level fun l : Fin 64 => x (ix3 0 r l) := by
  unfold headMax level
  pointwise

theorem headScale_apply (x : FVec Ideal S1x128x64 .bf16) (r : Fin 128) : headScale x (ix2 r 0) = scaleOf (level fun l : Fin 64 => x (ix3 0 r l)) := by
  unfold headScale
  rw [scaleV_apply, headMax_apply]

theorem headCodes_apply (x : FVec Ideal S1x128x64 .bf16) (r : Fin 128) (l : Fin 64) :
    headCodes x (ix2 r l) = clip (x (ix3 0 r l) * invOf (level fun l : Fin 64 => x (ix3 0 r l))) := by
  unfold headCodes
  rw [clipV_apply]
  congr 1
  pointwise
  rw [invV_apply, headMax_apply]

/-- The codes of a tile of tokens, head after head. -/
def tileCodes (x₀ x₁ x₂ x₃ x₄ x₅ x₆ x₇ : FVec Ideal S1x128x64 .bf16) : FVec Ideal S128x512 .fp8e4m3 :=
  truncf (F := Ideal) .fp8e4m3 (concatenate S128x512 1 [⟨S128x64, headCodes x₀⟩, ⟨S128x64, headCodes x₁⟩, ⟨S128x64, headCodes x₂⟩, ⟨S128x64, headCodes x₃⟩,
    ⟨S128x64, headCodes x₄⟩, ⟨S128x64, headCodes x₅⟩, ⟨S128x64, headCodes x₆⟩, ⟨S128x64, headCodes x₇⟩]
    concatenates_S128x64_S128x64_S128x64_S128x64_S128x64_S128x64_S128x64_S128x64_S128x512_d1) bitsLt_fp8e4m3_f32

/-- The scales of a tile of tokens. -/
def tileScales (x₀ x₁ x₂ x₃ x₄ x₅ x₆ x₇ : FVec Ideal S1x128x64 .bf16) : FVec Ideal S128x8 .f32 :=
  concatenate S128x8 1 [⟨S128x1, headScale x₀⟩, ⟨S128x1, headScale x₁⟩, ⟨S128x1, headScale x₂⟩, ⟨S128x1, headScale x₃⟩,
    ⟨S128x1, headScale x₄⟩, ⟨S128x1, headScale x₅⟩, ⟨S128x1, headScale x₆⟩, ⟨S128x1, headScale x₇⟩]
    concatenates_S128x1_S128x1_S128x1_S128x1_S128x1_S128x1_S128x1_S128x1_S128x8_d1

/-- The factors of the exponents: the scales times the constant, transposed. -/
def tileFactors (x₀ x₁ x₂ x₃ x₄ x₅ x₆ x₇ : FVec Ideal S1x128x64 .bf16) : FVec Ideal S8x128 .f32 :=
  mulf (transpose S8x128 [1, 0] (tileScales x₀ x₁ x₂ x₃ x₄ x₅ x₆ x₇) transposes_S128x8_p1_0_S8x128)
    (broadcast S8x128 (Named.named (φ := .f32) κ "sm_scale_log2e" 0x3E38AA3B#32))

theorem codes_at {x : ℕ → ℕ → EReal} {y : FVec Ideal S1x128x64 .bf16} {o : ℕ} (h : ∀ (r : Fin 128) (l : Fin 64), y (ix3 0 r l) = x r (o + l))
    (r : Fin 128) (l : Fin 64) (c : ℕ) (hc : c = o + l) (ho : 64 * (c / 64) = o) :
    headCodes y (ix2 r l) = clip (x r c * invOf (level fun l : Fin 64 => x r (64 * (c / 64) + l))) := by
  rw [headCodes_apply, ho, hc]
  simp only [h]

theorem scales_at {x : ℕ → ℕ → EReal} {y : FVec Ideal S1x128x64 .bf16} {o : ℕ} (h : ∀ (r : Fin 128) (l : Fin 64), y (ix3 0 r l) = x r (o + l))
    (r : Fin 128) (z : Fin 1) (c : ℕ) (ho : 64 * c = o) :
    headScale y (ix2 r z) = scaleOf (level fun l : Fin 64 => x r (64 * c + l)) := by
  rw [Subsingleton.elim z 0, headScale_apply, ho]
  simp only [h]

section Tile
variable {x : ℕ → ℕ → EReal} {x₀ x₁ x₂ x₃ x₄ x₅ x₆ x₇ : FVec Ideal S1x128x64 .bf16}
  (h₀ : ∀ (r : Fin 128) (l : Fin 64), x₀ (ix3 0 r l) = x r (0 + l)) (h₁ : ∀ (r : Fin 128) (l : Fin 64), x₁ (ix3 0 r l) = x r (64 + l))
  (h₂ : ∀ (r : Fin 128) (l : Fin 64), x₂ (ix3 0 r l) = x r (128 + l)) (h₃ : ∀ (r : Fin 128) (l : Fin 64), x₃ (ix3 0 r l) = x r (192 + l))
  (h₄ : ∀ (r : Fin 128) (l : Fin 64), x₄ (ix3 0 r l) = x r (256 + l)) (h₅ : ∀ (r : Fin 128) (l : Fin 64), x₅ (ix3 0 r l) = x r (320 + l))
  (h₆ : ∀ (r : Fin 128) (l : Fin 64), x₆ (ix3 0 r l) = x r (384 + l)) (h₇ : ∀ (r : Fin 128) (l : Fin 64), x₇ (ix3 0 r l) = x r (448 + l))
include h₀ h₁ h₂ h₃ h₄ h₅ h₆ h₇

theorem tileCodes_apply (r : Fin 128) (c : Fin 512) :
    tileCodes x₀ x₁ x₂ x₃ x₄ x₅ x₆ x₇ (ix2 r c) = clip (x r c * invOf (level fun l : Fin 64 => x r (64 * (c / 64) + l))) := by
  unfold tileCodes
  pointwise
  have hc := c.isLt
  split
  · exact codes_at h₀ r _ c (by show c.val = 0 + (c.val); omega) (by omega)
  split
  · exact codes_at h₁ r _ c (by show c.val = 64 + (c.val - 64); omega) (by omega)
  split
  · exact codes_at h₂ r _ c (by show c.val = 128 + (c.val - 64 - 64); omega) (by omega)
  split
  · exact codes_at h₃ r _ c (by show c.val = 192 + (c.val - 64 - 64 - 64); omega) (by omega)
  split
  · exact codes_at h₄ r _ c (by show c.val = 256 + (c.val - 64 - 64 - 64 - 64); omega) (by omega)
  split
  · exact codes_at h₅ r _ c (by show c.val = 320 + (c.val - 64 - 64 - 64 - 64 - 64); omega) (by omega)
  split
  · exact codes_at h₆ r _ c (by show c.val = 384 + (c.val - 64 - 64 - 64 - 64 - 64 - 64); omega) (by omega)
  · exact codes_at h₇ r _ c (by show c.val = 448 + (c.val - 64 - 64 - 64 - 64 - 64 - 64 - 64); omega) (by omega)

theorem tileScales_apply (r : Fin 128) (c : Fin 8) :
    tileScales x₀ x₁ x₂ x₃ x₄ x₅ x₆ x₇ (ix2 r c) = scaleOf (level fun l : Fin 64 => x r (64 * c + l)) := by
  unfold tileScales
  pointwise
  have hc := c.isLt
  split
  · exact scales_at h₀ r _ c (by omega)
  split
  · exact scales_at h₁ r _ c (by omega)
  split
  · exact scales_at h₂ r _ c (by omega)
  split
  · exact scales_at h₃ r _ c (by omega)
  split
  · exact scales_at h₄ r _ c (by omega)
  split
  · exact scales_at h₅ r _ c (by omega)
  split
  · exact scales_at h₆ r _ c (by omega)
  · exact scales_at h₇ r _ c (by omega)

theorem tileFactors_apply (r : Fin 128) (c : Fin 8) :
    tileFactors x₀ x₁ x₂ x₃ x₄ x₅ x₆ x₇ (ix2 c r) = scaleOf (level fun l : Fin 64 => x r (64 * c + l)) * Named.named (F := Ideal) (φ := .f32) κ "sm_scale_log2e" 0x3E38AA3B#32 := by
  rw [← tileScales_apply h₀ h₁ h₂ h₃ h₄ h₅ h₆ h₇]
  unfold tileFactors
  pointwise

end Tile

end Cert.KernelIdeal.Attn

end
-- ==== Proof.Attn.Scale.lean ====
/-
  THE POWER OF TWO that a group of values is quantised with: the search over the bits of an exponent field finds the exponent
  `⌊log₂ y⌋ + 1` of the power of two just above `y`, so that the scale is that power and the inverse scale its inverse.
-/
module

public import proofs.«01_k».proof.Proof.Attn.Quant

@[expose] public section

noncomputable section

namespace Cert.KernelIdeal.Attn

open Idealize.ShloMosaic

/-! ## Patterns of powers of two -/

theorem bits_field : ∀ n : Fin 256, ((BitVec.ofNat 32 n.val <<< (23 : ℕ)).extractLsb' 23 8).toNat = n.val
    ∧ ((BitVec.ofNat 32 n.val <<< (23 : ℕ)).extractLsb' 0 23).toNat = 0 ∧ ((BitVec.ofNat 32 n.val <<< (23 : ℕ)).extractLsb' 31 1 == 1#1) = false := by
  decide +kernel

/-- The pattern with exponent field `n` and no fraction. -/
def thr (n : ℕ) : EReal := Ideal.ofBits .f32 (BitVec.ofNat 32 n <<< (23 : ℕ))

theorem thr_eq (n : ℕ) (h₁ : 1 ≤ n) (h₂ : n ≤ 254) : thr n = (((2 : ℝ) ^ ((n : ℤ) - 127) : ℝ) : EReal) := by
  obtain ⟨a, b, c⟩ := bits_field ⟨n, by omega⟩
  simp only at a b c
  have e : ((n : ℤ) - 127) = 23 + ((n : ℤ) - (2 ^ (8 - 1) - 1) - 23) := by omega
  simp only [thr, Ideal.ofBits, Ideal.ieee, a, b, Nat.reduceAdd, c]
  rw [if_neg (by norm_num; omega), if_neg (by omega)]
  refine congrArg (fun r : ℝ => (r : EReal)) ?_
  rw [e, zpow_add₀ (by norm_num)]
  norm_num

theorem thr_zero : thr 0 = 0 := by
  obtain ⟨a, b, c⟩ := bits_field ⟨0, by omega⟩
  simp only at a b c
  simp [thr, Ideal.ofBits, Ideal.ieee]

theorem thr_top : thr 255 = ⊤ := by
  obtain ⟨a, b, c⟩ := bits_field ⟨255, by omega⟩
  simp only at a b c
  simp only [thr, Ideal.ofBits, Ideal.ieee, a, b, Nat.reduceAdd, c]
  norm_num

theorem min_normal : Ideal.ofBits .f32 0x00800000#32 = (((2 : ℝ) ^ (-126 : ℤ) : ℝ) : EReal) := by
  have := thr_eq 1 le_rfl (by norm_num)
  rw [show (((1 : ℕ) : ℤ) - 127) = -126 by norm_num] at this
  exact this
theorem ofBits_two : Ideal.ofBits .f32 0x40000000#32 = ((2 : ℝ) : EReal) := by
  have := thr_eq 128 (by norm_num) (by norm_num)
  rw [show (((128 : ℕ) : ℤ) - 127) = 1 by norm_num, zpow_one] at this
  exact this
theorem ofBits_one : Ideal.ofBits .f32 0x3F800000#32 = ((1 : ℝ) : EReal) := by
  have := thr_eq 127 (by norm_num) (by norm_num)
  rw [show (((127 : ℕ) : ℤ) - 127) = 0 by norm_num, zpow_zero] at this
  exact this
theorem ofBits_zero : Ideal.ofBits .f32 0x00000000#32 = ((0 : ℝ) : EReal) := by
  have := thr_zero
  rw [EReal.coe_zero]
  exact this

/-! ## The search -/

/-- One step of the search for `N`. -/
def stepN (N : ℕ) (e bit : BitVec 32) : BitVec 32 := if (e + bit).toNat ≤ N then e + bit else e

/-- The search for `N`, and that no candidate leaves the field. -/
theorem search : ∀ N : Fin 256,
    stepN N (stepN N (stepN N (stepN N (stepN N (stepN N (stepN N (stepN N 0#32 128#32) 64#32) 32#32) 16#32) 8#32) 4#32) 2#32) 1#32
      = BitVec.ofNat 32 N.val := by
  decide +kernel
theorem cand2 : ∀ N : Fin 256, (stepN N 0#32 128#32 + 64#32).toNat ≤ 255 := by decide +kernel
theorem cand3 : ∀ N : Fin 256, (stepN N (stepN N 0#32 128#32) 64#32 + 32#32).toNat ≤ 255 := by decide +kernel
theorem cand4 : ∀ N : Fin 256, (stepN N (stepN N (stepN N 0#32 128#32) 64#32) 32#32 + 16#32).toNat ≤ 255 := by decide +kernel
theorem cand5 : ∀ N : Fin 256, (stepN N (stepN N (stepN N (stepN N 0#32 128#32) 64#32) 32#32) 16#32 + 8#32).toNat ≤ 255 := by decide +kernel
theorem cand6 : ∀ N : Fin 256, (stepN N (stepN N (stepN N (stepN N (stepN N 0#32 128#32) 64#32) 32#32) 16#32) 8#32 + 4#32).toNat ≤ 255 := by
  decide +kernel
theorem cand7 : ∀ N : Fin 256,
    (stepN N (stepN N (stepN N (stepN N (stepN N (stepN N 0#32 128#32) 64#32) 32#32) 16#32) 8#32) 4#32 + 2#32).toNat ≤ 255 := by
  decide +kernel
theorem cand8 : ∀ N : Fin 256,
    (stepN N (stepN N (stepN N (stepN N (stepN N (stepN N (stepN N 0#32 128#32) 64#32) 32#32) 16#32) 8#32) 4#32) 2#32 + 1#32).toNat ≤ 255 := by
  decide +kernel

theorem bitStep_eq (y : EReal) (N : Fin 256) (h : ∀ n ≤ 255, thr n ≤ y ↔ n ≤ N.val) (e bit : BitVec 32) (hb : (e + bit).toNat ≤ 255) :
    bitStep y e bit = stepN N e bit := by
  have := h _ hb
  rw [thr, BitVec.ofNat_toNat, BitVec.setWidth_eq] at this
  simp only [bitStep, stepN, this]

theorem bexp_eq (y : EReal) (N : Fin 256) (h : ∀ n ≤ 255, thr n ≤ y ↔ n ≤ N.val) (hN : N.val ≤ 254) :
    bexp y = BitVec.ofNat 32 (if N.val = 0 then 126 else N.val) := by
  have e : bitStep y (bitStep y (bitStep y (bitStep y (bitStep y (bitStep y (bitStep y (bitStep y 0#32 128#32) 64#32) 32#32) 16#32) 8#32) 4#32) 2#32) 1#32
      = BitVec.ofNat 32 N.val := by
    rw [bitStep_eq y N h 0#32 128#32 (by decide), bitStep_eq y N h _ _ (cand2 N), bitStep_eq y N h _ _ (cand3 N),
      bitStep_eq y N h _ _ (cand4 N), bitStep_eq y N h _ _ (cand5 N), bitStep_eq y N h _ _ (cand6 N), bitStep_eq y N h _ _ (cand7 N),
      bitStep_eq y N h _ _ (cand8 N), search N]
  have e0 : (BitVec.ofNat 32 N.val = 0#32) ↔ N.val = 0 := by
    rw [← BitVec.toNat_inj]; simp; omega
  have e1 : ¬ BitVec.ofNat 32 N.val = 255#32 := by
    rw [← BitVec.toNat_inj]; simp; omega
  simp only [bexp, e, e0, e1, or_false]
  split <;> rfl

/-- The thresholds at or below a magnitude in the range of the `N`th binade. -/
theorem thr_le_iff (y : ℝ) (N : ℕ) (h₁ : 1 ≤ N) (h₂ : N ≤ 253) (hl : (2 : ℝ) ^ ((N : ℤ) - 127) ≤ y) (hu : y < (2 : ℝ) ^ ((N : ℤ) - 126))
    (n : ℕ) (hn : n ≤ 255) : thr n ≤ (y : EReal) ↔ n ≤ N := by
  rcases Nat.eq_zero_or_pos n with rfl | hp
  · rw [thr_zero]
    have : (0 : ℝ) ≤ y := le_trans (by positivity) hl
    simpa using this
  · by_cases h255 : n = 255
    · subst h255
      rw [thr_top]
      simp
      omega
    · rw [thr_eq n hp (by omega), EReal.coe_le_coe_iff]
      constructor
      · intro h
        by_contra hc
        have : (2 : ℝ) ^ ((N : ℤ) - 126) ≤ (2 : ℝ) ^ ((n : ℤ) - 127) := zpow_le_zpow_right₀ (by norm_num) (by omega)
        linarith
      · intro h
        exact le_trans (zpow_le_zpow_right₀ (by norm_num) (by omega)) hl

theorem thr_le_iff_zero (y : ℝ) (h0 : 0 ≤ y) (hu : y < (2 : ℝ) ^ (-126 : ℤ)) (n : ℕ) (hn : n ≤ 255) :
    thr n ≤ (y : EReal) ↔ n ≤ 0 := by
  rcases Nat.eq_zero_or_pos n with rfl | hp
  · rw [thr_zero]
    simpa using h0
  · by_cases h255 : n = 255
    · subst h255
      rw [thr_top]
      simp
    · rw [thr_eq n hp (by omega), EReal.coe_le_coe_iff]
      constructor
      · intro h
        have : (2 : ℝ) ^ (-126 : ℤ) ≤ (2 : ℝ) ^ ((n : ℤ) - 127) := zpow_le_zpow_right₀ (by norm_num) (by omega)
        linarith
      · omega

/-! ## The exponent by logarithms -/

/-- The exponent as the logarithm gives it; zero below the normal range. -/
def expOf (y : EReal) : EReal :=
  if y < Ideal.ofBits .f32 0x00800000#32 then Ideal.ofBits .f32 0x00000000#32
  else Ideal.liftRound Int.floor (Ideal.div (Ideal.log y) (Ideal.log (Ideal.ofBits .f32 0x40000000#32))) + Ideal.ofBits .f32 0x3F800000#32

theorem expOf_eq (y : ℝ) (n : ℤ) (h : (2 : ℝ) ^ (-126 : ℤ) ≤ y) (hl : (2 : ℝ) ^ n ≤ y) (hu : y < (2 : ℝ) ^ (n + 1)) :
    expOf y = (((n + 1 : ℤ) : ℝ) : EReal) := by
  have hy : 0 < y := lt_of_lt_of_le (by positivity) h
  have h2 : 0 < Real.log 2 := Real.log_pos (by norm_num)
  rw [expOf, min_normal, if_neg (by rw [EReal.coe_lt_coe_iff]; exact not_lt.mpr h), ofBits_two, ofBits_one, Ideal.log_coe, Ideal.log_coe,
    if_neg (not_le.mpr hy), if_neg (by norm_num), Ideal.div_coe h2.ne', ← EReal.coe_mul]
  have hf : ⌊Real.log y * (1 / Real.log 2)⌋ = n := by
    rw [Int.floor_eq_iff, mul_one_div, le_div_iff₀ h2, div_lt_iff₀ h2]
    have l := Real.log_le_log (by positivity) hl
    have u := Real.log_lt_log hy hu
    rw [Real.log_zpow] at l u
    push_cast at u
    exact ⟨l, u⟩
  show ((⌊_⌋ : ℝ) : EReal) + _ = _
  rw [hf, ← EReal.coe_add]
  push_cast
  rfl

/-- **The scale and its inverse** are the powers of two of the exponent that the logarithm gives. -/
theorem scale_eq (y : ℝ) (h0 : 0 ≤ y) (hy : y < 2 ^ 120) :
    ∃ e : ℤ, expOf y = ((e : ℝ) : EReal) ∧ scaleOf y = (((2 : ℝ) ^ e : ℝ) : EReal) ∧ invOf y = (((2 : ℝ) ^ (-e) : ℝ) : EReal) := by
  by_cases h : (2 : ℝ) ^ (-126 : ℤ) ≤ y
  · have hp : 0 < y := lt_of_lt_of_le (by positivity) h
    obtain ⟨k, hl, hu⟩ := exists_mem_Ico_zpow (x := y) (y := 2) hp (by norm_num)
    have lo : -126 ≤ k := by
      by_contra hc
      have : (2 : ℝ) ^ (k + 1) ≤ (2 : ℝ) ^ (-126 : ℤ) := zpow_le_zpow_right₀ (by norm_num) (by omega)
      linarith
    have hi : k < 120 := by
      by_contra hc
      have : (2 : ℝ) ^ (120 : ℤ) ≤ (2 : ℝ) ^ (k) := zpow_le_zpow_right₀ (by norm_num) (by omega)
      have e : (2 : ℝ) ^ (120 : ℤ) = 2 ^ 120 := by norm_cast
      linarith
    obtain ⟨N, hN⟩ : ∃ N : ℕ, (N : ℤ) = k + 127 := ⟨(k + 127).toNat, by omega⟩
    have hb := bexp_eq y ⟨N, by omega⟩ (fun n hn => thr_le_iff y N (by omega) (by omega)
      (by rw [hN]; simpa using hl) (by rw [hN, show k + 127 - 126 = k + 1 by ring]; exact hu) n hn) (by show N ≤ 254; omega)
    rw [if_neg (show ¬ N = 0 by omega)] at hb
    refine ⟨k + 1, expOf_eq y k h hl hu, ?_, ?_⟩
    · have := thr_eq (N + 1) (by omega) (by omega)
      rw [scaleOf, hb, show k + 1 = ((N + 1 : ℕ) : ℤ) - 127 by push_cast; omega, ← this, thr]
      congr 2
      apply BitVec.eq_of_toNat_eq
      simp
    · have := thr_eq (253 - N) (by omega) (by omega)
      rw [invOf, hb, show -(k + 1) = ((253 - N : ℕ) : ℤ) - 127 by omega, ← this, thr]
      congr 2
      apply BitVec.eq_of_toNat_eq
      rw [BitVec.toNat_sub]
      simp
      omega
  · have h' : y < (2 : ℝ) ^ (-126 : ℤ) := not_le.mp h
    have hb := bexp_eq y 0 (fun n hn => thr_le_iff_zero y h0 h' n hn) (by norm_num)
    rw [if_pos (by rfl)] at hb
    refine ⟨0, ?_, ?_, ?_⟩
    · rw [expOf, min_normal, if_pos (by rw [EReal.coe_lt_coe_iff]; exact h'), ofBits_zero]
      simp
    · have := thr_eq 127 (by norm_num) (by norm_num)
      rw [scaleOf, hb]
      exact this.trans (by norm_num)
    · have := thr_eq 127 (by norm_num) (by norm_num)
      rw [invOf, hb]
      exact this.trans (by norm_num)

end Cert.KernelIdeal.Attn

end
-- ==== Proof.Attn.Tiles.lean ====
/- One tile of the attention loop over the ideal values: what the score tile, the running maximum, the
   probabilities, the running sum and the running product hold, as plain functions of row and column numbers. -/
module

public import proofs.«01_k».proof.Proof.Gen.KernelIdeal.Skeleton
public import Idealize.ShloMosaic.Lib.Pointwise

@[expose] public section

set_option maxRecDepth 16384

noncomputable section

namespace Cert.KernelIdeal.Attn

open Idealize.ShloMosaic

/-- What the stored arrays of a batch hold, by row and column numbers. -/
structure Bufs where
  KP : ℕ → ℕ → ℕ → EReal
  KS : ℕ → ℕ → ℕ → EReal
  VT : ℕ → ℕ → EReal
  VS : ℕ → ℕ → EReal
  QC : ℕ → ℕ → EReal
  CS : ℕ → ℕ → EReal

/-- The score of key `s` against query column `t` of unit `u`. -/
def score (B : Bufs) (u s t : ℕ) : EReal :=
  (∑ l : Fin 128, B.KP (u / 2 / 4 * 2 + u / 2 % 2) s l * B.QC (u % 2 * 256 + t) (u / 2 / 2 * 128 + l))
    * B.KS (u / 2 / 4) s (t % 128)

/-- The greatest score of column `t` of unit `u`. -/
def top (B : Bufs) (u t : ℕ) : EReal := (Finset.univ : Finset (Fin 4096)).sup fun s => score B u s t

/-- The unnormalised probability of key `s` at column `t` of unit `u`. -/
def prob (B : Bufs) (u s t : ℕ) : EReal :=
  Ideal.exp2 ((score B u s t - top B u t) * B.CS (u / 2) (u % 2 * 256 + t))

/-- The code of a probability before its cast: scaled by 256 and clipped. -/
def pcode (p : EReal) : EReal :=
  min (Ideal.ofBits .f32 0x43E00000#32) (max (Ideal.ofBits .f32 0xC3E00000#32) (p * Ideal.ofBits .f32 0x43800000#32))

/-- The result at dimension `d` and column `t` of unit `u`. -/
def result (B : Bufs) (u d t : ℕ) : EReal :=
  Ideal.div ((∑ s ∈ Finset.range 4096, B.VT (u / 2 / 4 * 64 + d) s * pcode (prob B u s t))
      * (Ideal.ofBits .f32 0x3B800000#32 * B.VS (u / 2 / 4 * 64 + d) 0))
    (∑ s ∈ Finset.range 4096, prob B u s t)

/-- A tile holds rows `256 n …` of `G`. -/
def TileIs (G : ℕ → ℕ → EReal) (n : ℕ) (v : FVec Ideal S256x256 .f32) : Prop :=
  ∀ (a b : Fin 256), v (ix2 a b) = G (256 * n + a) b

/-- The running maximum after `n` tiles, kept in eight rows. -/
def MaxUpTo (G : ℕ → ℕ → EReal) (n : ℕ) (v : FVec Ideal S8x256 .f32) : Prop :=
  ∀ (a : Fin 8) (b : Fin 256) (x : EReal), v (ix2 a b) ≤ x ↔ ∀ r < 32 * n, G (8 * r + a) b ≤ x

/-- The running sum after `n` tiles, kept in eight rows. -/
def SumUpTo (G : ℕ → ℕ → EReal) (n : ℕ) (v : FVec Ideal S8x256 .f32) : Prop :=
  ∀ (a : Fin 8) (b : Fin 256), v (ix2 a b) = ∑ r ∈ Finset.range (32 * n), G (8 * r + a) b

/-- The running product after `n` tiles. -/
def ProdUpTo (A : ℕ → ℕ → EReal) (G : ℕ → ℕ → EReal) (n : ℕ) (v : FVec Ideal S64x256 .f32) : Prop :=
  ∀ (d : Fin 64) (b : Fin 256), v (ix2 d b) = ∑ s ∈ Finset.range (256 * n), A d s * pcode (G s b)

variable {B : Bufs} {u n : ℕ}

/-- The score tile: the product of the padded keys with the queries, times the key scales. -/
theorem tileIs_score (kp : FVec Ideal S1x256x128 .fp8e4m3) (q : FVec Ideal S256x128 .fp8e4m3) (ks : FVec Ideal S1x256x128 .f32)
    (h₁ h₂ h₃) (hkp : ∀ (a : Fin 256) (l : Fin 128), kp (ix3 0 a l) = B.KP (u / 2 / 4 * 2 + u / 2 % 2) (256 * n + a) l)
    (hq : ∀ (a : Fin 256) (l : Fin 128), q (ix2 a l) = B.QC (u % 2 * 256 + a) (u / 2 / 2 * 128 + l))
    (hks : ∀ (a : Fin 256) (l : Fin 128), ks (ix3 0 a l) = B.KS (u / 2 / 4) (256 * n + a) l) :
    TileIs (score B u) n (mulf (matmul dot_S256x128_S256x128_S256x256_1_1_0_0_n_n none (shapeCast S256x128 kp h₁) q
        (constant S256x256 .f32 0x00000000#32))
      (concatenate S256x256 1 [⟨S256x128, shapeCast S256x128 ks h₂⟩, ⟨S256x128, shapeCast S256x128 ks h₂⟩] h₃)) := by
  intro a b
  pointwise
  have hb : (b : ℕ) % 128 = if (b : ℕ) < 128 then (b : ℕ) else b - 128 := by split <;> omega
  simp only [hkp, hq, score, hb]
  by_cases h : (b : ℕ) < 128
  · simp only [h, ↓reduceDIte, ↓reduceIte, hks]
  · simp only [h, ↓reduceDIte, ↓reduceIte, hks]

/-- The running maximum takes one more tile. -/
theorem maxUpTo_step {G : ℕ → ℕ → EReal} (mx : FVec Ideal S8x256 .f32) (v : FVec Ideal S256x256 .f32) (h₁ h₂ h₃ h₄)
    (hm : MaxUpTo G n mx) (hv : TileIs G n v) :
    MaxUpTo G (n + 1) (maximumf mx (multiReduction .maximumf [0] S8x256 (shapeCast S32x8x256 v h₁) 0xFF800000#32 h₂ h₃ h₄)) := by
  intro a b x
  pointwise
  simp only [hv _ _, Fin.val_mk]
  rw [max_le_iff, Finset.fold_max_le, hm]
  have hbot : Ideal.ofBits FTy.f32 4286578688#32 = ⊥ := by simp [Ideal.ofBits, Ideal.ieee]
  rw [hbot]
  constructor
  · rintro ⟨h1, -, h2⟩ r hr
    by_cases hr' : r < 32 * n
    · exact h1 r hr'
    · have := h2 ⟨r - 32 * n, by omega⟩ (Finset.mem_univ _)
      convert this using 2
      show _ = 256 * n + ((r - 32 * n) * 8 + _)
      omega
  · intro h
    refine ⟨fun r hr => h r (by omega), bot_le, fun r _ => ?_⟩
    convert h (32 * n + r) (by omega) using 2
    omega

/-- The running sum takes one more tile. -/
theorem sumUpTo_step {G : ℕ → ℕ → EReal} (l : FVec Ideal S8x256 .f32) (v : FVec Ideal S256x256 .f32) (h₁ h₂ h₃ h₄)
    (hm : SumUpTo G n l) (hv : TileIs G n v) :
    SumUpTo G (n + 1) (addf l (multiReduction .add [0] S8x256 (shapeCast S32x8x256 v h₁) 0x00000000#32 h₂ h₃ h₄)) := by
  intro a b
  pointwise
  simp only [hv _ _, Fin.val_mk]
  rw [hm, Nat.mul_add, Nat.mul_one, Finset.sum_range_add, ← Fin.sum_univ_eq_sum_range (fun r => G (8 * (32 * n + r) + a) b) 32]
  refine congrArg _ (Finset.sum_congr rfl fun r _ => ?_)
  congr 1; omega

/-- The running product takes one more tile. -/
theorem prodUpTo_step {A G : ℕ → ℕ → EReal} (acc : FVec Ideal S64x256 .f32) (vt : FVec Ideal S64x256 .fp8e4m3) (p : FVec Ideal S256x256 .f32) (h₁)
    (hvt : ∀ (d : Fin 64) (s : Fin 256), vt (ix2 d s) = A d (256 * n + s))
    (hm : ProdUpTo A G n acc) (hv : TileIs G n p) :
    ProdUpTo A G (n + 1) (addf acc (matmul dot_S64x256_S256x256_S64x256_1_0_0_1_n_n none vt
      (truncf (F := Ideal) .fp8e4m3 (minimumf (broadcast S256x256 (FloatOps.ofBits .f32 0x43E00000#32)) (maximumf (broadcast S256x256 (FloatOps.ofBits .f32 0xC3E00000#32))
        (mulf p (broadcast S256x256 (FloatOps.ofBits .f32 0x43800000#32))))) h₁) (constant S64x256 .f32 0x00000000#32))) := by
  intro d b
  pointwise
  simp only [hvt, hv _ _]
  rw [hm, Nat.mul_add, Nat.mul_one, Finset.sum_range_add, ← Fin.sum_univ_eq_sum_range (fun s => A d (256 * n + s) * pcode (G (256 * n + s) b)) 256]
  rfl

/-- The probabilities of a tile. -/
theorem tileIs_prob (s : FVec Ideal S256x256 .f32) (mx c : FVec Ideal S1x256 .f32) (h₁ h₂)
    (hs : TileIs (score B u) n s) (hm : ∀ b : Fin 256, mx (ix2 0 b) = top B u b)
    (hc : ∀ b : Fin 256, c (ix2 0 b) = B.CS (u / 2) (u % 2 * 256 + b)) :
    TileIs (prob B u) n (exp2 (mulf (subf s (broadcastTo S256x256 mx h₁)) (broadcastTo S256x256 c h₂))) := by
  intro a b
  pointwise
  rw [hs, hm, hc]; rfl

/-- The greatest score, from the eight running rows. -/
theorem top_of_maxUpTo (mx : FVec Ideal S8x256 .f32) (h₁ h₂ h₃ h₄) (hm : MaxUpTo (score B u) 16 mx) (b : Fin 256) :
    shapeCast S1x256 (multiReduction .maximumf [0] S256 mx 0xFF800000#32 h₁ h₂ h₃) h₄ (ix2 0 b) = top B u b := by
  pointwise
  have hbot : Ideal.ofBits FTy.f32 4286578688#32 = ⊥ := by simp [Ideal.ofBits, Ideal.ieee]
  refine eq_of_forall_ge_iff fun x => ?_
  rw [Finset.fold_max_le, hbot, top, Finset.sup_le_iff]
  constructor
  · rintro ⟨-, h⟩ s -
    have := (hm ⟨s % 8, by omega⟩ b x).mp (h _ (Finset.mem_univ _)) (s / 8) (by omega)
    convert this using 2
    show (s : ℕ) = 8 * (s / 8) + s % 8
    omega
  · intro h
    refine ⟨bot_le, fun a _ => (hm a b x).mpr fun r hr => h ⟨8 * r + a, by omega⟩ (Finset.mem_univ _)⟩

/-- The finished tile of a unit. -/
theorem result_of (l : FVec Ideal S8x256 .f32) (acc : FVec Ideal S64x256 .f32) (vs : FVec Ideal S64x1 .f32) (h₁ h₂ h₃ h₄ h₅ h₆)
    (hl : SumUpTo (prob B u) 16 l) (hacc : ProdUpTo (fun d => B.VT (u / 2 / 4 * 64 + d)) (prob B u) 16 acc)
    (hvs : ∀ d : Fin 64, vs (ix2 d 0) = B.VS (u / 2 / 4 * 64 + d) 0) (d : Fin 64) (b : Fin 256) :
    divf (mulf acc (broadcastTo S64x256 (mulf (broadcast S64x1 (FloatOps.ofBits .f32 0x3B800000#32)) vs) h₁))
      (broadcastTo S64x256 (shapeCast S1x256 (multiReduction .add [0] S256 l 0x00000000#32 h₂ h₃ h₄) h₅) h₆) (ix2 d b) = result B u d b := by
  pointwise
  rw [hacc, hvs, result]
  congr 1
  simp only [hl _ _]
  rw [Finset.sum_comm, ← Fin.sum_univ_eq_sum_range (fun r => ∑ x : Fin 8, prob B u (8 * r + x) b) (32 * 16),
    ← Fin.sum_univ_eq_sum_range (fun s => prob B u s b) 4096, ← Fintype.sum_prod_type']
  refine Fintype.sum_equiv (finProdFinEquiv (m := 512) (n := 8)) _ _ fun p => ?_
  show _ = prob B u (p.2 + 8 * p.1 : ℕ) b
  rw [Nat.add_comm]

end Cert.KernelIdeal.Attn

end
-- ==== Proof.Attn.Real.lean ====
/-
  WITH FINITE ARGUMENTS: a level is a real number that the exponent search covers, so that scales are powers of two and codes are
  real numbers; and the softmax of scores scaled after the maximum, to base 2, is that of scores scaled before it, to base e.
-/
module

public import proofs.«01_k».proof.Proof.Attn.Scale
public import proofs.«01_k».proof.Proof.Attn.Tiles

@[expose] public section

noncomputable section

namespace Cert.KernelIdeal.Attn

open Idealize.ShloMosaic

/-- What a finite bf16 argument is. -/
def Small (x : EReal) : Prop := ∃ r : ℝ, x = (r : EReal) ∧ |r| ≤ 2 ^ 128

theorem ofBits_ninf : Ideal.ofBits .f32 0xFF800000#32 = ⊥ := by
  simp [Ideal.ofBits, Ideal.ieee]

theorem ofBits_448 : Ideal.ofBits .f32 0x43E00000#32 = ((448 : ℝ) : EReal) := by
  have a : ((0x43E00000#32 : BitVec 32).extractLsb' 23 8).toNat = 135 := by decide
  have b : ((0x43E00000#32 : BitVec 32).extractLsb' 0 23).toNat = 6291456 := by decide
  have c : ((0x43E00000#32 : BitVec 32).extractLsb' 31 1 == 1#1) = false := by decide
  simp only [Ideal.ofBits, Ideal.ieee, a, b, Nat.reduceAdd, c]
  rw [if_neg (by norm_num), if_neg (by norm_num)]
  refine congrArg (fun r : ℝ => (r : EReal)) ?_
  norm_num
theorem ofBits_neg448 : Ideal.ofBits .f32 0xC3E00000#32 = ((-448 : ℝ) : EReal) := by
  have a : ((0xC3E00000#32 : BitVec 32).extractLsb' 23 8).toNat = 135 := by decide
  have b : ((0xC3E00000#32 : BitVec 32).extractLsb' 0 23).toNat = 6291456 := by decide
  have c : ((0xC3E00000#32 : BitVec 32).extractLsb' 31 1 == 1#1) = true := by decide
  simp only [Ideal.ofBits, Ideal.ieee, a, b, Nat.reduceAdd, c]
  rw [if_neg (by norm_num), if_neg (by norm_num)]
  refine congrArg (fun r : ℝ => (r : EReal)) ?_
  norm_num
theorem ofBits_eighth : Ideal.ofBits .f32 0x3E000000#32 = ((1 / 8 : ℝ) : EReal) := by
  have a : ((0x3E000000#32 : BitVec 32).extractLsb' 23 8).toNat = 124 := by decide
  have b : ((0x3E000000#32 : BitVec 32).extractLsb' 0 23).toNat = 0 := by decide
  have c : ((0x3E000000#32 : BitVec 32).extractLsb' 31 1 == 1#1) = false := by decide
  simp only [Ideal.ofBits, Ideal.ieee, a, b, Nat.reduceAdd, c]
  rw [if_neg (by norm_num), if_neg (by norm_num)]
  refine congrArg (fun r : ℝ => (r : EReal)) ?_
  norm_num
theorem ofBits_inv448 : Ideal.ofBits .f32 0x3B124925#32 = ((9586981 / 4294967296 : ℝ) : EReal) := by
  have a : ((0x3B124925#32 : BitVec 32).extractLsb' 23 8).toNat = 118 := by decide
  have b : ((0x3B124925#32 : BitVec 32).extractLsb' 0 23).toNat = 1198373 := by decide
  have c : ((0x3B124925#32 : BitVec 32).extractLsb' 31 1 == 1#1) = false := by decide
  simp only [Ideal.ofBits, Ideal.ieee, a, b, Nat.reduceAdd, c]
  rw [if_neg (by norm_num), if_neg (by norm_num)]
  refine congrArg (fun r : ℝ => (r : EReal)) ?_
  norm_num

theorem abs_small (x : EReal) (h : Small x) : ∃ r : ℝ, FloatOps.absf (F := Ideal) (φ := .f32) x = (r : EReal) ∧ 0 ≤ r ∧ r ≤ 2 ^ 128 := by
  obtain ⟨r, rfl, h⟩ := h
  exact ⟨|r|, by rw [Ideal.absf_def, ← EReal.coe_neg, ← EReal.coe_strictMono.monotone.map_max, abs_eq_max_neg], abs_nonneg r, h⟩

theorem level_real {n : ℕ} [NeZero n] (f : Fin n → EReal) (hf : ∀ i, Small (f i)) :
    ∃ y : ℝ, 0 ≤ y ∧ y < 2 ^ 120 ∧ level f = (y : EReal) := by
  choose g hg h0 h1 using fun i => abs_small (f i) (hf i)
  unfold level
  set T := Finset.univ.fold max (Ideal.ofBits .f32 0xFF800000#32) fun l => FloatOps.absf (F := Ideal) (φ := .f32) (f l) with hT
  have lo : ((0 : ℝ) : EReal) ≤ T := by
    rw [hT, Finset.le_fold_max]
    exact Or.inr ⟨0, Finset.mem_univ _, by rw [hg]; exact_mod_cast h0 0⟩
  have hi : T ≤ ((2 ^ 128 : ℝ) : EReal) := by
    rw [hT, Finset.fold_max_le]
    exact ⟨by rw [ofBits_ninf]; exact bot_le, fun i _ => by rw [hg]; exact EReal.coe_le_coe_iff.mpr (h1 i)⟩
  have e : ((T.toReal : ℝ) : EReal) = T :=
    EReal.coe_toReal (ne_of_lt (lt_of_le_of_lt hi (EReal.coe_lt_top _))) (ne_of_gt (lt_of_lt_of_le (EReal.bot_lt_coe _) lo))
  rw [← e] at lo hi ⊢
  have lo' := EReal.coe_le_coe_iff.mp lo
  have hi' := EReal.coe_le_coe_iff.mp hi
  refine ⟨T.toReal * (9586981 / 4294967296), by positivity, ?_, by rw [ofBits_inv448, ← EReal.coe_mul]⟩
  calc T.toReal * (9586981 / 4294967296) ≤ 2 ^ 128 * (9586981 / 4294967296) := mul_le_mul_of_nonneg_right hi' (by norm_num)
    _ < 2 ^ 120 := by norm_num

theorem pow_two (e : ℤ) : Ideal.pow (Ideal.ofBits .f32 0x40000000#32) ((e : ℝ) : EReal) = (((2 : ℝ) ^ e : ℝ) : EReal) := by
  rw [ofBits_two]
  refine congrArg (fun r : ℝ => (r : EReal)) ?_
  exact Real.rpow_intCast 2 e

/-- The scale and its inverse, as the search and as the logarithm give them. -/
theorem scale_level {n : ℕ} [NeZero n] (f : Fin n → EReal) (hf : ∀ i, Small (f i)) :
    ∃ e : ℤ, scaleOf (level f) = (((2 : ℝ) ^ e : ℝ) : EReal) ∧ invOf (level f) = (((2 : ℝ) ^ (-e) : ℝ) : EReal)
      ∧ Ideal.pow (Ideal.ofBits .f32 0x40000000#32) (expOf (level f)) = scaleOf (level f)
      ∧ Ideal.pow (Ideal.ofBits .f32 0x40000000#32) (-(expOf (level f))) = invOf (level f) := by
  obtain ⟨y, h0, h1, hy⟩ := level_real f hf
  obtain ⟨e, h2, h3, h4⟩ := scale_eq y h0 h1
  rw [hy, h2, h3, h4]
  refine ⟨e, rfl, rfl, pow_two e, ?_⟩
  rw [← EReal.coe_neg, ← Int.cast_neg]
  exact pow_two (-e)

theorem clip_real (r : ℝ) : ∃ r' : ℝ, clip (r : EReal) = (r' : EReal) :=
  ⟨min 448 (max (-448) r), by rw [clip, ofBits_448, ofBits_neg448]; exact_mod_cast rfl⟩

theorem sm_scale : Named.named (F := Ideal) (φ := .f32) κ "sm_scale_log2e" 0x3E38AA3B#32 = (((1 / 8) * (Real.log 2)⁻¹ : ℝ) : EReal) :=
  IdealRules.named_const.ideal_named_scalar _ _ _ _ rfl

/-- The two softmaxes. -/
theorem soft {n : ℕ} [NeZero n] (S : Fin n → ℝ) (q : ℝ) (hq : 0 < q) (s : Fin n) :
    Ideal.exp2 ((((S s : ℝ) : EReal) - Finset.univ.sup fun e => ((S e : ℝ) : EReal))
        * ((q : EReal) * Named.named (F := Ideal) (φ := .f32) κ "sm_scale_log2e" 0x3E38AA3B#32))
      = Ideal.exp (((S s * (q * (1 / 8)) : ℝ) : EReal)
          - Finset.univ.fold max (Ideal.ofBits .f32 0xFF800000#32) fun e => ((S e * (q * (1 / 8)) : ℝ) : EReal)) := by
  obtain ⟨i, hi⟩ := Finite.exists_max S
  have e1 : (Finset.univ.sup fun e => ((S e : ℝ) : EReal)) = ((S i : ℝ) : EReal) :=
    le_antisymm (Finset.sup_le fun e _ => EReal.coe_le_coe_iff.mpr (hi e)) (Finset.le_sup (f := fun e => ((S e : ℝ) : EReal)) (Finset.mem_univ i))
  have e2 : (Finset.univ.fold max (Ideal.ofBits .f32 0xFF800000#32) fun e => ((S e * (q * (1 / 8)) : ℝ) : EReal))
      = ((S i * (q * (1 / 8)) : ℝ) : EReal) := by
    refine le_antisymm ?_ ?_
    · rw [Finset.fold_max_le]
      exact ⟨by rw [ofBits_ninf]; exact bot_le, fun e _ => EReal.coe_le_coe_iff.mpr (mul_le_mul_of_nonneg_right (hi e) (by positivity))⟩
    · rw [Finset.le_fold_max]
      exact Or.inr ⟨i, Finset.mem_univ _, le_rfl⟩
  rw [e1, e2, sm_scale, ← EReal.coe_mul, ← EReal.coe_sub, ← EReal.coe_sub, ← EReal.coe_mul]
  refine congrArg (fun r : ℝ => (r : EReal)) ?_
  have hl : Real.log 2 ≠ 0 := ne_of_gt (Real.log_pos (by norm_num))
  show (2 : ℝ) ^ ((S s - S i) * (q * (1 / 8 * (Real.log 2)⁻¹))) = Real.exp _
  rw [Real.rpow_def_of_pos (by norm_num)]
  congr 1
  field_simp

end Cert.KernelIdeal.Attn

end
-- ==== Proof.Finite.lean ====
/- The precondition, read back: every element of the arguments is a real number of at most 2^128. -/
module

public import proofs.«01_k».proof.Defs
public import proofs.«01_k».proof.Proof.Attn.Real
public import Idealize.ShloMosaic.Lib.ReduceAll
public import Idealize.ShloMosaic.Lib.Pointwise

@[expose] public section

set_option maxRecDepth 16384

noncomputable section

namespace Cert.Equal

open Idealize.ShloMosaic
open Cert.KernelIdeal.Attn (Small)

theorem ofBits_max : Ideal.ofBits .f32 0x7F7F0000#32 ≤ ((2 ^ 128 : ℝ) : EReal) := by
  have a : ((0x7F7F0000#32 : BitVec 32).extractLsb' 23 8).toNat = 254 := by decide
  have b : ((0x7F7F0000#32 : BitVec 32).extractLsb' 0 23).toNat = 8323072 := by decide
  have c : ((0x7F7F0000#32 : BitVec 32).extractLsb' 31 1 == 1#1) = false := by decide
  simp only [Ideal.ofBits, Ideal.ieee, a, b, Nat.reduceAdd, c]
  rw [if_neg (by norm_num), if_neg (by norm_num)]
  refine EReal.coe_le_coe_iff.mpr ?_
  norm_num

theorem small_of_le (x : EReal) (h : max x (-x) ≤ Ideal.ofBits .f32 0x7F7F0000#32) : Small x := by
  have h' := h.trans ofBits_max
  have h1 : x ≤ ((2 ^ 128 : ℝ) : EReal) := (le_max_left _ _).trans h'
  have h2 : -x ≤ ((2 ^ 128 : ℝ) : EReal) := (le_max_right _ _).trans h'
  induction x using EReal.rec with
  | bot => rw [EReal.neg_bot, top_le_iff] at h2; exact absurd h2 (EReal.coe_ne_top _)
  | top => rw [top_le_iff] at h1; exact absurd h1 (EReal.coe_ne_top _)
  | coe r =>
    refine ⟨r, rfl, abs_le'.mpr ⟨EReal.coe_le_coe_iff.mp h1, ?_⟩⟩
    rw [← EReal.coe_neg] at h2
    exact EReal.coe_le_coe_iff.mp h2

theorem le_of_cmp (x y : EReal) (h : FloatOps.cmpf (F := Ideal) (φ := .f32) .ole x y = 1#1) : x ≤ y := by
  rw [Ideal.cmpf_def] at h
  by_contra hc
  simp [Ideal.cmp, hc] at h

/-- The side conditions of the precondition's operations. -/
theorem facts : Cert.Pre_finite.Facts where
  bitsLt_bf16_f32 := by decide
  bcast_S_S9x4096x512 := by decide
  reducesTo_S9x4096x512_S_d0_1_2 := by decide
  h_S_ := by decide
  bcast_S_S9x4096x128 := by decide
  reducesTo_S9x4096x128_S_d0_1_2 := by decide

instance : Subsingleton Cert.Pre_finite.S_.Idx := ⟨fun a b => funext fun i => i.elim0⟩

open Cert.Pre_finite Cert.Pre_finite.Facts in
theorem all_small {s : Shape} {axes : List (Fin s.rank)} [Cert.Pre_finite.Facts] (x : FVec Ideal s .bf16) (hb : S_.BroadcastsInDim s (![] : Fin 0 → Fin s.rank))
    (hr : s.ReducesTo axes S_)
    (h : Host.reduce IntOp.andi (cmpf .ole (Host.absf (extf .f32 x bitsLt_bf16_f32)) (broadcastInDim s ![] hb (constant S_ .f32 0x7F7F0000#32)))
      (constantI S_ 1 1#1) hr h_S_ (fun i => i.elim0) = 1#1) (i : s.Idx) : Small (x i) :=
  small_of_le _ (le_of_cmp _ _ (Host.reduce_andi_all _ _ _ _ _ h i))

theorem and_one : ∀ a b : BitVec 1, IntOp.andi a b = 1#1 → a = 1#1 ∧ b = 1#1 := by decide

open Cert.Pre_finite in
theorem finite_small (x0 : FVec Ideal S9x4096x512 .bf16) (x1 x2 : FVec Ideal S9x4096x128 .bf16) [Cert.Pre_finite.Facts]
    (h : Cert.Pre_finite.fn (F := Ideal) x0 x1 x2 = fun _ => 1#1) : (∀ i, Small (x0 i)) ∧ (∀ i, Small (x1 i)) ∧ ∀ i, Small (x2 i) := by
  have h' := congrFun h (fun i => i.elim0)
  unfold Cert.Pre_finite.fn at h'
  obtain ⟨h01, h2⟩ := and_one _ _ h'
  obtain ⟨h0, h1⟩ := and_one _ _ h01
  exact ⟨all_small x0 _ _ h0, all_small x1 _ _ h1, all_small x2 _ _ h2⟩

end Cert.Equal

end
-- ==== Proof.Attn.Trip.lean ====
/- One trip of the kernel's main loop over the ideal values: two units of the softmax are finished, and the scores of the
   two that follow are prepared. -/
module

public import proofs.«01_k».proof.Proof.Gen.KernelIdeal.Loops
public import proofs.«01_k».proof.Proof.Attn.Tiles
public import Idealize.ShloMosaic.Lib.Writes

@[expose] public section

set_option maxRecDepth 16384

noncomputable section

namespace Cert.KernelIdeal.Attn

open Idealize.ShloMosaic Idealize.ShloMosaic.TcCoe
open Cert.KernelIdeal.Gen

variable {B : Bufs} {u n : ℕ}

/-- A buffer of two axes holds `G` by row and column numbers. -/
def Reads2 {a b : ℕ} {e : EltTy} (v : (⟨2, ![a, b]⟩ : Shape).Idx → Elt Ideal e) (G : ℕ → ℕ → Elt Ideal e) : Prop := ∀ y, v y = G (y 0) (y 1)
/-- A buffer of three axes likewise. -/
def Reads3 {a b c : ℕ} {e : EltTy} (v : (⟨3, ![a, b, c]⟩ : Shape).Idx → Elt Ideal e) (G : ℕ → ℕ → ℕ → Elt Ideal e) : Prop := ∀ y, v y = G (y 0) (y 1) (y 2)
/-- Each written piece agrees with `G`. -/
structure Pieces2 {a b : ℕ} {e : EltTy} (L : List (View.Piece (Elt Ideal) (⟨2, ![a, b]⟩ : Shape) e)) (G : ℕ → ℕ → Elt Ideal e) : Prop where
  agree : ∀ p ∈ L, ∀ x, p.2 x = G (p.1.emb x 0) (p.1.emb x 1)

theorem Pieces2.nil {a b : ℕ} {e : EltTy} (G : ℕ → ℕ → Elt Ideal e) : Pieces2 (a := a) (b := b) [] G := ⟨fun _ h => absurd h List.not_mem_nil⟩
theorem Pieces2.cons {a b : ℕ} {e : EltTy} {G : ℕ → ℕ → Elt Ideal e} {L : List (View.Piece (Elt Ideal) (⟨2, ![a, b]⟩ : Shape) e)} (r : Rect _) (w)
    (h : ∀ x, w x = G (r.emb x 0) (r.emb x 1)) (hL : Pieces2 L G) : Pieces2 (⟨r, w⟩ :: L) G := by
  refine ⟨fun p hp => ?_⟩
  rcases List.mem_cons.mp hp with rfl | hp
  · exact h
  · exact hL.agree p hp

section Views
variable {sg : RefSig} {κ : Kind} {sp : Space}

theorem Pieces2.reads {a b : ℕ} {e : EltTy} (v : View sg κ sp (⟨2, ![a, b]⟩ : Shape) e) (f) {G : ℕ → ℕ → Elt Ideal e}
    {L : List (View.Piece (Elt Ideal) (⟨2, ![a, b]⟩ : Shape) e)} (h : Pieces2 L G) (hc : ∀ y, ∃ p ∈ L, y ∈ p.1.set) :
    Reads2 (v.read (Elt Ideal) (v.writes (Elt Ideal) f L)) G :=
  fun y => View.read_writes_apply_of_pieces v f (fun y => G (y 0) (y 1)) L h.agree y (hc y)

theorem Pieces2.read_at {a b : ℕ} {e : EltTy} (v : View sg κ sp (⟨2, ![a, b]⟩ : Shape) e) (f) {G : ℕ → ℕ → Elt Ideal e}
    {L : List (View.Piece (Elt Ideal) (⟨2, ![a, b]⟩ : Shape) e)} (h : Pieces2 L G) (y) (hc : ∃ p ∈ L, y ∈ p.1.set) :
    v.read (Elt Ideal) (v.writes (Elt Ideal) f L) y = G (y 0) (y 1) :=
  View.read_writes_apply_of_pieces v f (fun y => G (y 0) (y 1)) L h.agree y hc

/-- A load from a buffer of two axes. -/
theorem readAt2 {a b : ℕ} {e : EltTy} (v : View sg κ sp (⟨2, ![a, b]⟩ : Shape) e) (f) {G : ℕ → ℕ → Elt Ideal e} (h : Reads2 (v.read (Elt Ideal) f) G)
    {o z : Fin 2 → ℕ} (inb) {p q : ℕ} (ho : o = ![p, q]) (x : (Rect.unit (s := ⟨2, ![a, b]⟩) o z inb).toLoadRect.shape.Idx) :
    v.readAt (Elt Ideal) (Rect.unit (s := ⟨2, ![a, b]⟩) o z inb).toLoadRect f x = G (p + x 0) (q + x 1) := by
  subst ho
  rw [View.readAt_apply, h]
  show G (p + 1 * (x 0).val) (q + 1 * (x 1).val) = _
  simp

/-- A load from a buffer of three axes. -/
theorem readAt3 {a b c : ℕ} {e : EltTy} (v : View sg κ sp (⟨3, ![a, b, c]⟩ : Shape) e) (f) {G : ℕ → ℕ → ℕ → Elt Ideal e} (h : Reads3 (v.read (Elt Ideal) f) G)
    {o z : Fin 3 → ℕ} (inb) {p q r : ℕ} (ho : o = ![p, q, r]) (x : (Rect.unit (s := ⟨3, ![a, b, c]⟩) o z inb).toLoadRect.shape.Idx) :
    v.readAt (Elt Ideal) (Rect.unit (s := ⟨3, ![a, b, c]⟩) o z inb).toLoadRect f x = G (p + x 0) (q + x 1) (r + x 2) := by
  subst ho
  rw [View.readAt_apply, h]
  show G (p + 1 * (x 0).val) (q + 1 * (x 1).val) (r + 1 * (x 2).val) = _
  simp

/-- A load of what the pieces cover. -/
theorem readCov2 {a b : ℕ} {e : EltTy} (v : View sg κ sp (⟨2, ![a, b]⟩ : Shape) e) {G : ℕ → ℕ → Elt Ideal e}
    {L : List (View.Piece (Elt Ideal) (⟨2, ![a, b]⟩ : Shape) e)} (h : Pieces2 L G) (hc : ∀ y, ∃ p ∈ L, y ∈ p.1.set)
    {o z : Fin 2 → ℕ} (inb) {p q : ℕ} (ho : o = ![p, q]) (x : (Rect.unit (s := ⟨2, ![a, b]⟩) o z inb).toLoadRect.shape.Idx) :
    v.readCov L (Rect.unit (s := ⟨2, ![a, b]⟩) o z inb).toLoadRect x = G (p + x 0) (q + x 1) :=
  readAt2 v _ (h.reads v _ hc) inb ho x

variable {sp₂ sp₃ : Space}

/-- The score tile over the loads that make it. -/
theorem tile_score (v12 : View sg κ sp S4x4096x128 .fp8e4m3) (f12) (v16 : View sg κ sp₂ S512x512 .fp8e4m3) (f16) (v13 : View sg κ sp₃ S2x4096x128 .f32) (f13)
    (h12 : Reads3 (v12.read (Elt Ideal) f12) B.KP) (h16 : Reads2 (v16.read (Elt Ideal) f16) B.QC) (h13 : Reads3 (v13.read (Elt Ideal) f13) B.KS)
    {o1 o3 : Fin 3 → ℕ} {o2 : Fin 2 → ℕ} (i1 i2 i3 h₁ h₂ h₃)
    (e1 : o1 = ![u / 2 / 4 * 2 + u / 2 % 2, 256 * n, 0]) (e2 : o2 = ![u % 2 * 256, u / 2 / 2 * 128]) (e3 : o3 = ![u / 2 / 4, 256 * n, 0]) :
    TileIs (score B u) n (mulf (matmul (φ₁ := .fp8e4m3) (φ₂ := .fp8e4m3) dot_S256x128_S256x128_S256x256_1_1_0_0_n_n none
        (shapeCast S256x128 (v12.readAt (Elt Ideal) (Rect.unit (s := S4x4096x128) o1 S1x256x128.size i1).toLoadRect f12) h₁)
        (v16.readAt (Elt Ideal) (Rect.unit (s := S512x512) o2 S256x128.size i2).toLoadRect f16)
        (constant S256x256 .f32 0x00000000#32))
      (concatenate S256x256 1 [⟨S256x128, shapeCast S256x128 (v13.readAt (Elt Ideal) (Rect.unit (s := S2x4096x128) o3 S1x256x128.size i3).toLoadRect f13) h₂⟩,
        ⟨S256x128, shapeCast S256x128 (v13.readAt (Elt Ideal) (Rect.unit (s := S2x4096x128) o3 S1x256x128.size i3).toLoadRect f13) h₂⟩] h₃)) := by
  refine tileIs_score _ _ _ _ _ _ (fun a l => ?_) (fun a l => ?_) (fun a l => ?_)
  · exact (readAt3 v12 f12 h12 i1 e1 _).trans (by show B.KP (_ + 0) (_ + a.val) (0 + l.val) = _; rw [Nat.add_zero, Nat.zero_add])
  · exact (readAt2 v16 f16 h16 i2 e2 _).trans (by show B.QC (_ + a.val) (_ + l.val) = _; rfl)
  · exact (readAt3 v13 f13 h13 i3 e3 _).trans (by show B.KS (_ + 0) (_ + a.val) (0 + l.val) = _; rw [Nat.add_zero, Nat.zero_add])

end Views

theorem tileIs_cast {G : ℕ → ℕ → EReal} {v : FVec Ideal S256x256 .f32} (h) (hv : TileIs G n v) : TileIs G n (shapeCast S256x256 v h) := by
  rwa [shapeCast_self]

/-- A stored tile agrees with `G`. -/
theorem piece_tile {G : ℕ → ℕ → EReal} {v : FVec Ideal S256x256 .f32} {o : Fin 2 → ℕ} (inb) (ho : o = ![256 * n, 0]) (hv : TileIs G n v)
    (x : (Rect.unit (s := S4096x256) o S256x256.size inb).shape.Idx) :
    v x = G ((Rect.unit (s := S4096x256) o S256x256.size inb).emb x 0) ((Rect.unit (s := S4096x256) o S256x256.size inb).emb x 1) := by
  subst ho
  have := hv (x 0) (x 1)
  show v x = G (256 * n + 1 * (x 0).val) (0 + 1 * (x 1).val)
  rw [Nat.one_mul, Nat.one_mul, Nat.zero_add, ← this]
  congr 1
  exact funext fun a => by fin_cases a <;> rfl

theorem maxUpTo_zero {G : ℕ → ℕ → EReal} : MaxUpTo G 0 (k0_pay554 (F := Ideal)) := by
  intro a b x
  have hbot : Ideal.ofBits FTy.f32 4286578688#32 = ⊥ := by simp [Ideal.ofBits, Ideal.ieee]
  pointwise [k0_pay554]
  simp [hbot]

/-- The first `n` tiles of an array of scores have been stored. -/
def Tiled (n : ℕ) (L : List (View.Piece (Elt Ideal) S4096x256 .f32)) (G : ℕ → ℕ → EReal) : Prop :=
  Pieces2 L G ∧ ∀ y : S4096x256.Idx, (y 0).val < 256 * n → ∃ p ∈ L, y ∈ p.1.set

theorem Tiled.nil (G : ℕ → ℕ → EReal) : Tiled 0 [] G := ⟨Pieces2.nil _, fun y h => absurd h (by omega)⟩

theorem Tiled.cons {G : ℕ → ℕ → EReal} {L : List (View.Piece (Elt Ideal) S4096x256 .f32)} {v : FVec Ideal S256x256 .f32} {o : Fin 2 → ℕ} (inb)
    (hL : Tiled n L G) (ho : o = ![256 * n, 0]) (hv : TileIs G n v) : Tiled (n + 1) (⟨Rect.unit (s := S4096x256) o S256x256.size inb, v⟩ :: L) G := by
  refine ⟨Pieces2.cons _ _ (piece_tile inb ho hv) hL.1, fun y hy => ?_⟩
  by_cases h : (y 0).val < 256 * n
  · obtain ⟨p, hp, hy⟩ := hL.2 y h
    exact ⟨p, List.mem_cons_of_mem _ hp, hy⟩
  · refine ⟨_, List.mem_cons_self, ?_⟩
    subst ho
    rw [Rect.mem_set_unit]
    intro a
    have h1 : (y 1).val < 256 := (y 1).isLt
    fin_cases a
    · exact ⟨by show 256 * n ≤ (y 0).val; omega, by show (y 0).val < 256 * n + 256; omega⟩
    · exact ⟨Nat.zero_le _, by show (y 1).val < 0 + 256; omega⟩

theorem Tiled.cover {G : ℕ → ℕ → EReal} {L} (h : Tiled 16 L G) (y : S4096x256.Idx) : ∃ p ∈ L, y ∈ p.1.set :=
  h.2 y (by have : (y 0).val < 4096 := (y 0).isLt; omega)

section Views
variable {sg : RefSig} {κ : Kind} {sp : Space}

theorem tile_load (v : View sg κ sp S4096x256 .f32) (f) {G : ℕ → ℕ → EReal} (h : Reads2 (v.read (Elt Ideal) f) G) {o : Fin 2 → ℕ} (inb) (ho : o = ![256 * n, 0]) :
    TileIs G n (v.readAt (Elt Ideal) (Rect.unit (s := S4096x256) o S256x256.size inb).toLoadRect f) := fun a b =>
  (readAt2 v f h inb ho _).trans (by show G (_ + a.val) (0 + b.val) = _; rw [Nat.zero_add])

theorem tile_reload (v : View sg κ sp S4096x256 .f32) {L} {G : ℕ → ℕ → EReal} (h : Tiled 16 L G) {o : Fin 2 → ℕ} (inb) (ho : o = ![256 * n, 0]) :
    TileIs G n (v.readCov L (Rect.unit (s := S4096x256) o S256x256.size inb).toLoadRect) :=
  tile_load v _ (h.1.reads v _ h.cover) inb ho

end Views

theorem sumUpTo_zero {G : ℕ → ℕ → EReal} : SumUpTo G 0 (broadcast S8x256 (FloatOps.ofBits .f32 0x00000000#32 : Ideal .f32)) := by
  intro a b
  pointwise
  simp [Ideal.ofBits, Ideal.ieee]

theorem prodUpTo_zero {A G : ℕ → ℕ → EReal} : ProdUpTo A G 0 (broadcast S64x256 (FloatOps.ofBits .f32 0x00000000#32 : Ideal .f32)) := by
  intro a b
  pointwise
  simp [Ideal.ofBits, Ideal.ieee]

section Views
variable {sg : RefSig} {κ : Kind} {sp : Space}

/-- The values of a head, as the product reads them. -/
theorem values_load (v : View sg κ sp S128x4096 .fp8e4m3) (f) (h : Reads2 (v.read (Elt Ideal) f) B.VT) {o : Fin 2 → ℕ} (inb) {p : ℕ} (ho : o = ![p, 256 * n])
    (d : Fin 64) (s : Fin 256) : v.readAt (Elt Ideal) (Rect.unit (s := S128x4096) o S64x256.size inb).toLoadRect f (ix2 d s) = B.VT (p + d) (256 * n + s) :=
  readAt2 v f h inb ho _

theorem scales_load (v : View sg κ sp S128x128 .f32) (f) (h : Reads2 (v.read (Elt Ideal) f) B.VS) {o : Fin 2 → ℕ} (inb) {p : ℕ} (ho : o = ![p, 0])
    (d : Fin 64) : v.readAt (Elt Ideal) (Rect.unit (s := S128x128) o S64x1.size inb).toLoadRect f (ix2 d 0) = B.VS (p + d) 0 :=
  readAt2 v f h inb ho _

theorem factors_load (v : View sg κ sp S8x512 .f32) (f) (h : Reads2 (v.read (Elt Ideal) f) B.CS) {o : Fin 2 → ℕ} (inb) {p q : ℕ} (ho : o = ![p, q])
    (b : Fin 256) : v.readAt (Elt Ideal) (Rect.unit (s := S8x512) o S1x256.size inb).toLoadRect f (ix2 0 b) = B.CS p (q + b) :=
  readAt2 v f h inb ho _

theorem tops_load (v : View sg κ sp S1x256 .f32) (f) {g : ℕ → EReal} (h : Reads2 (v.read (Elt Ideal) f) (fun _ t => g t)) (inb)
    (b : Fin 256) : v.readAt (Elt Ideal) (Rect.unit (s := S1x256) ![0, 0] S1x256.size inb).toLoadRect f (ix2 0 b) = g b :=
  (readAt2 v f h inb rfl _).trans (congrArg g (Nat.zero_add _))

end Views

/-- A stored row of maxima. -/
theorem piece_top {g : ℕ → EReal} {v : FVec Ideal S1x256 .f32} (inb) (h : ∀ b : Fin 256, v (ix2 0 b) = g b) :
    Pieces2 (a := 1) (b := 256) (e := .f32) [⟨Rect.unit (s := S1x256) ![0, 0] S1x256.size inb, v⟩] (fun _ t => g t) := by
  refine Pieces2.cons _ _ (fun x => ?_) (Pieces2.nil _)
  show v x = g (0 + 1 * (x 1).val)
  rw [Nat.one_mul, Nat.zero_add, ← h (x 1)]
  congr 1
  refine funext fun a => ?_
  fin_cases a
  · exact Subsingleton.elim (α := Fin 1) _ _
  · rfl

theorem cover_top {v : FVec Ideal S1x256 .f32} (inb) (y : S1x256.Idx) :
    ∃ p ∈ ([⟨Rect.unit (s := S1x256) ![0, 0] S1x256.size inb, v⟩] : List (View.Piece (Elt Ideal) S1x256 .f32)), y ∈ p.1.set := by
  refine ⟨_, List.mem_cons_self, ?_⟩
  rw [Rect.mem_set_unit]
  intro a
  have := (y a).isLt
  fin_cases a <;> exact ⟨Nat.zero_le _, by simpa using this⟩

/-- The transposed output of one block: rows by head and column of the head, columns by token. -/
def outT (B : Bufs) (r c : ℕ) : EReal := result B (2 * (r / 64) + c / 256) (r % 64) (c % 256)

/-- A stored result tile. -/
theorem piece_result {v : FVec Ideal S64x256 .f32} {o : Fin 2 → ℕ} (inb) (ho : o = ![u / 2 * 64, u % 2 * 256])
    (h : ∀ (d : Fin 64) (b : Fin 256), v (ix2 d b) = result B u d b) (x : (Rect.unit (s := S512x512) o S64x256.size inb).shape.Idx) :
    v x = outT B ((Rect.unit (s := S512x512) o S64x256.size inb).emb x 0) ((Rect.unit (s := S512x512) o S64x256.size inb).emb x 1) := by
  subst ho
  have h0 : (x 0).val < 64 := (x 0).isLt
  have h1 : (x 1).val < 256 := (x 1).isLt
  show v x = outT B (u / 2 * 64 + 1 * (x 0).val) (u % 2 * 256 + 1 * (x 1).val)
  have e : v x = v (ix2 (x 0) (x 1)) := congrArg v (funext fun a => by fin_cases a <;> rfl)
  refine e.trans ((h _ _).trans ?_)
  unfold outT
  congr 1 <;> omega

variable (c : Dev nD) (i : grid0.Coords)
  (arg2 : Memref sig .tc .vmem S1x512x512 .bf16) (harg2 : arg2.IsWhole) (arg3 : Memref sig .tc .vmem S1x4096x128 .bf16) (harg3 : arg3.IsWhole)
  (arg4 : Memref sig .tc .vmem S1x4096x128 .bf16) (harg4 : arg4.IsWhole) (arg5 : Memref sig .tc .vmem S1x512x512 .bf16) (harg5 : arg5.IsWhole)
  (arg6 : Memref sig .tc .vmem S1x512x512 .fp8e4m3) (harg6 : arg6.IsWhole) (arg7 : Memref sig .tc .vmem S1x512x8 .f32) (harg7 : arg7.IsWhole)
  (arg8 : Memref sig .tc .vmem S1x4096x128 .fp8e4m3) (harg8 : arg8.IsWhole) (arg9 : Memref sig .tc .vmem S1x4096x2 .f32) (harg9 : arg9.IsWhole)
  (arg10 : Memref sig .tc .vmem S1x4096x128 .fp8e4m3) (harg10 : arg10.IsWhole) (arg11 : Memref sig .tc .vmem S1x1x128 .f32) (harg11 : arg11.IsWhole)
  (arg12 : Memref sig .tc .vmem S4x4096x128 .fp8e4m3) (harg12 : arg12.IsWhole) (arg13 : Memref sig .tc .vmem S2x4096x128 .f32) (harg13 : arg13.IsWhole)
  (arg14 : Memref sig .tc .vmem S128x4096 .fp8e4m3) (harg14 : arg14.IsWhole) (arg15 : Memref sig .tc .vmem S128x128 .f32) (harg15 : arg15.IsWhole)
  (arg16 : Memref sig .tc .vmem S512x512 .fp8e4m3) (harg16 : arg16.IsWhole) (arg17 : Memref sig .tc .vmem S8x512 .f32) (harg17 : arg17.IsWhole)
  (arg18 : Memref sig .tc .vmem S4096x256 .f32) (harg18 : arg18.IsWhole) (arg19 : Memref sig .tc .vmem S4096x256 .f32) (harg19 : arg19.IsWhole)
  (arg20 : Memref sig .tc .vmem S1x256 .f32) (harg20 : arg20.IsWhole) (arg21 : Memref sig .tc .vmem S1x256 .f32) (harg21 : arg21.IsWhole)
  (arg22 : Memref sig .tc .vmem S512x512 .f32) (harg22 : arg22.IsWhole)
variable (v3326 : FVec Ideal S8x256 .f32) (v3327 v3330 w2 : BitVec 32)
variable (X_arg12 : BufTy.Contents (Elt Ideal) arg12.view.ty)
  (X_arg13 : BufTy.Contents (Elt Ideal) arg13.view.ty)
  (X_arg14 : BufTy.Contents (Elt Ideal) arg14.view.ty)
  (X_arg15 : BufTy.Contents (Elt Ideal) arg15.view.ty)
  (X_arg16 : BufTy.Contents (Elt Ideal) arg16.view.ty)
  (X_arg17 : BufTy.Contents (Elt Ideal) arg17.view.ty)
variable (f_arg18 : BufTy.Contents (Elt Ideal) arg18.view.ty)
  (f_arg19 : BufTy.Contents (Elt Ideal) arg19.view.ty)
  (f_arg20 : BufTy.Contents (Elt Ideal) arg20.view.ty)
  (f_arg21 : BufTy.Contents (Elt Ideal) arg21.view.ty)
  (f_arg22 : BufTy.Contents (Elt Ideal) arg22.view.ty)

variable (k : Fin k0_t3_loop.trips)

section Next
variable (h12 : Reads3 (arg12.view.read (Elt Ideal) X_arg12) B.KP) (h13 : Reads3 (arg13.view.read (Elt Ideal) X_arg13) B.KS)
  (h16 : Reads2 (arg16.view.read (Elt Ideal) X_arg16) B.QC)
include h12 h13 h16

set_option maxHeartbeats 2000000 in
/-- The scores of the odd unit. -/
theorem odd_scores : Tiled 16 (trip_k0_t3.sl.HW_arg19_16 arg12 arg13 arg16 X_arg12 X_arg13 X_arg16 k) (score B (2 * k + 1)) := by
  unfold trip_k0_t3.sl.HW_arg19_16
  iterate 16
    refine Tiled.cons _ ?_ ?_ (tileIs_cast _ (tile_score _ _ _ _ _ _ h12 h16 h13 _ _ _ _ _ _ ?_ ?_ ?_))
  · exact Tiled.nil _
  all_goals (clear * - k; revert k; decide +kernel)

set_option maxHeartbeats 2000000 in
/-- The scores of the next even unit. -/
theorem even_scores : Tiled 16 (tripL_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_pay554 v3326 v3327 v3330 w2 X_arg12 X_arg13 X_arg14 X_arg15 X_arg16 X_arg17 k f_arg18 f_arg19 f_arg20 f_arg21 f_arg22).1
    (score B ((2 * k + 2) % 16)) := by
  unfold tripL_k0_t3 trip_k0_t3
  dsimp only
  iterate 16
    refine Tiled.cons _ ?_ ?_ (tileIs_cast _ (tile_score _ _ _ _ _ _ h12 h16 h13 _ _ _ _ _ _ ?_ ?_ ?_))
  · exact Tiled.nil _
  all_goals (clear * - k; revert k; decide +kernel)

set_option maxHeartbeats 2000000 in
/-- The greatest scores of the odd unit. -/
theorem odd_top (b : Fin 256) : trip_k0_t3.sl.v4234 arg12 arg13 arg16 k0_pay554 X_arg12 X_arg13 X_arg16 k (ix2 0 b) = top B (2 * k + 1) b := by
  refine (congrFun (shapeCast_self _ _) _).trans (top_of_maxUpTo _ _ _ _ _ ?_ b)
  iterate 16
    refine maxUpTo_step _ _ _ _ _ _ ?_ (tile_score _ _ _ _ _ _ h12 h16 h13 _ _ _ _ _ _ ?_ ?_ ?_)
  · exact maxUpTo_zero
  all_goals (clear * - k; revert k; decide +kernel)

set_option maxHeartbeats 2000000 in
/-- The greatest scores of the next even unit. -/
theorem even_top (b : Fin 256) : trip_k0_t3.sl.v5106 arg12 arg13 arg16 k0_pay554 X_arg12 X_arg13 X_arg16 k (ix2 0 b) = top B ((2 * k + 2) % 16) b := by
  refine (congrFun (shapeCast_self _ _) _).trans (top_of_maxUpTo _ _ _ _ _ ?_ b)
  iterate 16
    refine maxUpTo_step _ _ _ _ _ _ ?_ (tile_score _ _ _ _ _ _ h12 h16 h13 _ _ _ _ _ _ ?_ ?_ ?_)
  · exact maxUpTo_zero
  all_goals (clear * - k; revert k; decide +kernel)

end Next

section Finish
variable (h14 : Reads2 (arg14.view.read (Elt Ideal) X_arg14) B.VT) (h15 : Reads2 (arg15.view.read (Elt Ideal) X_arg15) B.VS)
  (h17 : Reads2 (arg17.view.read (Elt Ideal) X_arg17) B.CS)
  (hu : Reads2 (arg18.view.read (Elt Ideal) f_arg18) (score B (2 * k))) (ht : Reads2 (arg20.view.read (Elt Ideal) f_arg20) (fun _ t => top B (2 * k) t))
include h14 h15 h17

section
include hu ht

set_option maxHeartbeats 4000000 in
/-- The finished even unit. -/
theorem even_result (d : Fin 64) (b : Fin 256) : trip_k0_t3.sl.v4256 arg14 arg15 arg17 arg18 arg20 X_arg14 X_arg15 X_arg17 k f_arg18 f_arg20 (ix2 d b) = result B (2 * k) d b := by
  have hm := fun b => tops_load arg20.view f_arg20 ht inb_S1x256_S1x256_0_0 b
  have hc := fun b => factors_load arg17.view X_arg17 h17 (o := k0_off44 k) (k0_off44_inb k) (p := (2 * k) / 2) (q := (2 * k) % 2 * 256) (by clear * - k; revert k; decide +kernel) b
  refine (congrFun (shapeCast_self _ _) _).trans (result_of (u := 2 * k) _ _ _ _ _ _ _ _ _ ?_ ?_ ?_ d b)
  · iterate 16
      refine sumUpTo_step _ _ _ _ _ _ ?_ (tileIs_prob _ _ _ _ _ (tile_load arg18.view f_arg18 hu _ ?_) hm hc)
    · exact sumUpTo_zero
    all_goals rfl
  · iterate 16
      refine prodUpTo_step _ _ _ _ (values_load arg14.view X_arg14 h14 _ ?_) ?_ (tileIs_prob _ _ _ _ _ (tile_load arg18.view f_arg18 hu _ ?_) hm hc)
      rotate_left 1
    · exact prodUpTo_zero
    all_goals first | rfl | (clear * - k; revert k; decide +kernel)
  · exact scales_load arg15.view X_arg15 h15 _ (by clear * - k; revert k; decide +kernel)

end
variable (h12 : Reads3 (arg12.view.read (Elt Ideal) X_arg12) B.KP) (h13 : Reads3 (arg13.view.read (Elt Ideal) X_arg13) B.KS)
  (h16 : Reads2 (arg16.view.read (Elt Ideal) X_arg16) B.QC)
include h12 h13 h16

set_option maxHeartbeats 4000000 in
/-- The finished odd unit. -/
theorem odd_result (d : Fin 64) (b : Fin 256) : k0_pay606 (trip_k0_t3.sl.v5089 arg12 arg13 arg16 arg17 arg19 arg21 k0_pay554 X_arg12 X_arg13 X_arg16 X_arg17 k)
      (trip_k0_t3.sl.v5101 arg12 arg13 arg14 arg16 arg17 arg19 arg21 k0_pay554 X_arg12 X_arg13 X_arg14 X_arg16 X_arg17 k)
      (arg15.view.readAt (Elt Ideal) (Rect.unit (s := S128x128) (k0_off146 k) S64x1.size (k0_off146_inb k)).toLoadRect X_arg15) (ix2 d b) = result B (2 * k + 1) d b := by
  have hm := fun b => tops_load (g := top B (2 * k + 1)) arg21.view _ ((piece_top inb_S1x256_S1x256_0_0 (odd_top arg12 arg13 arg16 X_arg12 X_arg13 X_arg16 k h12 h13 h16)).reads arg21.view arg21.view.junk
    (cover_top _)) inb_S1x256_S1x256_0_0 b
  have hc := fun b => factors_load arg17.view X_arg17 h17 (o := k0_off96 k) (k0_off96_inb k) (p := (2 * k + 1) / 2) (q := (2 * k + 1) % 2 * 256) (by clear * - k; revert k; decide +kernel) b
  unfold k0_pay606
  refine (congrFun (shapeCast_self _ _) _).trans (result_of (u := 2 * k + 1) _ _ _ _ _ _ _ _ _ ?_ ?_ ?_ d b)
  · iterate 16
      refine sumUpTo_step _ _ _ _ _ _ ?_ (tileIs_prob _ _ _ _ _ (tile_reload arg19.view (odd_scores arg12 arg13 arg16 X_arg12 X_arg13 X_arg16 k h12 h13 h16) _ ?_) hm hc)
    · exact sumUpTo_zero
    all_goals rfl
  · iterate 16
      refine prodUpTo_step _ _ _ _ (values_load arg14.view X_arg14 h14 _ ?_) ?_ (tileIs_prob _ _ _ _ _ (tile_reload arg19.view (odd_scores arg12 arg13 arg16 X_arg12 X_arg13 X_arg16 k h12 h13 h16) _ ?_) hm hc)
      rotate_left 1
    · exact prodUpTo_zero
    all_goals first | rfl | (clear * - k; revert k; decide +kernel)
  · exact scales_load arg15.view X_arg15 h15 _ (by clear * - k; revert k; decide +kernel)

end Finish
end Cert.KernelIdeal.Attn

end
-- ==== Proof.Attn.Loop.lean ====
/- The main loop over the ideal values: after its eight trips the transposed output of the block is complete. -/
module

public import proofs.«01_k».proof.Proof.Gen.KernelIdeal.Loops
public import proofs.«01_k».proof.Proof.Attn.Trip
public import Idealize.ShloMosaic.Lib.Writes

@[expose] public section

set_option maxRecDepth 16384

noncomputable section

namespace Cert.KernelIdeal.Attn

open Idealize.ShloMosaic Idealize.ShloMosaic.TcCoe
open Cert.KernelIdeal.Gen

variable {B : Bufs} {u n : ℕ}

variable (c : Dev nD) (i : grid0.Coords)
  (arg2 : Memref sig .tc .vmem S1x512x512 .bf16) (harg2 : arg2.IsWhole) (arg3 : Memref sig .tc .vmem S1x4096x128 .bf16) (harg3 : arg3.IsWhole)
  (arg4 : Memref sig .tc .vmem S1x4096x128 .bf16) (harg4 : arg4.IsWhole) (arg5 : Memref sig .tc .vmem S1x512x512 .bf16) (harg5 : arg5.IsWhole)
  (arg6 : Memref sig .tc .vmem S1x512x512 .fp8e4m3) (harg6 : arg6.IsWhole) (arg7 : Memref sig .tc .vmem S1x512x8 .f32) (harg7 : arg7.IsWhole)
  (arg8 : Memref sig .tc .vmem S1x4096x128 .fp8e4m3) (harg8 : arg8.IsWhole) (arg9 : Memref sig .tc .vmem S1x4096x2 .f32) (harg9 : arg9.IsWhole)
  (arg10 : Memref sig .tc .vmem S1x4096x128 .fp8e4m3) (harg10 : arg10.IsWhole) (arg11 : Memref sig .tc .vmem S1x1x128 .f32) (harg11 : arg11.IsWhole)
  (arg12 : Memref sig .tc .vmem S4x4096x128 .fp8e4m3) (harg12 : arg12.IsWhole) (arg13 : Memref sig .tc .vmem S2x4096x128 .f32) (harg13 : arg13.IsWhole)
  (arg14 : Memref sig .tc .vmem S128x4096 .fp8e4m3) (harg14 : arg14.IsWhole) (arg15 : Memref sig .tc .vmem S128x128 .f32) (harg15 : arg15.IsWhole)
  (arg16 : Memref sig .tc .vmem S512x512 .fp8e4m3) (harg16 : arg16.IsWhole) (arg17 : Memref sig .tc .vmem S8x512 .f32) (harg17 : arg17.IsWhole)
  (arg18 : Memref sig .tc .vmem S4096x256 .f32) (harg18 : arg18.IsWhole) (arg19 : Memref sig .tc .vmem S4096x256 .f32) (harg19 : arg19.IsWhole)
  (arg20 : Memref sig .tc .vmem S1x256 .f32) (harg20 : arg20.IsWhole) (arg21 : Memref sig .tc .vmem S1x256 .f32) (harg21 : arg21.IsWhole)
  (arg22 : Memref sig .tc .vmem S512x512 .f32) (harg22 : arg22.IsWhole)
variable (v3326 : FVec Ideal S8x256 .f32) (v3327 v3330 w2 : BitVec 32)
variable (X_arg12 : BufTy.Contents (Elt Ideal) arg12.view.ty)
  (X_arg13 : BufTy.Contents (Elt Ideal) arg13.view.ty)
  (X_arg14 : BufTy.Contents (Elt Ideal) arg14.view.ty)
  (X_arg15 : BufTy.Contents (Elt Ideal) arg15.view.ty)
  (X_arg16 : BufTy.Contents (Elt Ideal) arg16.view.ty)
  (X_arg17 : BufTy.Contents (Elt Ideal) arg17.view.ty)
variable (f_arg18 : BufTy.Contents (Elt Ideal) arg18.view.ty)
  (f_arg19 : BufTy.Contents (Elt Ideal) arg19.view.ty)
  (f_arg20 : BufTy.Contents (Elt Ideal) arg20.view.ty)
  (f_arg21 : BufTy.Contents (Elt Ideal) arg21.view.ty)
  (f_arg22 : BufTy.Contents (Elt Ideal) arg22.view.ty)

variable (k : Fin k0_t3_loop.trips)

section Finish
variable (h14 : Reads2 (arg14.view.read (Elt Ideal) X_arg14) B.VT) (h15 : Reads2 (arg15.view.read (Elt Ideal) X_arg15) B.VS)
  (h17 : Reads2 (arg17.view.read (Elt Ideal) X_arg17) B.CS)
  (hu : Reads2 (arg18.view.read (Elt Ideal) f_arg18) (score B (2 * k))) (ht : Reads2 (arg20.view.read (Elt Ideal) f_arg20) (fun _ t => top B (2 * k) t))
  (h12 : Reads3 (arg12.view.read (Elt Ideal) X_arg12) B.KP) (h13 : Reads3 (arg13.view.read (Elt Ideal) X_arg13) B.KS)
  (h16 : Reads2 (arg16.view.read (Elt Ideal) X_arg16) B.QC)
include h14 h15 h17 h12 h13 h16

section
include hu ht

/-- The stored results of a trip agree with the transposed output. -/
theorem trip_results : Pieces2 (tripL_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_pay554 v3326 v3327 v3330 w2 X_arg12 X_arg13 X_arg14 X_arg15 X_arg16 X_arg17 k f_arg18 f_arg19 f_arg20 f_arg21 f_arg22).2.2.2.2 (outT B) := by
  unfold tripL_k0_t3 trip_k0_t3
  dsimp only
  refine Pieces2.cons _ _ (piece_result (u := 2 * k + 1) _ ?_ (fun d b => odd_result (d := d) (b := b) (h14 := h14) (h15 := h15) (h17 := h17) (h12 := h12) (h13 := h13) (h16 := h16) ..))
    (Pieces2.cons _ _ (piece_result (u := 2 * k) _ ?_ (fun d b => even_result (d := d) (b := b) (h14 := h14) (h15 := h15) (h17 := h17) (hu := hu) (ht := ht) ..)) (Pieces2.nil _))
  all_goals (clear * - k; revert k; decide +kernel)

end

omit h14 h15 h17 in
theorem trip_tops : Pieces2 (tripL_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_pay554 v3326 v3327 v3330 w2 X_arg12 X_arg13 X_arg14 X_arg15 X_arg16 X_arg17 k f_arg18 f_arg19 f_arg20 f_arg21 f_arg22).2.2.1 (fun _ t => top B ((2 * k + 2) % 16) t) := by
  unfold tripL_k0_t3 trip_k0_t3
  exact piece_top _ (fun b => even_top (b := b) (h12 := h12) (h13 := h13) (h16 := h16) ..)

omit h14 h15 h17 h12 h13 h16 in
theorem trip_tops_cover (y) : ∃ p ∈ (tripL_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_pay554 v3326 v3327 v3330 w2 X_arg12 X_arg13 X_arg14 X_arg15 X_arg16 X_arg17 k f_arg18 f_arg19 f_arg20 f_arg21 f_arg22).2.2.1, y ∈ p.1.set := by
  unfold tripL_k0_t3 trip_k0_t3
  exact cover_top _ y

omit h14 h15 h17 h12 h13 h16 in
/-- The results of a trip fill sixty-four rows. -/
theorem trip_results_cover (y : S512x512.Idx) (h₁ : 64 * k.val ≤ (y 0).val) (h₂ : (y 0).val < 64 * k.val + 64) : ∃ p ∈ (tripL_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_pay554 v3326 v3327 v3330 w2 X_arg12 X_arg13 X_arg14 X_arg15 X_arg16 X_arg17 k f_arg18 f_arg19 f_arg20 f_arg21 f_arg22).2.2.2.2, y ∈ p.1.set := by
  unfold tripL_k0_t3 trip_k0_t3
  dsimp only
  have e₁ : k0_off147 k = ![64 * k.val, 256] := by clear * - k; revert k; decide +kernel
  have e₂ : k0_off95 k = ![64 * k.val, 0] := by clear * - k; revert k; decide +kernel
  have h := (y 1).isLt
  by_cases h₃ : (y 1).val < 256
  · refine ⟨_, List.mem_cons_of_mem _ List.mem_cons_self, ?_⟩
    rw [Rect.mem_set_unit, e₂]
    intro a
    fin_cases a
    · exact ⟨h₁, h₂⟩
    · exact ⟨Nat.zero_le _, by show (y 1).val < 0 + 256; omega⟩
  · refine ⟨_, List.mem_cons_self, ?_⟩
    rw [Rect.mem_set_unit, e₁]
    intro a
    fin_cases a
    · exact ⟨h₁, h₂⟩
    · exact ⟨by show 256 ≤ (y 1).val; omega, h⟩

omit h14 h15 h17 h12 h13 h16 in
/-- and leave the rows before them. -/
theorem trip_results_miss (f) (y : S512x512.Idx) (h : (y 0).val < 64 * k.val) :
    arg22.view.read (Elt Ideal) (arg22.view.writes (Elt Ideal) f (tripL_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_pay554 v3326 v3327 v3330 w2 X_arg12 X_arg13 X_arg14 X_arg15 X_arg16 X_arg17 k f_arg18 f_arg19 f_arg20 f_arg21 f_arg22).2.2.2.2) y = arg22.view.read (Elt Ideal) f y := by
  unfold tripL_k0_t3 trip_k0_t3
  dsimp only
  have e₁ : k0_off147 k 0 = 64 * k.val := by clear * - k; revert k; decide +kernel
  have e₂ : k0_off95 k 0 = 64 * k.val := by clear * - k; revert k; decide +kernel
  rw [View.read_writes_cons_miss_of_axis _ _ _ _ _ 0 _ _ e₁ rfl rfl (.inl h), View.read_writes_cons_miss_of_axis _ _ _ _ _ 0 _ _ e₂ rfl rfl (.inl h)]
  rfl

end Finish

section Loop
variable (h12 : Reads3 (arg12.view.read (Elt Ideal) X_arg12) B.KP) (h13 : Reads3 (arg13.view.read (Elt Ideal) X_arg13) B.KS)
  (h14 : Reads2 (arg14.view.read (Elt Ideal) X_arg14) B.VT) (h15 : Reads2 (arg15.view.read (Elt Ideal) X_arg15) B.VS)
  (h16 : Reads2 (arg16.view.read (Elt Ideal) X_arg16) B.QC) (h17 : Reads2 (arg17.view.read (Elt Ideal) X_arg17) B.CS)
  (hu : Reads2 (arg18.view.read (Elt Ideal) f_arg18) (score B 0)) (ht : Reads2 (arg20.view.read (Elt Ideal) f_arg20) (fun _ t => top B 0 t))
include h12 h13 h14 h15 h16 h17 hu ht

omit k in
/-- Before trip `k` the even buffers hold the scores of unit `2 k` and their maxima, and the first `k` heads are finished. -/
theorem loop_holds (k : ℕ) (hk : k ≤ 8) :
    Reads2 (arg18.view.read (Elt Ideal) (arg18.view.writes (Elt Ideal) f_arg18 (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_pay554 v3326 v3327 v3330 w2 X_arg12 X_arg13 X_arg14 X_arg15 X_arg16 X_arg17 f_arg18 f_arg19 f_arg20 f_arg21 f_arg22 k).1)) (score B (2 * k % 16))
    ∧ Reads2 (arg20.view.read (Elt Ideal) (arg20.view.writes (Elt Ideal) f_arg20 (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_pay554 v3326 v3327 v3330 w2 X_arg12 X_arg13 X_arg14 X_arg15 X_arg16 X_arg17 f_arg18 f_arg19 f_arg20 f_arg21 f_arg22 k).2.2.1)) (fun _ t => top B (2 * k % 16) t)
    ∧ ∀ y : S512x512.Idx, (y 0).val < 64 * k →
      arg22.view.read (Elt Ideal) (arg22.view.writes (Elt Ideal) f_arg22 (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_pay554 v3326 v3327 v3330 w2 X_arg12 X_arg13 X_arg14 X_arg15 X_arg16 X_arg17 f_arg18 f_arg19 f_arg20 f_arg21 f_arg22 k).2.2.2.2) y = outT B (y 0) (y 1) := by
  induction k with
  | zero => exact ⟨hu, ht, fun y h => absurd h (by omega)⟩
  | succ k ih =>
    obtain ⟨iu, it, io⟩ := ih (by omega)
    rw [show 2 * k % 16 = 2 * k by omega] at iu it
    rw [show 2 * (k + 1) % 16 = (2 * k + 2) % 16 from rfl]
    have e := pb_k0_t3_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_pay554 v3326 v3327 v3330 w2 X_arg12 X_arg13 X_arg14 X_arg15 X_arg16 X_arg17 f_arg18 f_arg19 f_arg20 f_arg21 f_arg22 ⟨k, hk⟩
    rw [show ((⟨k, hk⟩ : Fin k0_t3_loop.trips).val + 1) = k + 1 from rfl] at e
    rw [e]
    simp only [View.writes_append]
    refine ⟨?_, ?_, fun y hy => ?_⟩
    · exact (even_scores (k := ⟨k, hk⟩) (h12 := h12) (h13 := h13) (h16 := h16) ..).1.reads _ _ (even_scores (k := ⟨k, hk⟩) (h12 := h12) (h13 := h13) (h16 := h16) ..).cover
    · exact (trip_tops (k := ⟨k, hk⟩) (h12 := h12) (h13 := h13) (h16 := h16) ..).reads _ _ (fun y => trip_tops_cover (k := ⟨k, hk⟩) (y := y) ..)
    · by_cases h : (y 0).val < 64 * k
      · exact (trip_results_miss (k := ⟨k, hk⟩) (h := h) ..).trans (io y h)
      · refine Pieces2.read_at _ _ (trip_results (k := ⟨k, hk⟩) (h14 := h14) (h15 := h15) (h17 := h17) (h12 := h12) (h13 := h13) (h16 := h16) (hu := iu) (ht := it) ..) y ?_
        exact trip_results_cover (k := ⟨k, hk⟩) (h₁ := by show 64 * k ≤ _; omega) (h₂ := by show _ < 64 * k + 64; omega) ..

end Loop
end Cert.KernelIdeal.Attn

end
-- ==== Proof.Attn.Block.lean ====
/- One block of tokens: its codes, its scales and factors, and the arrays that the stores of its tiles leave. -/
module

public import proofs.«01_k».proof.Proof.Attn.Loop
public import proofs.«01_k».proof.Proof.Attn.Quant

@[expose] public section

set_option maxRecDepth 16384

noncomputable section

namespace Cert.KernelIdeal.Attn

open Idealize.ShloMosaic Idealize.ShloMosaic.TcCoe
open Cert.KernelIdeal.Gen

/-- A block of activations over all the naturals. -/
def xOf (x : Vec Ideal S1x512x512 .bf16) (r c : ℕ) : EReal := if h : r < 512 ∧ c < 512 then x (ix3 0 ⟨r, h.1⟩ ⟨c, h.2⟩) else 0

/-- The scale of a token's head. -/
def scalesOf (x : ℕ → ℕ → EReal) (r h : ℕ) : EReal := scaleOf (level fun l : Fin 64 => x r (64 * h + l))

/-- The codes of a token. -/
def codesOf (x : ℕ → ℕ → EReal) (r c : ℕ) : EReal := clip (x r c * invOf (level fun l : Fin 64 => x r (64 * (c / 64) + l)))

/-- The factors of the exponents, a head a row. -/
def factorsOf (x : ℕ → ℕ → EReal) (h r : ℕ) : EReal := scalesOf x r h * Named.named (F := Ideal) (φ := .f32) κ "sm_scale_log2e" 0x3E38AA3B#32

/-- The block of the output. -/
def outBlock (B : Bufs) : Vec Ideal S1x512x512 .bf16 := fun y => outT B (y 2).val (y 1).val

/-- The block of the codes. -/
def codesBlock (x : Vec Ideal S1x512x512 .bf16) : Vec Ideal S1x512x512 .fp8e4m3 := fun y => codesOf (xOf x) (y 1).val (y 2).val

/-- The block of the scales. -/
def scalesBlock (x : Vec Ideal S1x512x512 .bf16) : Vec Ideal S1x512x8 .f32 := fun y => scalesOf (xOf x) (y 1).val (y 2).val

/-- Each written piece agrees with the array `G`. -/
structure Pieces {s : Shape} {e : EltTy} (L : List (View.Piece (Elt Ideal) s e)) (G : Vec Ideal s e) : Prop where
  agree : ∀ p ∈ L, ∀ x, p.2 x = G (p.1.emb x)

theorem Pieces.nil {s : Shape} {e : EltTy} (G : Vec Ideal s e) : Pieces [] G := ⟨fun _ h => absurd h List.not_mem_nil⟩
theorem Pieces.cons {s : Shape} {e : EltTy} {G : Vec Ideal s e} {L : List (View.Piece (Elt Ideal) s e)} (r : Rect s) (w)
    (h : ∀ x, w x = G (r.emb x)) (hL : Pieces L G) : Pieces (⟨r, w⟩ :: L) G := by
  refine ⟨fun p hp => ?_⟩
  rcases List.mem_cons.mp hp with rfl | hp
  · exact h
  · exact hL.agree p hp

section Views
variable {sg : RefSig} {κ : Kind} {sp : Space}

theorem Pieces.read {s : Shape} {e : EltTy} (v : View sg κ sp s e) (f) {G : Vec Ideal s e} {L : List (View.Piece (Elt Ideal) s e)} (h : Pieces L G)
    (hc : ∀ y, ∃ p ∈ L, y ∈ p.1.set) : v.read (Elt Ideal) (v.writes (Elt Ideal) f L) = G :=
  funext fun y => View.read_writes_apply_of_pieces v f G L h.agree y (hc y)

end Views

/-- A piece of a two-dimensional array. -/
theorem piece_at {a b p q : ℕ} {e : EltTy} {G : ℕ → ℕ → Elt Ideal e} {z : Fin 2 → ℕ} {r c : ℕ} (hz : z = ![r, c]) (inb)
    (w : (Rect.unit (s := ⟨2, ![a, b]⟩) ![p, q] z inb).shape.Idx → Elt Ideal e)
    (h : ∀ x, w x = G (p + x 0) (q + x 1)) (x) :
    w x = G ((Rect.unit (s := ⟨2, ![a, b]⟩) ![p, q] z inb).emb x 0) ((Rect.unit (s := ⟨2, ![a, b]⟩) ![p, q] z inb).emb x 1) := by
  rw [h]
  show _ = G (p + 1 * (x 0).val) (q + 1 * (x 1).val)
  rw [Nat.one_mul, Nat.one_mul]

/-- A load of a head of a tile of tokens. -/
theorem head_load {arg2 : Memref sig .tc .vmem S1x512x512 .bf16} (harg2 : arg2.IsWhole) (x0 : Vec Ideal S1x512x512 .bf16) {o : Fin 3 → ℕ} {p q : ℕ} (inb)
    (ho : o = ![0, p, q]) (hp : p ≤ 384) (hq : q ≤ 448) (r : Fin 128) (l : Fin 64) :
    arg2.view.readAt (Elt Ideal) (Rect.unit (s := S1x512x512) o S1x128x64.size inb).toLoadRect (harg2.unread x0) (ix3 0 r l) = xOf x0 (p + r) (q + l) := by
  subst ho
  have hr := r.isLt
  have hl := l.isLt
  rw [View.readAt_apply, harg2.read_unread, xOf, dif_pos ⟨by omega, by omega⟩]
  congr 1
  refine funext fun a => Fin.ext ?_
  fin_cases a
  · rfl
  · show p + 1 * r.val = p + r.val; omega
  · show q + 1 * l.val = q + l.val; omega

section Loads
variable {arg2 : Memref sig .tc .vmem S1x512x512 .bf16} (harg2 : arg2.IsWhole) (x0 : Vec Ideal S1x512x512 .bf16) (p : ℕ) (hp : p ≤ 384)
  (i0 i1 i2 i3 i4 i5 i6 i7)
include hp

theorem tile_codes (hs) (r : Fin 128) (c : Fin 512) : shapeCast S128x512 (tileCodes (arg2.view.readAt (Elt Ideal) (Rect.unit (s := S1x512x512) ![0, p, 0] S1x128x64.size i0).toLoadRect (harg2.unread x0)) (arg2.view.readAt (Elt Ideal) (Rect.unit (s := S1x512x512) ![0, p, 64] S1x128x64.size i1).toLoadRect (harg2.unread x0)) (arg2.view.readAt (Elt Ideal) (Rect.unit (s := S1x512x512) ![0, p, 128] S1x128x64.size i2).toLoadRect (harg2.unread x0)) (arg2.view.readAt (Elt Ideal) (Rect.unit (s := S1x512x512) ![0, p, 192] S1x128x64.size i3).toLoadRect (harg2.unread x0)) (arg2.view.readAt (Elt Ideal) (Rect.unit (s := S1x512x512) ![0, p, 256] S1x128x64.size i4).toLoadRect (harg2.unread x0)) (arg2.view.readAt (Elt Ideal) (Rect.unit (s := S1x512x512) ![0, p, 320] S1x128x64.size i5).toLoadRect (harg2.unread x0)) (arg2.view.readAt (Elt Ideal) (Rect.unit (s := S1x512x512) ![0, p, 384] S1x128x64.size i6).toLoadRect (harg2.unread x0)) (arg2.view.readAt (Elt Ideal) (Rect.unit (s := S1x512x512) ![0, p, 448] S1x128x64.size i7).toLoadRect (harg2.unread x0))) hs (ix2 r c) = codesOf (xOf x0) (p + r) c := by
  rw [shapeCast_self]
  exact tileCodes_apply (x := fun r c => xOf x0 (p + r) c) (head_load harg2 x0 (p := p) (q := 0) i0 rfl hp (by omega)) (head_load harg2 x0 (p := p) (q := 64) i1 rfl hp (by omega)) (head_load harg2 x0 (p := p) (q := 128) i2 rfl hp (by omega)) (head_load harg2 x0 (p := p) (q := 192) i3 rfl hp (by omega)) (head_load harg2 x0 (p := p) (q := 256) i4 rfl hp (by omega)) (head_load harg2 x0 (p := p) (q := 320) i5 rfl hp (by omega)) (head_load harg2 x0 (p := p) (q := 384) i6 rfl hp (by omega)) (head_load harg2 x0 (p := p) (q := 448) i7 rfl hp (by omega)) r c

theorem tile_codes_block (r : Fin 128) (c : Fin 512) : tileCodes (arg2.view.readAt (Elt Ideal) (Rect.unit (s := S1x512x512) ![0, p, 0] S1x128x64.size i0).toLoadRect (harg2.unread x0)) (arg2.view.readAt (Elt Ideal) (Rect.unit (s := S1x512x512) ![0, p, 64] S1x128x64.size i1).toLoadRect (harg2.unread x0)) (arg2.view.readAt (Elt Ideal) (Rect.unit (s := S1x512x512) ![0, p, 128] S1x128x64.size i2).toLoadRect (harg2.unread x0)) (arg2.view.readAt (Elt Ideal) (Rect.unit (s := S1x512x512) ![0, p, 192] S1x128x64.size i3).toLoadRect (harg2.unread x0)) (arg2.view.readAt (Elt Ideal) (Rect.unit (s := S1x512x512) ![0, p, 256] S1x128x64.size i4).toLoadRect (harg2.unread x0)) (arg2.view.readAt (Elt Ideal) (Rect.unit (s := S1x512x512) ![0, p, 320] S1x128x64.size i5).toLoadRect (harg2.unread x0)) (arg2.view.readAt (Elt Ideal) (Rect.unit (s := S1x512x512) ![0, p, 384] S1x128x64.size i6).toLoadRect (harg2.unread x0)) (arg2.view.readAt (Elt Ideal) (Rect.unit (s := S1x512x512) ![0, p, 448] S1x128x64.size i7).toLoadRect (harg2.unread x0)) (ix2 r c) = codesOf (xOf x0) (p + r) c :=
  tileCodes_apply (x := fun r c => xOf x0 (p + r) c) (head_load harg2 x0 (p := p) (q := 0) i0 rfl hp (by omega)) (head_load harg2 x0 (p := p) (q := 64) i1 rfl hp (by omega)) (head_load harg2 x0 (p := p) (q := 128) i2 rfl hp (by omega)) (head_load harg2 x0 (p := p) (q := 192) i3 rfl hp (by omega)) (head_load harg2 x0 (p := p) (q := 256) i4 rfl hp (by omega)) (head_load harg2 x0 (p := p) (q := 320) i5 rfl hp (by omega)) (head_load harg2 x0 (p := p) (q := 384) i6 rfl hp (by omega)) (head_load harg2 x0 (p := p) (q := 448) i7 rfl hp (by omega)) r c

theorem tile_scales (r : Fin 128) (c : Fin 8) : tileScales (arg2.view.readAt (Elt Ideal) (Rect.unit (s := S1x512x512) ![0, p, 0] S1x128x64.size i0).toLoadRect (harg2.unread x0)) (arg2.view.readAt (Elt Ideal) (Rect.unit (s := S1x512x512) ![0, p, 64] S1x128x64.size i1).toLoadRect (harg2.unread x0)) (arg2.view.readAt (Elt Ideal) (Rect.unit (s := S1x512x512) ![0, p, 128] S1x128x64.size i2).toLoadRect (harg2.unread x0)) (arg2.view.readAt (Elt Ideal) (Rect.unit (s := S1x512x512) ![0, p, 192] S1x128x64.size i3).toLoadRect (harg2.unread x0)) (arg2.view.readAt (Elt Ideal) (Rect.unit (s := S1x512x512) ![0, p, 256] S1x128x64.size i4).toLoadRect (harg2.unread x0)) (arg2.view.readAt (Elt Ideal) (Rect.unit (s := S1x512x512) ![0, p, 320] S1x128x64.size i5).toLoadRect (harg2.unread x0)) (arg2.view.readAt (Elt Ideal) (Rect.unit (s := S1x512x512) ![0, p, 384] S1x128x64.size i6).toLoadRect (harg2.unread x0)) (arg2.view.readAt (Elt Ideal) (Rect.unit (s := S1x512x512) ![0, p, 448] S1x128x64.size i7).toLoadRect (harg2.unread x0)) (ix2 r c) = scalesOf (xOf x0) (p + r) c :=
  tileScales_apply (x := fun r c => xOf x0 (p + r) c) (head_load harg2 x0 (p := p) (q := 0) i0 rfl hp (by omega)) (head_load harg2 x0 (p := p) (q := 64) i1 rfl hp (by omega)) (head_load harg2 x0 (p := p) (q := 128) i2 rfl hp (by omega)) (head_load harg2 x0 (p := p) (q := 192) i3 rfl hp (by omega)) (head_load harg2 x0 (p := p) (q := 256) i4 rfl hp (by omega)) (head_load harg2 x0 (p := p) (q := 320) i5 rfl hp (by omega)) (head_load harg2 x0 (p := p) (q := 384) i6 rfl hp (by omega)) (head_load harg2 x0 (p := p) (q := 448) i7 rfl hp (by omega)) r c

theorem tile_factors (hs) (r : Fin 128) (c : Fin 8) : shapeCast S8x128 (tileFactors (arg2.view.readAt (Elt Ideal) (Rect.unit (s := S1x512x512) ![0, p, 0] S1x128x64.size i0).toLoadRect (harg2.unread x0)) (arg2.view.readAt (Elt Ideal) (Rect.unit (s := S1x512x512) ![0, p, 64] S1x128x64.size i1).toLoadRect (harg2.unread x0)) (arg2.view.readAt (Elt Ideal) (Rect.unit (s := S1x512x512) ![0, p, 128] S1x128x64.size i2).toLoadRect (harg2.unread x0)) (arg2.view.readAt (Elt Ideal) (Rect.unit (s := S1x512x512) ![0, p, 192] S1x128x64.size i3).toLoadRect (harg2.unread x0)) (arg2.view.readAt (Elt Ideal) (Rect.unit (s := S1x512x512) ![0, p, 256] S1x128x64.size i4).toLoadRect (harg2.unread x0)) (arg2.view.readAt (Elt Ideal) (Rect.unit (s := S1x512x512) ![0, p, 320] S1x128x64.size i5).toLoadRect (harg2.unread x0)) (arg2.view.readAt (Elt Ideal) (Rect.unit (s := S1x512x512) ![0, p, 384] S1x128x64.size i6).toLoadRect (harg2.unread x0)) (arg2.view.readAt (Elt Ideal) (Rect.unit (s := S1x512x512) ![0, p, 448] S1x128x64.size i7).toLoadRect (harg2.unread x0))) hs (ix2 c r) = factorsOf (xOf x0) c (p + r) := by
  rw [shapeCast_self]
  exact tileFactors_apply (x := fun r c => xOf x0 (p + r) c) (head_load harg2 x0 (p := p) (q := 0) i0 rfl hp (by omega)) (head_load harg2 x0 (p := p) (q := 64) i1 rfl hp (by omega)) (head_load harg2 x0 (p := p) (q := 128) i2 rfl hp (by omega)) (head_load harg2 x0 (p := p) (q := 192) i3 rfl hp (by omega)) (head_load harg2 x0 (p := p) (q := 256) i4 rfl hp (by omega)) (head_load harg2 x0 (p := p) (q := 320) i5 rfl hp (by omega)) (head_load harg2 x0 (p := p) (q := 384) i6 rfl hp (by omega)) (head_load harg2 x0 (p := p) (q := 448) i7 rfl hp (by omega)) r c

end Loads

section Tiles
variable {G : ℕ → ℕ → EReal}

/-- A stored tile of codes. -/
theorem piece_codes {x : ℕ → ℕ → EReal} {p : ℕ} (inb) {v : FVec Ideal S128x512 .fp8e4m3} (h : ∀ (r : Fin 128) (c : Fin 512), v (ix2 r c) = codesOf x (p + r) c) (y) :
    v y = codesOf x ((Rect.unit (s := S512x512) ![p, 0] S128x512.size inb).emb y 0) ((Rect.unit (s := S512x512) ![p, 0] S128x512.size inb).emb y 1) := by
  have e : v y = v (ix2 (y 0) (y 1)) := congrArg v (funext fun a => by fin_cases a <;> rfl)
  refine e.trans ((h _ _).trans ?_)
  show _ = codesOf x (p + 1 * (y 0).val) (0 + 1 * (y 1).val)
  rw [Nat.one_mul, Nat.one_mul, Nat.zero_add]

/-- A stored tile of factors. -/
theorem piece_factors {x : ℕ → ℕ → EReal} {p : ℕ} (inb) {v : FVec Ideal S8x128 .f32} (h : ∀ (r : Fin 128) (c : Fin 8), v (ix2 c r) = factorsOf x c (p + r)) (y) :
    v y = factorsOf x ((Rect.unit (s := S8x512) ![0, p] S8x128.size inb).emb y 0) ((Rect.unit (s := S8x512) ![0, p] S8x128.size inb).emb y 1) := by
  have e : v y = v (ix2 (y 0) (y 1)) := congrArg v (funext fun a => by fin_cases a <;> rfl)
  refine e.trans ((h _ _).trans ?_)
  show _ = factorsOf x (0 + 1 * (y 0).val) (p + 1 * (y 1).val)
  rw [Nat.one_mul, Nat.one_mul, Nat.zero_add]

/-- A tile of codes in the block of the codes. -/
theorem piece_codesBlock {x : Vec Ideal S1x512x512 .bf16} {p : ℕ} (inb) {v : FVec Ideal S128x512 .fp8e4m3} (hs)
    (h : ∀ (r : Fin 128) (c : Fin 512), v (ix2 r c) = codesOf (xOf x) (p + r) c) (y) :
    shapeCast S1x128x512 v hs y = codesBlock x ((Rect.unit (s := S1x512x512) ![0, p, 0] S1x128x512.size inb).emb y) := by
  have e : y = ix3 0 (y 1) (y 2) := funext fun a => by
    fin_cases a
    · exact Subsingleton.elim (α := Fin 1) _ _
    · rfl
    · rfl
  rw [e]
  pointwise
  refine (h _ _).trans ?_
  show _ = codesOf (xOf x) (p + 1 * (y 1).val) (0 + 1 * (y 2).val)
  rw [Nat.one_mul, Nat.one_mul, Nat.zero_add]

/-- A tile of scales in the block of the scales. -/
theorem piece_scalesBlock {x : Vec Ideal S1x512x512 .bf16} {p : ℕ} (inb) {v : FVec Ideal S128x8 .f32} (hs)
    (h : ∀ (r : Fin 128) (c : Fin 8), v (ix2 r c) = scalesOf (xOf x) (p + r) c) (y) :
    shapeCast S1x128x8 v hs y = scalesBlock x ((Rect.unit (s := S1x512x8) ![0, p, 0] S1x128x8.size inb).emb y) := by
  have e : y = ix3 0 (y 1) (y 2) := funext fun a => by
    fin_cases a
    · exact Subsingleton.elim (α := Fin 1) _ _
    · rfl
    · rfl
  rw [e]
  pointwise
  refine (h _ _).trans ?_
  show _ = scalesOf (xOf x) (p + 1 * (y 1).val) (0 + 1 * (y 2).val)
  rw [Nat.one_mul, Nat.one_mul, Nat.zero_add]

/-- A tile of the output, transposed into its block. -/
theorem piece_outBlock {B : Bufs} {p : ℕ} (inb) {v : FVec Ideal S512x128 .f32} (ht hs hb)
    (h : ∀ (c : Fin 512) (r : Fin 128), v (ix2 c r) = outT B c (p + r)) (y) :
    shapeCast S1x128x512 (truncf (F := Ideal) .bf16 (transpose S128x512 [1, 0] v ht) hb) hs y = outBlock B ((Rect.unit (s := S1x512x512) ![0, p, 0] S1x128x512.size inb).emb y) := by
  have e : y = ix3 0 (y 1) (y 2) := funext fun a => by
    fin_cases a
    · exact Subsingleton.elim (α := Fin 1) _ _
    · rfl
    · rfl
  rw [e]
  pointwise
  refine (h _ _).trans ?_
  show _ = outT B (0 + 1 * (y 2).val) (p + 1 * (y 1).val)
  rw [Nat.one_mul, Nat.one_mul, Nat.zero_add]

end Tiles

/-- The load of a tile of columns of the transposed output. -/
theorem out_load {B : Bufs} {sg : RefSig} {κ : Kind} {sp : Space} (v : View sg κ sp S512x512 .f32) (f) (h : Reads2 (v.read (Elt Ideal) f) (outT B)) {o : Fin 2 → ℕ} (inb) {p : ℕ} (ho : o = ![0, p])
    (c : Fin 512) (r : Fin 128) : v.readAt (Elt Ideal) (Rect.unit (s := S512x512) o S512x128.size inb).toLoadRect f (ix2 c r) = outT B c (p + r) :=
  (readAt2 v f h inb ho _).trans (by show outT B (0 + c.val) (p + r.val) = _; rw [Nat.zero_add])

/-- Four tiles of rows cover. -/
theorem cover_rows {e : EltTy} {i₀ i₁ i₂ i₃} {w₀ w₁ w₂ w₃} (y : S512x512.Idx) :
    ∃ p ∈ ([⟨Rect.unit (s := S512x512) ![384, 0] S128x512.size i₃, w₃⟩, ⟨Rect.unit (s := S512x512) ![256, 0] S128x512.size i₂, w₂⟩,
      ⟨Rect.unit (s := S512x512) ![128, 0] S128x512.size i₁, w₁⟩, ⟨Rect.unit (s := S512x512) ![0, 0] S128x512.size i₀, w₀⟩] : List (View.Piece (Elt Ideal) S512x512 e)), y ∈ p.1.set := by
  have h0 : (y 0).val < 512 := (y 0).isLt
  have h1 : (y 1).val < 512 := (y 1).isLt
  have key : ∀ (n : ℕ) (inb), n ≤ (y 0).val → (y 0).val < n + 128 → y ∈ (Rect.unit (s := S512x512) ![n, 0] S128x512.size inb).set := by
    intro n inb h h'
    rw [Rect.mem_set_unit]
    intro a
    fin_cases a
    · exact ⟨h, h'⟩
    · exact ⟨Nat.zero_le _, by show (y 1).val < 0 + 512; omega⟩
  rcases (by omega : (y 0).val < 128 ∨ (128 ≤ (y 0).val ∧ (y 0).val < 256) ∨ (256 ≤ (y 0).val ∧ (y 0).val < 384) ∨ 384 ≤ (y 0).val) with h | h | h | h
  · exact ⟨_, .tail _ (.tail _ (.tail _ (.head _))), key 0 i₀ (by omega) (by omega)⟩
  · exact ⟨_, .tail _ (.tail _ (.head _)), key 128 i₁ (by omega) (by omega)⟩
  · exact ⟨_, .tail _ (.head _), key 256 i₂ (by omega) (by omega)⟩
  · exact ⟨_, .head _, key 384 i₃ (by omega) (by omega)⟩

/-- Four tiles of columns cover. -/
theorem cover_cols {e : EltTy} {i₀ i₁ i₂ i₃} {w₀ w₁ w₂ w₃} (y : S8x512.Idx) :
    ∃ p ∈ ([⟨Rect.unit (s := S8x512) ![0, 384] S8x128.size i₃, w₃⟩, ⟨Rect.unit (s := S8x512) ![0, 256] S8x128.size i₂, w₂⟩,
      ⟨Rect.unit (s := S8x512) ![0, 128] S8x128.size i₁, w₁⟩, ⟨Rect.unit (s := S8x512) ![0, 0] S8x128.size i₀, w₀⟩] : List (View.Piece (Elt Ideal) S8x512 e)), y ∈ p.1.set := by
  have h0 : (y 0).val < 8 := (y 0).isLt
  have h1 : (y 1).val < 512 := (y 1).isLt
  have key : ∀ (n : ℕ) (inb), n ≤ (y 1).val → (y 1).val < n + 128 → y ∈ (Rect.unit (s := S8x512) ![0, n] S8x128.size inb).set := by
    intro n inb h h'
    rw [Rect.mem_set_unit]
    intro a
    fin_cases a
    · exact ⟨Nat.zero_le _, by show (y 0).val < 0 + 8; omega⟩
    · exact ⟨h, h'⟩
  rcases (by omega : (y 1).val < 128 ∨ (128 ≤ (y 1).val ∧ (y 1).val < 256) ∨ (256 ≤ (y 1).val ∧ (y 1).val < 384) ∨ 384 ≤ (y 1).val) with h | h | h | h
  · exact ⟨_, .tail _ (.tail _ (.tail _ (.head _))), key 0 i₀ (by omega) (by omega)⟩
  · exact ⟨_, .tail _ (.tail _ (.head _)), key 128 i₁ (by omega) (by omega)⟩
  · exact ⟨_, .tail _ (.head _), key 256 i₂ (by omega) (by omega)⟩
  · exact ⟨_, .head _, key 384 i₃ (by omega) (by omega)⟩

/-- Four tiles of tokens cover a block of `d` columns. -/
theorem cover_block {d : ℕ} {e : EltTy} {i₀ i₁ i₂ i₃} {w₀ w₁ w₂ w₃} (y : (⟨3, ![1, 512, d]⟩ : Shape).Idx) :
    ∃ p ∈ ([⟨Rect.unit (s := ⟨3, ![1, 512, d]⟩) ![0, 384, 0] (⟨3, ![1, 128, d]⟩ : Shape).size i₃, w₃⟩, ⟨Rect.unit (s := ⟨3, ![1, 512, d]⟩) ![0, 256, 0] (⟨3, ![1, 128, d]⟩ : Shape).size i₂, w₂⟩,
      ⟨Rect.unit (s := ⟨3, ![1, 512, d]⟩) ![0, 128, 0] (⟨3, ![1, 128, d]⟩ : Shape).size i₁, w₁⟩, ⟨Rect.unit (s := ⟨3, ![1, 512, d]⟩) ![0, 0, 0] (⟨3, ![1, 128, d]⟩ : Shape).size i₀, w₀⟩] :
        List (View.Piece (Elt Ideal) (⟨3, ![1, 512, d]⟩ : Shape) e)), y ∈ p.1.set := by
  have h0 : (y 0).val < 1 := (y 0).isLt
  have h1 : (y 1).val < 512 := (y 1).isLt
  have h2 : (y 2).val < d := (y 2).isLt
  have key : ∀ (n : ℕ) (inb), n ≤ (y 1).val → (y 1).val < n + 128 → y ∈ (Rect.unit (s := ⟨3, ![1, 512, d]⟩) ![0, n, 0] (⟨3, ![1, 128, d]⟩ : Shape).size inb).set := by
    intro n inb h h'
    rw [Rect.mem_set_unit]
    intro a
    fin_cases a
    · exact ⟨Nat.zero_le _, by show (y 0).val < 0 + 1; omega⟩
    · exact ⟨h, h'⟩
    · exact ⟨Nat.zero_le _, by show (y 2).val < 0 + d; omega⟩
  rcases (by omega : (y 1).val < 128 ∨ (128 ≤ (y 1).val ∧ (y 1).val < 256) ∨ (256 ≤ (y 1).val ∧ (y 1).val < 384) ∨ 384 ≤ (y 1).val) with h | h | h | h
  · exact ⟨_, .tail _ (.tail _ (.tail _ (.head _))), key 0 i₀ (by omega) (by omega)⟩
  · exact ⟨_, .tail _ (.tail _ (.head _)), key 128 i₁ (by omega) (by omega)⟩
  · exact ⟨_, .tail _ (.head _), key 256 i₂ (by omega) (by omega)⟩
  · exact ⟨_, .head _, key 384 i₃ (by omega) (by omega)⟩

end Cert.KernelIdeal.Attn

end
-- ==== Proof.Attn.Keys.lean ====
/- A chunk of keys and values: the codes and scales of the two key heads, the keys padded for the products, and the codes of the values. -/
module

public import proofs.«01_k».proof.Proof.Attn.Block

@[expose] public section

set_option maxRecDepth 16384

noncomputable section

namespace Cert.KernelIdeal.Attn

open Idealize.ShloMosaic Idealize.ShloMosaic.TcCoe
open Cert.KernelIdeal.Gen

/-- A batch of keys or values over all the naturals. -/
def kvOf (x : Vec Ideal S1x4096x128 .bf16) (s l : ℕ) : EReal := if h : s < 4096 ∧ l < 128 then x (ix3 0 ⟨s, h.1⟩ ⟨l, h.2⟩) else 0

/-- The padded keys of head `j / 2`: in the half of the lanes that `j` names, and zero in the other. -/
def paddedOf (k : ℕ → ℕ → EReal) (j s l : ℕ) : EReal := if l / 64 = j % 2 then codesOf k s (64 * (j / 2) + l % 64) else 0

/-- The scale of a dimension of the values. -/
def vScaleOf (v : ℕ → ℕ → EReal) (d : ℕ) : EReal := scaleOf (level fun s : Fin 4096 => v s d)

/-- The codes of the values. -/
def vCodesOf (v : ℕ → ℕ → EReal) (s d : ℕ) : EReal := clip (v s d * invOf (level fun s : Fin 4096 => v s d))

/-- The lanes of the first key head. -/
def lowMask : IVec S256x128 1 := cmpi .slt (iota .tc S256x128 32 [1] iota_S256x128_d1_w32) (broadcast S256x128 64#32)

def chunk (x : FVec Ideal S1x256x128 .bf16) : FVec Ideal S256x128 .f32 := extf (F := Ideal) .f32 (shapeCast S256x128 x shapeCasts_S1x256x128_S256x128) bitsLt_bf16_f32
def rowMax (x : FVec Ideal S256x128 .f32) : FVec Ideal S256x128 .f32 :=
  mulf (broadcastTo S256x128 (shapeCast S256x1 (shapeCast S256x1 (multiReduction .maximumf [1] S256 x 0xFF800000#32 reduces_S256x128_S256 (.inl rfl) rfl) shapeCasts_S256_S256x1) shapeCasts_S256x1_S256x1) broadcasts_S256x1_S256x128)
    (broadcast S256x128 (Scalar.ofBits .f32 0x3B124925#32))
def zeros : FVec Ideal S256x128 .f32 := broadcast S256x128 (Scalar.ofBits .f32 0x00000000#32)
def level0 (x : FVec Ideal S1x256x128 .bf16) : FVec Ideal S256x128 .f32 := rowMax (select lowMask (absf (chunk x)) zeros)
def level1 (x : FVec Ideal S1x256x128 .bf16) : FVec Ideal S256x128 .f32 := rowMax (select lowMask zeros (absf (chunk x)))
def chunkCodes (x : FVec Ideal S1x256x128 .bf16) : FVec Ideal S256x128 .f32 := clipV (mulf (chunk x) (select lowMask (invV (level0 x)) (invV (level1 x))))
def chunkRoll (x : FVec Ideal S1x256x128 .bf16) : FVec Ideal S256x128 .f32 := dynamicRotate 1 64#32 none (chunkCodes x) rotates_S256x128_d1
def chunkScales (x : FVec Ideal S1x256x128 .bf16) : FVec Ideal S256x2 .f32 :=
  concatenate S256x2 1 [⟨S256x1, extractStridedSlice S256x1 ![0, 0] (scaleV (level0 x)) slices_S256x128_o0_0_S256x1⟩,
    ⟨S256x1, extractStridedSlice S256x1 ![0, 0] (scaleV (level1 x)) slices_S256x128_o0_0_S256x1⟩] concatenates_S256x1_S256x1_S256x2_d1

theorem lowMask_apply (a : Fin 256) (b : Fin 128) : lowMask (ix2 a b) = if b.val < 64 then 1#1 else 0#1 := by
  unfold lowMask
  pointwise
  have : ∀ b : Fin 128, IntOp.cmpi .slt (BitVec.ofNat 32 b.val) 64#32 = if b.val < 64 then 1#1 else 0#1 := by decide +kernel
  exact this b

theorem select_low {α : Type} (b : Fin 128) (x y : α) : Scalar.select (if b.val < 64 then 1#1 else 0#1) x y = if b.val < 64 then x else y := by
  split <;> rfl

theorem chunk_apply (x : FVec Ideal S1x256x128 .bf16) (a : Fin 256) (b : Fin 128) : chunk x (ix2 a b) = x (ix3 0 a b) := by
  unfold chunk; pointwise

theorem zero_bits : Ideal.ofBits .f32 0x00000000#32 = 0 := by simp [Ideal.ofBits, Ideal.ieee]
theorem bot_bits : Ideal.ofBits .f32 0xFF800000#32 = ⊥ := by simp [Ideal.ofBits, Ideal.ieee]

theorem abs_nonneg' (x : EReal) : 0 ≤ FloatOps.absf (F := Ideal) (φ := .f32) x := by
  show 0 ≤ max x (-x)
  rcases le_total 0 x with h | h
  · exact le_max_of_le_left h
  · exact le_max_of_le_right (by simpa using EReal.neg_le_neg_iff.mpr h)

/-- The greatest magnitude of one half of the lanes. -/
theorem fold_low (f : ℕ → EReal) (g : Fin 128 → EReal) (o : ℕ) (ho : o = 0 ∨ o = 64)
    (hg : ∀ b : Fin 128, g b = if o ≤ b.val ∧ b.val < o + 64 then FloatOps.absf (F := Ideal) (φ := .f32) (f b) else 0) :
    Finset.fold max (Ideal.ofBits .f32 0xFF800000#32) g Finset.univ
      = Finset.fold max (Ideal.ofBits .f32 0xFF800000#32) (fun l : Fin 64 => FloatOps.absf (F := Ideal) (φ := .f32) (f (o + l))) Finset.univ := by
  refine eq_of_forall_ge_iff fun x => ?_
  rw [Finset.fold_max_le, Finset.fold_max_le]
  refine and_congr_right fun _ => ⟨fun h l _ => ?_, fun h b _ => ?_⟩
  · have := h ⟨o + l, by omega⟩ (Finset.mem_univ _)
    rwa [hg, if_pos ⟨by show o ≤ o + l.val; omega, by show o + l.val < o + 64; omega⟩] at this
  · rw [hg]
    split
    · rename_i hb
      have := h ⟨b.val - o, by omega⟩ (Finset.mem_univ _)
      rwa [show o + (b.val - o) = b.val by omega] at this
    · exact (abs_nonneg' _).trans (h 0 (Finset.mem_univ _))

section Chunk
variable {x : FVec Ideal S1x256x128 .bf16} {k : ℕ → ℕ → EReal} {p : ℕ} (h : ∀ (a : Fin 256) (b : Fin 128), x (ix3 0 a b) = k (p + a) b)
include h

theorem level0_apply (a : Fin 256) (b : Fin 128) : level0 x (ix2 a b) = level fun l : Fin 64 => k (p + a) (64 * 0 + l) := by
  unfold level0 level rowMax zeros
  pointwise
  refine congrArg (· * _) (fold_low (fun b => k (p + a) b) _ 0 (.inl rfl) fun b => ?_)
  rw [lowMask_apply, select_low, chunk_apply, h]
  have : (0 ≤ b.val ∧ b.val < 0 + 64) ↔ b.val < 64 := by omega
  simp only [this, zero_bits]

theorem level1_apply (a : Fin 256) (b : Fin 128) : level1 x (ix2 a b) = level fun l : Fin 64 => k (p + a) (64 * 1 + l) := by
  unfold level1 level rowMax zeros
  pointwise
  refine congrArg (· * _) (fold_low (fun b => k (p + a) b) _ 64 (.inr rfl) fun b => ?_)
  rw [lowMask_apply, select_low, chunk_apply, h]
  have := b.isLt
  by_cases hb : b.val < 64
  · rw [if_pos hb, if_neg (by omega)]
  · rw [if_neg hb, if_pos (by omega)]

theorem chunkCodes_apply (a : Fin 256) (b : Fin 128) : chunkCodes x (ix2 a b) = codesOf k (p + a) b := by
  unfold chunkCodes codesOf
  rw [clipV_apply]
  refine congrArg clip ?_
  pointwise
  rw [chunk_apply, h, lowMask_apply, select_low, invV_apply, invV_apply, level0_apply h, level1_apply h]
  have := b.isLt
  refine congrArg (_ * ·) ?_
  split
  · rw [show b.val / 64 = 0 by omega]
  · rw [show b.val / 64 = 1 by omega]

theorem chunkRoll_apply (a : Fin 256) (b : Fin 128) : chunkRoll x (ix2 a b) = codesOf k (p + a) ((b + 64) % 128) := by
  unfold chunkRoll
  have := b.isLt
  pointwise
  refine (chunkCodes_apply h _ _).trans ?_
  show codesOf k (p + a.val) ((b.val + 128 - 64) % 128) = _
  rw [show b.val + 128 - 64 = b.val + 64 by omega]

theorem chunkScales_apply (a : Fin 256) (b : Fin 2) : chunkScales x (ix2 a b) = scalesOf k (p + a) b := by
  unfold chunkScales scalesOf
  have := b.isLt
  pointwise
  split
  · rename_i hb
    rw [scaleV_apply, level0_apply h, show b.val = 0 from by omega]
  · rename_i hb
    rw [scaleV_apply, level1_apply h, show b.val = 1 from by omega]

/-- A half of the codes, padded. -/
theorem padded0_apply (a : Fin 256) (b : Fin 128) : truncf (F := Ideal) .fp8e4m3 (select lowMask (chunkCodes x) zeros) bitsLt_fp8e4m3_f32 (ix2 a b) = paddedOf k 0 (p + a) b := by
  unfold zeros paddedOf
  have := b.isLt
  pointwise
  rw [lowMask_apply, select_low, chunkCodes_apply h]
  by_cases hb : b.val < 64
  · simp only [if_pos hb, if_pos (show b.val / 64 = 0 by omega), Nat.mod_eq_of_lt hb]
  · rw [if_neg hb, if_neg (by omega)]
theorem padded1_apply (a : Fin 256) (b : Fin 128) : truncf (F := Ideal) .fp8e4m3 (select lowMask zeros (chunkRoll x)) bitsLt_fp8e4m3_f32 (ix2 a b) = paddedOf k 1 (p + a) b := by
  unfold zeros paddedOf
  have := b.isLt
  pointwise
  rw [lowMask_apply, select_low, chunkRoll_apply h]
  by_cases hb : b.val < 64
  · rw [if_pos hb, if_neg (by omega)]
  · simp only [if_neg hb, if_pos (show b.val / 64 = 1 by omega), show (b.val + 64) % 128 = b.val % 64 by omega]
theorem padded2_apply (a : Fin 256) (b : Fin 128) : truncf (F := Ideal) .fp8e4m3 (select lowMask (chunkRoll x) zeros) bitsLt_fp8e4m3_f32 (ix2 a b) = paddedOf k 2 (p + a) b := by
  unfold zeros paddedOf
  have := b.isLt
  pointwise
  rw [lowMask_apply, select_low, chunkRoll_apply h]
  by_cases hb : b.val < 64
  · rw [if_pos hb, if_pos (by omega), show 64 * (2 / 2) + b.val % 64 = (b.val + 64) % 128 by omega]
  · rw [if_neg hb, if_neg (by omega)]
theorem padded3_apply (a : Fin 256) (b : Fin 128) : truncf (F := Ideal) .fp8e4m3 (select lowMask zeros (chunkCodes x)) bitsLt_fp8e4m3_f32 (ix2 a b) = paddedOf k 3 (p + a) b := by
  unfold zeros paddedOf
  have := b.isLt
  pointwise
  rw [lowMask_apply, select_low, chunkCodes_apply h]
  by_cases hb : b.val < 64
  · rw [if_pos hb, if_neg (by omega)]
  · rw [if_neg hb, if_pos (by omega), show 64 * (3 / 2) + b.val % 64 = b.val by omega]

theorem keyScale0_apply (a : Fin 256) (b : Fin 128) : scaleV (level0 x) (ix2 a b) = scalesOf k (p + a) 0 := by rw [scaleV_apply, level0_apply h]; rfl
theorem keyScale1_apply (a : Fin 256) (b : Fin 128) : scaleV (level1 x) (ix2 a b) = scalesOf k (p + a) 1 := by rw [scaleV_apply, level1_apply h]; rfl

/-- The codes of a chunk of the values. -/
theorem valueCodes_apply {iv : FVec Ideal S1x128 .f32} {c : ℕ → EReal} (hi : ∀ b : Fin 128, iv (ix2 0 b) = c b) (a : Fin 256) (b : Fin 128) :
    truncf (F := Ideal) .fp8e4m3 (k0_pay263 (F := Ideal) iv x) bitsLt_fp8e4m3_f32 (ix2 a b) = clip (k (p + a) b * c b) := by
  unfold clip
  pointwise [k0_pay263]
  rw [h, hi]
theorem valueCodesT_apply {iv : FVec Ideal S1x128 .f32} {c : ℕ → EReal} (hi : ∀ b : Fin 128, iv (ix2 0 b) = c b) (b : Fin 128) (a : Fin 256) :
    k0_pay265 (F := Ideal) iv x (ix2 b a) = clip (k (p + a) b * c b) := by
  unfold clip
  pointwise [k0_pay265, k0_pay263]
  rw [h, hi]

/-- The running magnitudes of the values take one more chunk. -/
def AbsUpTo (G : ℕ → ℕ → EReal) (n : ℕ) (v : FVec Ideal S8x128 .f32) : Prop :=
  ∀ (a : Fin 8) (b : Fin 128) (x : EReal), v (ix2 a b) ≤ x ↔ 0 ≤ x ∧ ∀ r < 32 * n, FloatOps.absf (F := Ideal) (φ := .f32) (G (8 * r + a) b) ≤ x

theorem absUpTo_step {n : ℕ} (hp : p = 256 * n) {m : FVec Ideal S8x128 .f32} (hm : AbsUpTo k n m) : AbsUpTo k (n + 1) (k0_pay28 m x) := by
  intro a b y
  pointwise [k0_pay28]
  simp only [h _ _, Fin.val_mk, hp]
  rw [max_le_iff, Finset.fold_max_le, hm, bot_bits]
  constructor
  · rintro ⟨⟨h0, h1⟩, -, h2⟩
    refine ⟨h0, fun r hr => ?_⟩
    by_cases hr' : r < 32 * n
    · exact h1 r hr'
    · have := h2 ⟨r - 32 * n, by omega⟩ (Finset.mem_univ _)
      convert this using 3
      show _ = 256 * n + ((r - 32 * n) * 8 + _)
      omega
  · rintro ⟨h0, h⟩
    refine ⟨⟨h0, fun r hr => h r (by omega)⟩, bot_le, fun r _ => ?_⟩
    convert h (32 * n + r) (by omega) using 3
    omega

end Chunk

theorem absUpTo_zero {G : ℕ → ℕ → EReal} : AbsUpTo G 0 (k0_pay27 (F := Ideal)) := by
  intro a b x
  pointwise [k0_pay27]
  simp

/-- The level of a dimension of the values. -/
theorem valueLevel_apply {G : ℕ → ℕ → EReal} {m : FVec Ideal S8x128 .f32} (hm : AbsUpTo G 16 m) (b : Fin 128) :
    k0_pay29 m (ix2 0 b) = level fun s : Fin 4096 => G s b := by
  unfold level
  pointwise [k0_pay29]
  refine congrArg (· * _) (eq_of_forall_ge_iff fun x => ?_)
  rw [Finset.fold_max_le, Finset.fold_max_le]
  refine and_congr_right fun _ => ⟨fun h s _ => ?_, fun h a _ => ?_⟩
  · have := ((hm _ _ _).mp (h ⟨s.val % 8, by omega⟩ (Finset.mem_univ _))).2 (s.val / 8) (by omega)
    rwa [show 8 * (s.val / 8) + s.val % 8 = s.val by omega] at this
  · refine (hm _ _ _).mpr ⟨(abs_nonneg' _).trans (h 0 (Finset.mem_univ _)), fun r hr => ?_⟩
    exact h ⟨8 * r + a.val, by omega⟩ (Finset.mem_univ _)

/-- The load of a chunk. -/
theorem chunk_load {arg : Memref sig .tc .vmem S1x4096x128 .bf16} (harg : arg.IsWhole) (x : Vec Ideal S1x4096x128 .bf16) {o : Fin 3 → ℕ} {p : ℕ} (inb)
    (ho : o = ![0, p, 0]) (hp : p ≤ 3840) (a : Fin 256) (b : Fin 128) :
    arg.view.readAt (Elt Ideal) (Rect.unit (s := S1x4096x128) o S1x256x128.size inb).toLoadRect (harg.unread x) (ix3 0 a b) = kvOf x (p + a) b := by
  subst ho
  have hr := a.isLt
  have hl := b.isLt
  rw [View.readAt_apply, harg.read_unread, kvOf, dif_pos ⟨by omega, by omega⟩]
  congr 1
  refine funext fun d => Fin.ext ?_
  fin_cases d
  · rfl
  · show p + 1 * a.val = p + a.val; omega
  · show 0 + 1 * b.val = b.val; omega

theorem cast_chunk {e : EltTy} {v : S256x128.Idx → Elt Ideal e} {g : ℕ → ℕ → Elt Ideal e} (hs) (h : ∀ (a : Fin 256) (b : Fin 128), v (ix2 a b) = g a b)
    (a : Fin 256) (b : Fin 128) : shapeCast S1x256x128 v hs (ix3 0 a b) = g a b := by
  pointwise
  exact h _ _
theorem cast_scales {e : EltTy} {v : S256x2.Idx → Elt Ideal e} {g : ℕ → ℕ → Elt Ideal e} (hs) (h : ∀ (a : Fin 256) (b : Fin 2), v (ix2 a b) = g a b)
    (a : Fin 256) (b : Fin 2) : shapeCast S1x256x2 v hs (ix3 0 a b) = g a b := by
  pointwise
  exact h _ _

/-- A stored chunk of an array of three axes. -/
theorem piece_chunk {e : EltTy} {n m d j p : ℕ} {G : ℕ → ℕ → ℕ → Elt Ideal e} {v : (⟨3, ![1, 256, d]⟩ : Shape).Idx → Elt Ideal e} {o : Fin 3 → ℕ} (inb) (ho : o = ![j, p, 0])
    (h : ∀ (a : Fin 256) (b : Fin d), v (ix3 0 a b) = G j (p + a) b) (y) :
    v y = (fun y : (⟨3, ![n, m, d]⟩ : Shape).Idx => G (y 0) (y 1) (y 2)) ((Rect.unit (s := ⟨3, ![n, m, d]⟩) o (⟨3, ![1, 256, d]⟩ : Shape).size inb).emb y) := by
  subst ho
  have e' : y = ix3 0 (y 1) (y 2) := funext fun a => by
    fin_cases a
    · exact Subsingleton.elim (α := Fin 1) _ _
    · rfl
    · rfl
  have e0 : (y 0).val = 0 := by have : (y 0).val < 1 := (y 0).isLt; omega
  show _ = G (j + 1 * (y 0).val) (p + 1 * (y 1).val) (0 + 1 * (y 2).val)
  rw [e0, Nat.mul_zero, Nat.add_zero, Nat.one_mul, Nat.one_mul, Nat.zero_add, e']
  exact h _ _

/-- The rows of the first `n` chunks along an axis are stored. -/
def Filled {s : Shape} {e : EltTy} (ax : Fin s.rank) (n : ℕ) (L : List (View.Piece (Elt Ideal) s e)) (G : Vec Ideal s e) : Prop :=
  Pieces L G ∧ ∀ y : s.Idx, (y ax).val < 256 * n → ∃ p ∈ L, y ∈ p.1.set

theorem Filled.nil {s : Shape} {e : EltTy} (ax : Fin s.rank) (G : Vec Ideal s e) : Filled ax 0 [] G := ⟨Pieces.nil _, fun y h => absurd h (by omega)⟩

theorem Filled.append {s : Shape} {e : EltTy} {ax : Fin s.rank} {n : ℕ} {L L' : List (View.Piece (Elt Ideal) s e)} {G : Vec Ideal s e} (h : Filled ax n L G) (h' : Pieces L' G)
    (hc : ∀ y : s.Idx, 256 * n ≤ (y ax).val → (y ax).val < 256 * n + 256 → ∃ p ∈ L', y ∈ p.1.set) : Filled ax (n + 1) (L' ++ L) G := by
  refine ⟨⟨fun p hp => ?_⟩, fun y hy => ?_⟩
  · rcases List.mem_append.mp hp with hp | hp
    · exact h'.agree p hp
    · exact h.1.agree p hp
  · by_cases hy' : (y ax).val < 256 * n
    · obtain ⟨p, hp, hm⟩ := h.2 y hy'
      exact ⟨p, List.mem_append_right _ hp, hm⟩
    · obtain ⟨p, hp, hm⟩ := hc y (by omega) (by omega)
      exact ⟨p, List.mem_append_left _ hp, hm⟩

theorem Filled.read {sg : RefSig} {κ : Kind} {sp : Space} {s : Shape} {e : EltTy} {ax : Fin s.rank} {n : ℕ} (v : View sg κ sp s e) (f) {G : Vec Ideal s e} {L : List (View.Piece (Elt Ideal) s e)}
    (h : Filled ax n L G) (hn : s.size ax ≤ 256 * n) : v.read (Elt Ideal) (v.writes (Elt Ideal) f L) = G :=
  h.1.read v f fun y => h.2 y (lt_of_lt_of_le (y ax).isLt hn)

/-- A row of a chunk lies in its piece. -/
theorem chunk_mem {n m d j p : ℕ} {o : Fin 3 → ℕ} (inb) (ho : o = ![j, p, 0]) (y : (⟨3, ![n, m, d]⟩ : Shape).Idx) (h0 : (y 0).val = j) (h₁ : p ≤ (y 1).val) (h₂ : (y 1).val < p + 256) :
    y ∈ (Rect.unit (s := ⟨3, ![n, m, d]⟩) o (⟨3, ![1, 256, d]⟩ : Shape).size inb).set := by
  subst ho
  rw [Rect.mem_set_unit]
  intro a
  have h2 : (y 2).val < d := (y 2).isLt
  fin_cases a
  · exact ⟨by show j ≤ (y 0).val; omega, by show (y 0).val < j + 1; omega⟩
  · exact ⟨h₁, h₂⟩
  · exact ⟨Nat.zero_le _, by show (y 2).val < 0 + d; omega⟩

end Cert.KernelIdeal.Attn

end
-- ==== Proof.Attn.KeyLoop.lean ====
/- The loops over the chunks of keys and values: the arrays that they leave. -/
module

public import proofs.«01_k».proof.Proof.Attn.Keys

@[expose] public section

set_option maxRecDepth 16384

noncomputable section

namespace Cert.KernelIdeal.Attn

open Idealize.ShloMosaic Idealize.ShloMosaic.TcCoe
open Cert.KernelIdeal.Gen

def keyCodes (x : Vec Ideal S1x4096x128 .bf16) : Vec Ideal S1x4096x128 .fp8e4m3 := fun y => codesOf (kvOf x) (y 1) (y 2)
def keyScales (x : Vec Ideal S1x4096x128 .bf16) : Vec Ideal S1x4096x2 .f32 := fun y => scalesOf (kvOf x) (y 1) (y 2)
def valueCodes (x : Vec Ideal S1x4096x128 .bf16) : Vec Ideal S1x4096x128 .fp8e4m3 := fun y => vCodesOf (kvOf x) (y 1) (y 2)
def valueScales (x : Vec Ideal S1x4096x128 .bf16) : Vec Ideal S1x1x128 .f32 := fun y => vScaleOf (kvOf x) (y 2)
/-- The padded keys of a batch, -/
def keysPadded (x : Vec Ideal S1x4096x128 .bf16) : Vec Ideal S4x4096x128 .fp8e4m3 := fun y => paddedOf (kvOf x) (y 0) (y 1) (y 2)
/-- their scales along the lanes, -/
def keysScaled (x : Vec Ideal S1x4096x128 .bf16) : Vec Ideal S2x4096x128 .f32 := fun y => scalesOf (kvOf x) (y 1) (y 0)
/-- the codes of the values, transposed, -/
def valuesT (x : Vec Ideal S1x4096x128 .bf16) : Vec Ideal S128x4096 .fp8e4m3 := fun y => vCodesOf (kvOf x) (y 1) (y 0)
/-- and their scales along the rows. -/
def valuesScaled (x : Vec Ideal S1x4096x128 .bf16) : Vec Ideal S128x128 .f32 := fun y => vScaleOf (kvOf x) (y 0)

section Whole
variable {sg : RefSig} {κ : Kind} {sp : Space} {x : Vec Ideal S1x4096x128 .bf16} {s : FVec Ideal S1x128 .f32} (hs : ∀ b : Fin 128, s (ix2 0 b) = vScaleOf (kvOf x) b)
include hs

/-- The stored scales of the values. -/
theorem whole_valueScales (v : View sg κ sp S1x1x128 .f32) (f) (inb) :
    v.read (Elt Ideal) (v.writes (Elt Ideal) f [⟨Rect.unit (s := S1x1x128) ![0, 0, 0] S1x1x128.size inb, k0_pay259 s⟩]) = valueScales x := by
  refine (Pieces.cons (G := valueScales x) _ _ (fun y => ?_) (Pieces.nil _)).read v f fun y => ⟨_, .head _, ?_⟩
  · have e : y = ix3 0 0 (y 2) := funext fun a => by
      fin_cases a
      · exact Subsingleton.elim (α := Fin 1) _ _
      · exact Subsingleton.elim (α := Fin 1) _ _
      · rfl
    refine (congrArg (k0_pay259 s) e).trans ?_
    pointwise [k0_pay259]
    refine (hs _).trans ?_
    show _ = vScaleOf (kvOf x) (0 + 1 * (y 2).val)
    rw [Nat.one_mul, Nat.zero_add]
  · rw [Rect.mem_set_unit]
    intro a
    have := (y a).isLt
    fin_cases a
    · exact ⟨Nat.zero_le _, by simpa using this⟩
    · exact ⟨Nat.zero_le _, by simpa using this⟩
    · exact ⟨Nat.zero_le _, by simpa using this⟩

/-- The stored scales of the values along the rows. -/
theorem whole_valuesScaled (v : View sg κ sp S128x128 .f32) (f) (inb) :
    v.read (Elt Ideal) (v.writes (Elt Ideal) f [⟨Rect.unit (s := S128x128) ![0, 0] S128x128.size inb, k0_pay260 s⟩]) = valuesScaled x := by
  refine (Pieces.cons (G := valuesScaled x) _ _ (fun y => ?_) (Pieces.nil _)).read v f fun y => ⟨_, .head _, ?_⟩
  · have e : y = ix2 (y 0) (y 1) := funext fun a => by fin_cases a <;> rfl
    refine (congrArg (k0_pay260 s) e).trans ?_
    pointwise [k0_pay260]
    refine (hs _).trans ?_
    show _ = vScaleOf (kvOf x) (0 + 1 * (y 0).val)
    rw [Nat.one_mul, Nat.zero_add]
  · rw [Rect.mem_set_unit]
    intro a
    have := (y a).isLt
    fin_cases a
    · exact ⟨Nat.zero_le _, by simpa using this⟩
    · exact ⟨Nat.zero_le _, by simpa using this⟩

end Whole

/-- A stored chunk of the transposed values. -/
theorem piece_valuesT {x : Vec Ideal S1x4096x128 .bf16} {p : ℕ} {o : Fin 2 → ℕ} (inb) (ho : o = ![0, p]) {v : FVec Ideal S128x256 .fp8e4m3}
    (h : ∀ (b : Fin 128) (a : Fin 256), v (ix2 b a) = vCodesOf (kvOf x) (p + a) b) (y) :
    v y = valuesT x ((Rect.unit (s := S128x4096) o S128x256.size inb).emb y) := by
  subst ho
  have e : y = ix2 (y 0) (y 1) := funext fun a => by fin_cases a <;> rfl
  refine (congrArg v e).trans ((h _ _).trans ?_)
  show _ = vCodesOf (kvOf x) (p + 1 * (y 1).val) (0 + 1 * (y 0).val)
  rw [Nat.one_mul, Nat.one_mul, Nat.zero_add]

theorem k_lt (k : Fin k0_t2_loop.trips) : k.val < 16 := Nat.lt_of_lt_of_le k.isLt k0_t2_abs.2.1
theorem off1_eq (k : Fin k0_t1_loop.trips) : k0_off1 k = ![0, 256 * k.val, 0] := by revert k; decide +kernel
theorem off2_eq (k : Fin k0_t2_loop.trips) : k0_off2 k = ![0, 256 * k.val, 0] := by revert k; decide +kernel
theorem off3_eq (k : Fin k0_t2_loop.trips) : k0_off3 k = ![0, 256 * k.val, 0] := by revert k; decide +kernel
theorem off4_eq (k : Fin k0_t2_loop.trips) : k0_off4 k = ![0, 256 * k.val, 0] := by revert k; decide +kernel
theorem off5_eq (k : Fin k0_t2_loop.trips) : k0_off5 k = ![1, 256 * k.val, 0] := by revert k; decide +kernel
theorem off6_eq (k : Fin k0_t2_loop.trips) : k0_off6 k = ![0, 256 * k.val, 0] := by revert k; decide +kernel
theorem off7_eq (k : Fin k0_t2_loop.trips) : k0_off7 k = ![1, 256 * k.val, 0] := by revert k; decide +kernel
theorem off8_eq (k : Fin k0_t2_loop.trips) : k0_off8 k = ![2, 256 * k.val, 0] := by revert k; decide +kernel
theorem off9_eq (k : Fin k0_t2_loop.trips) : k0_off9 k = ![3, 256 * k.val, 0] := by revert k; decide +kernel
theorem off10_eq (k : Fin k0_t2_loop.trips) : k0_off10 k = ![0, 256 * k.val] := by revert k; decide +kernel

variable (c : Dev nD) (i : grid0.Coords)
  (arg2 : Memref sig .tc .vmem S1x512x512 .bf16) (harg2 : arg2.IsWhole) (arg3 : Memref sig .tc .vmem S1x4096x128 .bf16) (harg3 : arg3.IsWhole)
  (arg4 : Memref sig .tc .vmem S1x4096x128 .bf16) (harg4 : arg4.IsWhole) (arg5 : Memref sig .tc .vmem S1x512x512 .bf16) (harg5 : arg5.IsWhole)
  (arg6 : Memref sig .tc .vmem S1x512x512 .fp8e4m3) (harg6 : arg6.IsWhole) (arg7 : Memref sig .tc .vmem S1x512x8 .f32) (harg7 : arg7.IsWhole)
  (arg8 : Memref sig .tc .vmem S1x4096x128 .fp8e4m3) (harg8 : arg8.IsWhole) (arg9 : Memref sig .tc .vmem S1x4096x2 .f32) (harg9 : arg9.IsWhole)
  (arg10 : Memref sig .tc .vmem S1x4096x128 .fp8e4m3) (harg10 : arg10.IsWhole) (arg11 : Memref sig .tc .vmem S1x1x128 .f32) (harg11 : arg11.IsWhole)
  (arg12 : Memref sig .tc .vmem S4x4096x128 .fp8e4m3) (harg12 : arg12.IsWhole) (arg13 : Memref sig .tc .vmem S2x4096x128 .f32) (harg13 : arg13.IsWhole)
  (arg14 : Memref sig .tc .vmem S128x4096 .fp8e4m3) (harg14 : arg14.IsWhole) (arg15 : Memref sig .tc .vmem S128x128 .f32) (harg15 : arg15.IsWhole)
  (arg16 : Memref sig .tc .vmem S512x512 .fp8e4m3) (harg16 : arg16.IsWhole) (arg17 : Memref sig .tc .vmem S8x512 .f32) (harg17 : arg17.IsWhole)
  (arg18 : Memref sig .tc .vmem S4096x256 .f32) (harg18 : arg18.IsWhole) (arg19 : Memref sig .tc .vmem S4096x256 .f32) (harg19 : arg19.IsWhole)
  (arg20 : Memref sig .tc .vmem S1x256 .f32) (harg20 : arg20.IsWhole) (arg21 : Memref sig .tc .vmem S1x256 .f32) (harg21 : arg21.IsWhole)
  (arg22 : Memref sig .tc .vmem S512x512 .f32) (harg22 : arg22.IsWhole)
variable (k0_h1 : k0_cond1 i = 1#1) (v3469 : FVec Ideal S1x128 .f32)
  (x1 : Vec Ideal S1x4096x128 .bf16) (x2 : Vec Ideal S1x4096x128 .bf16)

/-- The magnitudes of the values after some chunks. -/
theorem magnitudes_hold (k : ℕ) (hk : k ≤ 16) : AbsUpTo (kvOf x2) k (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 (harg4.unread x2) k0_pay27 k) := by
  induction k with
  | zero => exact absUpTo_zero
  | succ k ih =>
    have e := st_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 (harg4.unread x2) k0_pay27 ⟨k, hk⟩
    rw [show ((⟨k, hk⟩ : Fin k0_t1_loop.trips).val + 1) = k + 1 from rfl] at e
    rw [e]
    unfold tripR_k0_t1 trip_k0_t1
    exact absUpTo_step (p := 256 * k) (fun a b => chunk_load harg4 x2 _ (off1_eq ⟨k, hk⟩) (by show 256 * k ≤ 3840; omega) a b) rfl (ih (by omega))

section Trip
variable (k : Fin k0_t2_loop.trips)

theorem keyCodes_pieces : Pieces (tripL_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 lowMask v3469 (harg3.unread x1) (harg4.unread x2) k).1 (keyCodes x1) := by
  unfold tripL_k0_t2 trip_k0_t2
  dsimp only
  refine Pieces.cons _ _ (piece_chunk (e := .fp8e4m3) (n := 1) (m := 4096) (d := 128) (j := 0) (p := 256 * k.val) (G := fun _ s l => codesOf (kvOf x1) s l) _ (off2_eq k) (cast_chunk (e := .fp8e4m3) (v := truncf (F := Ideal) .fp8e4m3 (chunkCodes _) bitsLt_fp8e4m3_f32) (g := fun a b => codesOf (kvOf x1) (256 * k.val + a) b) _ fun a b => chunkCodes_apply (h := fun a b => chunk_load harg3 x1 _ (off2_eq k) (by have := k_lt k; omega) a b) a b)) ?_
  exact Pieces.nil _
theorem keyCodes_cover (y : S1x4096x128.Idx) (h₁ : 256 * k.val ≤ (y 1).val) (h₂ : (y 1).val < 256 * k.val + 256) : ∃ p ∈ (tripL_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 lowMask v3469 (harg3.unread x1) (harg4.unread x2) k).1, y ∈ p.1.set := by
  unfold tripL_k0_t2 trip_k0_t2
  dsimp only
  refine ⟨_, .head _, ?_⟩; exact (chunk_mem (n := 1) (m := 4096) (d := 128) (k0_off2_inb i k k0_h1) (off2_eq k) y (by have : (y 0).val < 1 := (y 0).isLt; omega) h₁ h₂)

theorem keyScales_pieces : Pieces (tripL_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 lowMask v3469 (harg3.unread x1) (harg4.unread x2) k).2.1 (keyScales x1) := by
  unfold tripL_k0_t2 trip_k0_t2
  dsimp only
  refine Pieces.cons _ _ (piece_chunk (e := .f32) (n := 1) (m := 4096) (d := 2) (j := 0) (p := 256 * k.val) (G := fun _ s l => scalesOf (kvOf x1) s l) _ (off3_eq k) (cast_scales (e := .f32) (v := chunkScales _) (g := fun a b => scalesOf (kvOf x1) (256 * k.val + a) b) _ fun a b => chunkScales_apply (h := fun a b => chunk_load harg3 x1 _ (off2_eq k) (by have := k_lt k; omega) a b) a b)) ?_
  exact Pieces.nil _
theorem keyScales_cover (y : S1x4096x2.Idx) (h₁ : 256 * k.val ≤ (y 1).val) (h₂ : (y 1).val < 256 * k.val + 256) : ∃ p ∈ (tripL_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 lowMask v3469 (harg3.unread x1) (harg4.unread x2) k).2.1, y ∈ p.1.set := by
  unfold tripL_k0_t2 trip_k0_t2
  dsimp only
  refine ⟨_, .head _, ?_⟩; exact (chunk_mem (n := 1) (m := 4096) (d := 2) (k0_off3_inb i k k0_h1) (off3_eq k) y (by have : (y 0).val < 1 := (y 0).isLt; omega) h₁ h₂)

theorem valueCodes_pieces (hv : ∀ b : Fin 128, v3469 (ix2 0 b) = invOf (level fun s : Fin 4096 => kvOf x2 s b)) : Pieces (tripL_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 lowMask v3469 (harg3.unread x1) (harg4.unread x2) k).2.2.1 (valueCodes x2) := by
  unfold tripL_k0_t2 trip_k0_t2
  dsimp only
  refine Pieces.cons _ _ (piece_chunk (e := .fp8e4m3) (n := 1) (m := 4096) (d := 128) (j := 0) (p := 256 * k.val) (G := fun _ s l => vCodesOf (kvOf x2) s l) _ (off2_eq k) (cast_chunk (e := .fp8e4m3) (v := truncf (F := Ideal) .fp8e4m3 (k0_pay263 (F := Ideal) v3469 _) bitsLt_fp8e4m3_f32) (g := fun a b => vCodesOf (kvOf x2) (256 * k.val + a) b) _ fun a b => valueCodes_apply (h := fun a b => chunk_load harg4 x2 _ (off2_eq k) (by have := k_lt k; omega) a b) (c := fun b => invOf (level fun s : Fin 4096 => kvOf x2 s b)) hv a b)) ?_
  exact Pieces.nil _
theorem valueCodes_cover (y : S1x4096x128.Idx) (h₁ : 256 * k.val ≤ (y 1).val) (h₂ : (y 1).val < 256 * k.val + 256) : ∃ p ∈ (tripL_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 lowMask v3469 (harg3.unread x1) (harg4.unread x2) k).2.2.1, y ∈ p.1.set := by
  unfold tripL_k0_t2 trip_k0_t2
  dsimp only
  refine ⟨_, .head _, ?_⟩; exact (chunk_mem (n := 1) (m := 4096) (d := 128) (k0_off2_inb i k k0_h1) (off2_eq k) y (by have : (y 0).val < 1 := (y 0).isLt; omega) h₁ h₂)

theorem keysPadded_pieces : Pieces (tripL_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 lowMask v3469 (harg3.unread x1) (harg4.unread x2) k).2.2.2.1 (keysPadded x1) := by
  unfold tripL_k0_t2 trip_k0_t2
  dsimp only
  refine Pieces.cons _ _ (piece_chunk (e := .fp8e4m3) (n := 4) (m := 4096) (d := 128) (j := 3) (p := 256 * k.val) (G := fun j s l => paddedOf (kvOf x1) j s l) _ (off9_eq k) (cast_chunk (e := .fp8e4m3) (v := truncf (F := Ideal) .fp8e4m3 (select lowMask zeros (chunkCodes _)) bitsLt_fp8e4m3_f32) (g := fun a b => paddedOf (kvOf x1) 3 (256 * k.val + a) b) _ fun a b => padded3_apply (h := fun a b => chunk_load harg3 x1 _ (off2_eq k) (by have := k_lt k; omega) a b) a b)) ?_
  refine Pieces.cons _ _ (piece_chunk (e := .fp8e4m3) (n := 4) (m := 4096) (d := 128) (j := 2) (p := 256 * k.val) (G := fun j s l => paddedOf (kvOf x1) j s l) _ (off8_eq k) (cast_chunk (e := .fp8e4m3) (v := truncf (F := Ideal) .fp8e4m3 (select lowMask (chunkRoll _) zeros) bitsLt_fp8e4m3_f32) (g := fun a b => paddedOf (kvOf x1) 2 (256 * k.val + a) b) _ fun a b => padded2_apply (h := fun a b => chunk_load harg3 x1 _ (off2_eq k) (by have := k_lt k; omega) a b) a b)) ?_
  refine Pieces.cons _ _ (piece_chunk (e := .fp8e4m3) (n := 4) (m := 4096) (d := 128) (j := 1) (p := 256 * k.val) (G := fun j s l => paddedOf (kvOf x1) j s l) _ (off7_eq k) (cast_chunk (e := .fp8e4m3) (v := truncf (F := Ideal) .fp8e4m3 (select lowMask zeros (chunkRoll _)) bitsLt_fp8e4m3_f32) (g := fun a b => paddedOf (kvOf x1) 1 (256 * k.val + a) b) _ fun a b => padded1_apply (h := fun a b => chunk_load harg3 x1 _ (off2_eq k) (by have := k_lt k; omega) a b) a b)) ?_
  refine Pieces.cons _ _ (piece_chunk (e := .fp8e4m3) (n := 4) (m := 4096) (d := 128) (j := 0) (p := 256 * k.val) (G := fun j s l => paddedOf (kvOf x1) j s l) _ (off6_eq k) (cast_chunk (e := .fp8e4m3) (v := truncf (F := Ideal) .fp8e4m3 (select lowMask (chunkCodes _) zeros) bitsLt_fp8e4m3_f32) (g := fun a b => paddedOf (kvOf x1) 0 (256 * k.val + a) b) _ fun a b => padded0_apply (h := fun a b => chunk_load harg3 x1 _ (off2_eq k) (by have := k_lt k; omega) a b) a b)) ?_
  exact Pieces.nil _
theorem keysPadded_cover (y : S4x4096x128.Idx) (h₁ : 256 * k.val ≤ (y 1).val) (h₂ : (y 1).val < 256 * k.val + 256) : ∃ p ∈ (tripL_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 lowMask v3469 (harg3.unread x1) (harg4.unread x2) k).2.2.2.1, y ∈ p.1.set := by
  unfold tripL_k0_t2 trip_k0_t2
  dsimp only
  have h0 : (y 0).val < 4 := (y 0).isLt
  rcases (by omega : (y 0).val = 3 ∨ (y 0).val = 2 ∨ (y 0).val = 1 ∨ (y 0).val = 0) with h | h | h | h
  · exact ⟨_, .head _, chunk_mem (n := 4) (m := 4096) (d := 128) (k0_off9_inb i k k0_h1) (off9_eq k) y h h₁ h₂⟩
  · exact ⟨_, .tail _ (.head _), chunk_mem (n := 4) (m := 4096) (d := 128) (k0_off8_inb i k k0_h1) (off8_eq k) y h h₁ h₂⟩
  · exact ⟨_, .tail _ (.tail _ (.head _)), chunk_mem (n := 4) (m := 4096) (d := 128) (k0_off7_inb i k k0_h1) (off7_eq k) y h h₁ h₂⟩
  · exact ⟨_, .tail _ (.tail _ (.tail _ (.head _))), chunk_mem (n := 4) (m := 4096) (d := 128) (k0_off6_inb i k k0_h1) (off6_eq k) y h h₁ h₂⟩

theorem keysScaled_pieces : Pieces (tripL_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 lowMask v3469 (harg3.unread x1) (harg4.unread x2) k).2.2.2.2.1 (keysScaled x1) := by
  unfold tripL_k0_t2 trip_k0_t2
  dsimp only
  refine Pieces.cons _ _ (piece_chunk (e := .f32) (n := 2) (m := 4096) (d := 128) (j := 1) (p := 256 * k.val) (G := fun j s _ => scalesOf (kvOf x1) s j) _ (off5_eq k) (cast_chunk (e := .f32) (v := scaleV (level1 _)) (g := fun a _ => scalesOf (kvOf x1) (256 * k.val + a) 1) _ fun a b => keyScale1_apply (h := fun a b => chunk_load harg3 x1 _ (off2_eq k) (by have := k_lt k; omega) a b) a b)) ?_
  refine Pieces.cons _ _ (piece_chunk (e := .f32) (n := 2) (m := 4096) (d := 128) (j := 0) (p := 256 * k.val) (G := fun j s _ => scalesOf (kvOf x1) s j) _ (off4_eq k) (cast_chunk (e := .f32) (v := scaleV (level0 _)) (g := fun a _ => scalesOf (kvOf x1) (256 * k.val + a) 0) _ fun a b => keyScale0_apply (h := fun a b => chunk_load harg3 x1 _ (off2_eq k) (by have := k_lt k; omega) a b) a b)) ?_
  exact Pieces.nil _
theorem keysScaled_cover (y : S2x4096x128.Idx) (h₁ : 256 * k.val ≤ (y 1).val) (h₂ : (y 1).val < 256 * k.val + 256) : ∃ p ∈ (tripL_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 lowMask v3469 (harg3.unread x1) (harg4.unread x2) k).2.2.2.2.1, y ∈ p.1.set := by
  unfold tripL_k0_t2 trip_k0_t2
  dsimp only
  have h0 : (y 0).val < 2 := (y 0).isLt
  rcases (by omega : (y 0).val = 1 ∨ (y 0).val = 0) with h | h
  · exact ⟨_, .head _, chunk_mem (n := 2) (m := 4096) (d := 128) (k0_off5_inb i k k0_h1) (off5_eq k) y h h₁ h₂⟩
  · exact ⟨_, .tail _ (.head _), chunk_mem (n := 2) (m := 4096) (d := 128) (k0_off4_inb i k k0_h1) (off4_eq k) y h h₁ h₂⟩

theorem valuesT_pieces (hv : ∀ b : Fin 128, v3469 (ix2 0 b) = invOf (level fun s : Fin 4096 => kvOf x2 s b)) : Pieces (tripL_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 lowMask v3469 (harg3.unread x1) (harg4.unread x2) k).2.2.2.2.2 (valuesT x2) := by
  unfold tripL_k0_t2 trip_k0_t2
  dsimp only
  refine Pieces.cons _ _ (piece_valuesT _ (off10_eq k) (fun b a => valueCodesT_apply (h := fun a b => chunk_load harg4 x2 _ (off2_eq k) (by have := k_lt k; omega) a b) (c := fun b => invOf (level fun s : Fin 4096 => kvOf x2 s b)) hv b a)) ?_
  exact Pieces.nil _
theorem valuesT_cover (y : S128x4096.Idx) (h₁ : 256 * k.val ≤ (y 1).val) (h₂ : (y 1).val < 256 * k.val + 256) : ∃ p ∈ (tripL_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 lowMask v3469 (harg3.unread x1) (harg4.unread x2) k).2.2.2.2.2, y ∈ p.1.set := by
  unfold tripL_k0_t2 trip_k0_t2
  dsimp only
  refine ⟨_, .head _, ?_⟩
  rw [Rect.mem_set_unit, off10_eq k]
  have h0 : (y 0).val < 128 := (y 0).isLt
  intro a
  fin_cases a
  · exact ⟨Nat.zero_le _, by show (y 0).val < 0 + 128; omega⟩
  · exact ⟨h₁, h₂⟩

end Trip

/-- The arrays after some chunks. -/
theorem chunks_hold (hv : ∀ b : Fin 128, v3469 (ix2 0 b) = invOf (level fun s : Fin 4096 => kvOf x2 s b)) (k : ℕ) (hk : k ≤ 16) :
    Filled 1 k (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 lowMask v3469 (harg3.unread x1) (harg4.unread x2) k).1 (keyCodes x1)
    ∧ Filled 1 k (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 lowMask v3469 (harg3.unread x1) (harg4.unread x2) k).2.1 (keyScales x1)
    ∧ Filled 1 k (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 lowMask v3469 (harg3.unread x1) (harg4.unread x2) k).2.2.1 (valueCodes x2)
    ∧ Filled 1 k (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 lowMask v3469 (harg3.unread x1) (harg4.unread x2) k).2.2.2.1 (keysPadded x1)
    ∧ Filled 1 k (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 lowMask v3469 (harg3.unread x1) (harg4.unread x2) k).2.2.2.2.1 (keysScaled x1)
    ∧ Filled 1 k (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 lowMask v3469 (harg3.unread x1) (harg4.unread x2) k).2.2.2.2.2 (valuesT x2) := by
  induction k with
  | zero => exact ⟨Filled.nil _ _, Filled.nil _ _, Filled.nil _ _, Filled.nil _ _, Filled.nil _ _, Filled.nil _ _⟩
  | succ k ih =>
    obtain ⟨i1, i2, i3, i4, i5, i6⟩ := ih (by omega)
    have e := pb_k0_t2_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h1 lowMask v3469 (harg3.unread x1) (harg4.unread x2) ⟨k, hk⟩
    rw [show ((⟨k, hk⟩ : Fin k0_t2_loop.trips).val + 1) = k + 1 from rfl] at e
    rw [e]
    refine ⟨?_, ?_, ?_, ?_, ?_, ?_⟩
    · exact i1.append (keyCodes_pieces (k := ⟨k, hk⟩) ..) (fun y h₁ h₂ => keyCodes_cover (k := ⟨k, hk⟩) (y := y) (h₁ := h₁) (h₂ := h₂) ..)
    · exact i2.append (keyScales_pieces (k := ⟨k, hk⟩) ..) (fun y h₁ h₂ => keyScales_cover (k := ⟨k, hk⟩) (y := y) (h₁ := h₁) (h₂ := h₂) ..)
    · exact i3.append (valueCodes_pieces (k := ⟨k, hk⟩) (hv := hv) ..) (fun y h₁ h₂ => valueCodes_cover (k := ⟨k, hk⟩) (y := y) (h₁ := h₁) (h₂ := h₂) ..)
    · exact i4.append (keysPadded_pieces (k := ⟨k, hk⟩) ..) (fun y h₁ h₂ => keysPadded_cover (k := ⟨k, hk⟩) (y := y) (h₁ := h₁) (h₂ := h₂) ..)
    · exact i5.append (keysScaled_pieces (k := ⟨k, hk⟩) ..) (fun y h₁ h₂ => keysScaled_cover (k := ⟨k, hk⟩) (y := y) (h₁ := h₁) (h₂ := h₂) ..)
    · exact i6.append (valuesT_pieces (k := ⟨k, hk⟩) (hv := hv) ..) (fun y h₁ h₂ => valuesT_cover (k := ⟨k, hk⟩) (y := y) (h₁ := h₁) (h₂ := h₂) ..)

end Cert.KernelIdeal.Attn

end
-- ==== Proof.KernelIdeal.ValueA.lean ====
/- The kernel's body run at the first point of a batch, where the keys and values are prepared. -/
module

public import proofs.«01_k».proof.Proof.KernelIdeal.Setup
public import proofs.«01_k».proof.Proof.Attn.Block
public import proofs.«01_k».proof.Proof.Attn.KeyLoop

@[expose] public section

-- membership in a rectangle of production extents (`View.cover_of_tiled`): the elaborator's structural look
-- recurses once per coordinate of the long axes
set_option maxRecDepth 1000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

local notation "𝕄" => MT nD τ sig Unit (Elt Ideal) ℕ (UR sig nD τ) ℕ

set_option maxHeartbeats 4000000 in
theorem valueRun_A (c : Dev nD) (i : grid0.Coords) (arg2 : Memref sig .tc .vmem S1x512x512 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x512x512 .bf16) (harg5 : arg5.IsWhole) (arg6 : Memref sig .tc .vmem S1x512x512 .fp8e4m3) (harg6 : arg6.IsWhole) (arg7 : Memref sig .tc .vmem S1x512x8 .f32) (harg7 : arg7.IsWhole) (arg8 : Memref sig .tc .vmem S1x4096x128 .fp8e4m3) (harg8 : arg8.IsWhole) (arg9 : Memref sig .tc .vmem S1x4096x2 .f32) (harg9 : arg9.IsWhole) (arg10 : Memref sig .tc .vmem S1x4096x128 .fp8e4m3) (harg10 : arg10.IsWhole) (arg11 : Memref sig .tc .vmem S1x1x128 .f32) (harg11 : arg11.IsWhole) (arg12 : Memref sig .tc .vmem S4x4096x128 .fp8e4m3) (harg12 : arg12.IsWhole) (arg13 : Memref sig .tc .vmem S2x4096x128 .f32) (harg13 : arg13.IsWhole) (arg14 : Memref sig .tc .vmem S128x4096 .fp8e4m3) (harg14 : arg14.IsWhole) (arg15 : Memref sig .tc .vmem S128x128 .f32) (harg15 : arg15.IsWhole) (arg16 : Memref sig .tc .vmem S512x512 .fp8e4m3) (harg16 : arg16.IsWhole) (arg17 : Memref sig .tc .vmem S8x512 .f32) (harg17 : arg17.IsWhole) (arg18 : Memref sig .tc .vmem S4096x256 .f32) (harg18 : arg18.IsWhole) (arg19 : Memref sig .tc .vmem S4096x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S512x512 .f32) (harg22 : arg22.IsWhole) (hc0 : cond0_0 i)
    (x0 : Vec Ideal S1x512x512 .bf16) (x1 : Vec Ideal S1x4096x128 .bf16) (x2 : Vec Ideal S1x4096x128 .bf16) (B : Bufs)
    (h0 : Reads3 (keysPadded x1) B.KP) (h1 : Reads3 (keysScaled x1) B.KS) (h2 : Reads2 (valuesT x2) B.VT) (h3 : Reads2 (valuesScaled x2) B.VS)
    (hq : B.QC = codesOf (xOf x0)) (hc : B.CS = factorsOf (xOf x0)) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ owns (c : Thread nD τ) arg5 fullShare (outBlock B) ∗ owns (c : Thread nD τ) arg6 fullShare (codesBlock x0) ∗ owns (c : Thread nD τ) arg7 fullShare (scalesBlock x0) ∗ owns (c : Thread nD τ) arg8 fullShare (keyCodes x1) ∗ owns (c : Thread nD τ) arg9 fullShare (keyScales x1) ∗ owns (c : Thread nD τ) arg10 fullShare (valueCodes x2) ∗ owns (c : Thread nD τ) arg11 fullShare (valueScales x2) ∗ owns (c : Thread nD τ) arg12 fullShare (keysPadded x1) ∗ owns (c : Thread nD τ) arg13 fullShare (keysScaled x1) ∗ owns (c : Thread nD τ) arg14 fullShare (valuesT x2) ∗ owns (c : Thread nD τ) arg15 fullShare (valuesScaled x2) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := Ideal)) Variants.none c none) E (cc0_fp8_gqa_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_fp8_gqa_attention_eq_skeleton]; unfold cc0_fp8_gqa_attention_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, Hk⟩
    obtain rfl := harg2.eq_unread hf0; obtain rfl := harg3.eq_unread hf1; obtain rfl := harg4.eq_unread hf2
    sl_exec (disch := first | sl_exact hc0)
    sl_step
    have hm := magnitudes_hold (x2 := x2) (k0_h1 := hc0) (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (arg18 := arg18) (harg18 := harg18) (arg19 := arg19) (harg19 := harg19) (arg20 := arg20) (harg20 := harg20) (arg21 := arg21) (harg21 := harg21) (arg22 := arg22) (harg22 := harg22) (k := (Scf.trips k0_t1_loop.lb k0_t1_loop.ub k0_t1_loop.st)) (hk := by decide +kernel)
    rw [show (Scf.trips k0_t1_loop.lb k0_t1_loop.ub k0_t1_loop.st) = 16 from by decide +kernel] at hm
    have hv : ∀ b : Fin 128, (valueRun_A.sl.r_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x2) (ix2 0 b) = invOf (level fun s : Fin 4096 => kvOf x2 s b) := fun b =>
      (invV_apply (a := 1) (b := 128) (k0_pay29 _) 0 b).trans (congrArg invOf (valueLevel_apply hm b))
    have hs : ∀ b : Fin 128, (valueRun_A.sl.r_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x2) (ix2 0 b) = vScaleOf (kvOf x2) b := fun b =>
      (scaleV_apply (a := 1) (b := 128) (k0_pay29 _) 0 b).trans (congrArg scaleOf (valueLevel_apply hm b))
    obtain ⟨g1, g2, g3, g4, g5, g6⟩ := chunks_hold (x1 := x1) (x2 := x2) (k0_h1 := hc0) (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (arg18 := arg18) (harg18 := harg18) (arg19 := arg19) (harg19 := harg19) (arg20 := arg20) (harg20 := harg20) (arg21 := arg21) (harg21 := harg21) (arg22 := arg22) (harg22 := harg22) (v3469 := (valueRun_A.sl.r_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x2)) (hv := hv) (k := (Scf.trips k0_t2_loop.lb k0_t2_loop.ub k0_t2_loop.st)) (hk := by decide +kernel)
    rw [show lowMask = k0_pay26 from rfl] at g1 g2 g3 g4 g5 g6
    have e8 := g1.read arg8.view f6 (by decide +kernel)
    have e9 := g2.read arg9.view f7 (by decide +kernel)
    have e10 := g3.read arg10.view f8 (by decide +kernel)
    have e12 := g4.read arg12.view fs0 (by decide +kernel)
    have e13 := g5.read arg13.view fs1 (by decide +kernel)
    have e14 := g6.read arg14.view fs2 (by decide +kernel)
    have e11 : arg11.view.read (Elt Ideal) (arg11.view.writes (Elt Ideal) arg11.view.junk (valueRun_A.sl.H9_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x2)) = valueScales x2 :=
      whole_valueScales hs _ _ _
    have e15 : arg15.view.read (Elt Ideal) (arg15.view.writes (Elt Ideal) arg15.view.junk (valueRun_A.sl.HS3_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x2)) = valuesScaled x2 :=
      whole_valuesScaled hs _ _ _
    rw [← e12] at h0; rw [← e13] at h1; rw [← e14] at h2; rw [← e15] at h3
    have f1 : Pieces2 (valueRun_A.sl.HS4_4 c arg2 harg2 x0) (codesOf (xOf x0)) := by
      refine Pieces2.cons _ _ (piece_codes _ (tile_codes harg2 x0 384 (by omega) _ _ _ _ _ _ _ _ shapeCasts_S128x512_S128x512)) ?_
      refine Pieces2.cons _ _ (piece_codes _ (tile_codes harg2 x0 256 (by omega) _ _ _ _ _ _ _ _ shapeCasts_S128x512_S128x512)) ?_
      refine Pieces2.cons _ _ (piece_codes _ (tile_codes harg2 x0 128 (by omega) _ _ _ _ _ _ _ _ shapeCasts_S128x512_S128x512)) ?_
      refine Pieces2.cons _ _ (piece_codes _ (tile_codes harg2 x0 0 (by omega) _ _ _ _ _ _ _ _ shapeCasts_S128x512_S128x512)) ?_
      exact Pieces2.nil _
    have f2 : Pieces2 (valueRun_A.sl.HS5_4 c arg2 harg2 x0) (factorsOf (xOf x0)) := by
      refine Pieces2.cons _ _ (piece_factors _ (tile_factors harg2 x0 384 (by omega) _ _ _ _ _ _ _ _ shapeCasts_S8x128_S8x128)) ?_
      refine Pieces2.cons _ _ (piece_factors _ (tile_factors harg2 x0 256 (by omega) _ _ _ _ _ _ _ _ shapeCasts_S8x128_S8x128)) ?_
      refine Pieces2.cons _ _ (piece_factors _ (tile_factors harg2 x0 128 (by omega) _ _ _ _ _ _ _ _ shapeCasts_S8x128_S8x128)) ?_
      refine Pieces2.cons _ _ (piece_factors _ (tile_factors harg2 x0 0 (by omega) _ _ _ _ _ _ _ _ shapeCasts_S8x128_S8x128)) ?_
      exact Pieces2.nil _
    have f3 : Pieces (valueRun_A.sl.H4_4 c arg2 harg2 x0) (codesBlock x0) := by
      refine Pieces.cons _ _ (piece_codesBlock _ shapeCasts_S128x512_S1x128x512 (tile_codes_block harg2 x0 384 (by omega) _ _ _ _ _ _ _ _)) ?_
      refine Pieces.cons _ _ (piece_codesBlock _ shapeCasts_S128x512_S1x128x512 (tile_codes_block harg2 x0 256 (by omega) _ _ _ _ _ _ _ _)) ?_
      refine Pieces.cons _ _ (piece_codesBlock _ shapeCasts_S128x512_S1x128x512 (tile_codes_block harg2 x0 128 (by omega) _ _ _ _ _ _ _ _)) ?_
      refine Pieces.cons _ _ (piece_codesBlock _ shapeCasts_S128x512_S1x128x512 (tile_codes_block harg2 x0 0 (by omega) _ _ _ _ _ _ _ _)) ?_
      exact Pieces.nil _
    have f4 : Pieces (valueRun_A.sl.H5_4 c arg2 harg2 x0) (scalesBlock x0) := by
      refine Pieces.cons _ _ (piece_scalesBlock _ shapeCasts_S128x8_S1x128x8 (tile_scales harg2 x0 384 (by omega) _ _ _ _ _ _ _ _)) ?_
      refine Pieces.cons _ _ (piece_scalesBlock _ shapeCasts_S128x8_S1x128x8 (tile_scales harg2 x0 256 (by omega) _ _ _ _ _ _ _ _)) ?_
      refine Pieces.cons _ _ (piece_scalesBlock _ shapeCasts_S128x8_S1x128x8 (tile_scales harg2 x0 128 (by omega) _ _ _ _ _ _ _ _)) ?_
      refine Pieces.cons _ _ (piece_scalesBlock _ shapeCasts_S128x8_S1x128x8 (tile_scales harg2 x0 0 (by omega) _ _ _ _ _ _ _ _)) ?_
      exact Pieces.nil _
    have h16 : Reads2 (arg16.view.read (Elt Ideal) (arg16.view.writes (Elt Ideal) arg16.view.junk (valueRun_A.sl.HS4_4 c arg2 harg2 x0))) B.QC := by
      rw [hq]; exact f1.reads _ _ cover_rows
    have h17 : Reads2 (arg17.view.read (Elt Ideal) (arg17.view.writes (Elt Ideal) arg17.view.junk (valueRun_A.sl.HS5_4 c arg2 harg2 x0))) B.CS := by
      rw [hc]; exact f2.reads _ _ cover_cols
    have f5 : Tiled 16 (valueRun_A.sl.HS6_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 fs0 fs1) (score B 0) := by
      unfold valueRun_A.sl.HS6_16
      iterate 16
        refine Tiled.cons _ ?_ ?_ (tileIs_cast _ (tile_score _ _ _ _ _ _ h0 h16 h1 _ _ _ _ _ _ ?_ ?_ ?_))
      · exact Tiled.nil _
      all_goals (clear * -; decide +kernel)
    have f6 : Pieces2 (valueRun_A.sl.HS8_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 fs0 fs1) (fun _ t => top B 0 t) := by
      refine piece_top _ fun b => ?_
      refine (congrFun (shapeCast_self _ _) _).trans (top_of_maxUpTo _ _ _ _ _ ?_ b)
      iterate 16
        refine maxUpTo_step _ _ _ _ _ _ ?_ (tile_score _ _ _ _ _ _ h0 h16 h1 _ _ _ _ _ _ ?_ ?_ ?_)
      · exact maxUpTo_zero
      all_goals (clear * -; decide +kernel)
    have f7 := (loop_holds (h12 := h0) (h13 := h1) (h14 := h2) (h15 := h3) (h16 := h16) (h17 := h17)
      (hu := f5.1.reads arg18.view arg18.view.junk f5.cover) (ht := f6.reads arg20.view arg20.view.junk (cover_top _)) (f_arg19 := fs7) (f_arg21 := fs9) (f_arg22 := fs10)
      (k := 8) (hk := le_refl 8) (B := B) (v3326 := valueRun_A.sl.r_253 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 fs0 fs1) (v3327 := 0#32) (v3330 := 0#32) (w2 := 2#32)
      (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (arg18 := arg18) (harg18 := harg18) (arg19 := arg19) (harg19 := harg19) (arg20 := arg20) (harg20 := harg20) (arg21 := arg21) (harg21 := harg21) (arg22 := arg22) (harg22 := harg22) ..).2.2
    replace f7 := fun y => f7 y (lt_of_lt_of_eq (y 0).isLt rfl)
    iapply Hk
    isplitl [H0]
    · iexists _; isplitr
      · ipureintro; exact harg2.read_unread _
      · iexact H0
    isplitl [H1]
    · iexists _; isplitr
      · ipureintro; exact harg3.read_unread _
      · iexact H1
    isplitl [H2]
    · iexists _; isplitr
      · ipureintro; exact harg4.read_unread _
      · iexact H2
    isplitl [H3]
    · iexists _; isplitr
      swap
      · iexact H3
      ipureintro
      refine Pieces.read _ _ ?_ (cover_block (d := 512))
      refine Pieces.cons _ _ (piece_outBlock (p := 384) _ transposes_S512x128_p1_0_S128x512 shapeCasts_S128x512_S1x128x512 bitsLt_bf16_f32 (out_load _ _ f7 _ rfl)) ?_
      refine Pieces.cons _ _ (piece_outBlock (p := 256) _ transposes_S512x128_p1_0_S128x512 shapeCasts_S128x512_S1x128x512 bitsLt_bf16_f32 (out_load _ _ f7 _ rfl)) ?_
      refine Pieces.cons _ _ (piece_outBlock (p := 128) _ transposes_S512x128_p1_0_S128x512 shapeCasts_S128x512_S1x128x512 bitsLt_bf16_f32 (out_load _ _ f7 _ rfl)) ?_
      refine Pieces.cons _ _ (piece_outBlock (p := 0) _ transposes_S512x128_p1_0_S128x512 shapeCasts_S128x512_S1x128x512 bitsLt_bf16_f32 (out_load _ _ f7 _ rfl)) ?_
      exact Pieces.nil _
    isplitl [H4]
    · iexists _; isplitr
      swap
      · iexact H4
      ipureintro
      exact f3.read _ _ (cover_block (d := 512))
    isplitl [H5]
    · iexists _; isplitr
      swap
      · iexact H5
      ipureintro
      exact f4.read _ _ (cover_block (d := 8))
    isplitl [H6]
    · iexists _; isplitr
      swap
      · iexact H6
      ipureintro; exact e8
    isplitl [H7]
    · iexists _; isplitr
      swap
      · iexact H7
      ipureintro; exact e9
    isplitl [H8]
    · iexists _; isplitr
      swap
      · iexact H8
      ipureintro; exact e10
    isplitl [H9]
    · iexists _; isplitr
      swap
      · iexact H9
      ipureintro; exact e11
    isplitl [HS0]
    · iexists _; isplitr
      swap
      · iexact HS0
      ipureintro; exact e12
    isplitl [HS1]
    · iexists _; isplitr
      swap
      · iexact HS1
      ipureintro; exact e13
    isplitl [HS2]
    · iexists _; isplitr
      swap
      · iexact HS2
      ipureintro; exact e14
    isplitl [HS3]
    · iexists _; isplitr
      swap
      · iexact HS3
      ipureintro; exact e15
    isplitl [HS4]
    · iexists _, _; isplitr
      swap
      · iexact HS4
      ipureintro; rfl
    isplitl [HS5]
    · iexists _, _; isplitr
      swap
      · iexact HS5
      ipureintro; rfl
    isplitl [HS6]
    · iexists _, _; isplitr
      swap
      · iexact HS6
      ipureintro; rfl
    isplitl [HS7]
    · iexists _, _; isplitr
      swap
      · iexact HS7
      ipureintro; rfl
    isplitl [HS8]
    · iexists _, _; isplitr
      swap
      · iexact HS8
      ipureintro; rfl
    isplitl [HS9]
    · iexists _, _; isplitr
      swap
      · iexact HS9
      ipureintro; rfl
    · iexists _, _; isplitr
      swap
      · iexact HS10
      ipureintro; rfl

end Cert.KernelIdeal.Attn

end
-- ==== Proof.KernelIdeal.ValueB.lean ====
/- The kernel's body run at the later points of a batch, where the keys and values are kept. -/
module

public import proofs.«01_k».proof.Proof.KernelIdeal.Setup
public import proofs.«01_k».proof.Proof.Attn.Block

@[expose] public section

-- membership in a rectangle of production extents (`View.cover_of_tiled`): the elaborator's structural look
-- recurses once per coordinate of the long axes
set_option maxRecDepth 1000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

local notation "𝕄" => MT nD τ sig Unit (Elt Ideal) ℕ (UR sig nD τ) ℕ

set_option maxHeartbeats 4000000 in
theorem valueRun_B (c : Dev nD) (i : grid0.Coords) (arg2 : Memref sig .tc .vmem S1x512x512 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x512x512 .bf16) (harg5 : arg5.IsWhole) (arg6 : Memref sig .tc .vmem S1x512x512 .fp8e4m3) (harg6 : arg6.IsWhole) (arg7 : Memref sig .tc .vmem S1x512x8 .f32) (harg7 : arg7.IsWhole) (arg8 : Memref sig .tc .vmem S1x4096x128 .fp8e4m3) (harg8 : arg8.IsWhole) (arg9 : Memref sig .tc .vmem S1x4096x2 .f32) (harg9 : arg9.IsWhole) (arg10 : Memref sig .tc .vmem S1x4096x128 .fp8e4m3) (harg10 : arg10.IsWhole) (arg11 : Memref sig .tc .vmem S1x1x128 .f32) (harg11 : arg11.IsWhole) (arg12 : Memref sig .tc .vmem S4x4096x128 .fp8e4m3) (harg12 : arg12.IsWhole) (arg13 : Memref sig .tc .vmem S2x4096x128 .f32) (harg13 : arg13.IsWhole) (arg14 : Memref sig .tc .vmem S128x4096 .fp8e4m3) (harg14 : arg14.IsWhole) (arg15 : Memref sig .tc .vmem S128x128 .f32) (harg15 : arg15.IsWhole) (arg16 : Memref sig .tc .vmem S512x512 .fp8e4m3) (harg16 : arg16.IsWhole) (arg17 : Memref sig .tc .vmem S8x512 .f32) (harg17 : arg17.IsWhole) (arg18 : Memref sig .tc .vmem S4096x256 .f32) (harg18 : arg18.IsWhole) (arg19 : Memref sig .tc .vmem S4096x256 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S512x512 .f32) (harg22 : arg22.IsWhole) (hc0 : ¬cond0_0 i)
    (x0 : Vec Ideal S1x512x512 .bf16) (x1 : Vec Ideal S1x4096x128 .bf16) (x2 : Vec Ideal S1x4096x128 .bf16)
    (y0 : Vec Ideal S4x4096x128 .fp8e4m3) (y1 : Vec Ideal S2x4096x128 .f32) (y2 : Vec Ideal S128x4096 .fp8e4m3) (y3 : Vec Ideal S128x128 .f32)
    (z6 : Vec Ideal S1x4096x128 .fp8e4m3) (z7 : Vec Ideal S1x4096x2 .f32) (z8 : Vec Ideal S1x4096x128 .fp8e4m3) (z9 : Vec Ideal S1x1x128 .f32) (B : Bufs)
    (h0 : Reads3 y0 B.KP) (h1 : Reads3 y1 B.KS) (h2 : Reads2 y2 B.VT) (h3 : Reads2 y3 B.VS)
    (hq : B.QC = codesOf (xOf x0)) (hc : B.CS = factorsOf (xOf x0)) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare z6 ∗ owns (c : Thread nD τ) arg9 fullShare z7 ∗ owns (c : Thread nD τ) arg10 fullShare z8 ∗ owns (c : Thread nD τ) arg11 fullShare z9 ∗ owns (c : Thread nD τ) arg12 fullShare y0 ∗ owns (c : Thread nD τ) arg13 fullShare y1 ∗ owns (c : Thread nD τ) arg14 fullShare y2 ∗ owns (c : Thread nD τ) arg15 fullShare y3 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ owns (c : Thread nD τ) arg5 fullShare (outBlock B) ∗ owns (c : Thread nD τ) arg6 fullShare (codesBlock x0) ∗ owns (c : Thread nD τ) arg7 fullShare (scalesBlock x0) ∗ owns (c : Thread nD τ) arg8 fullShare z6 ∗ owns (c : Thread nD τ) arg9 fullShare z7 ∗ owns (c : Thread nD τ) arg10 fullShare z8 ∗ owns (c : Thread nD τ) arg11 fullShare z9 ∗ owns (c : Thread nD τ) arg12 fullShare y0 ∗ owns (c : Thread nD τ) arg13 fullShare y1 ∗ owns (c : Thread nD τ) arg14 fullShare y2 ∗ owns (c : Thread nD τ) arg15 fullShare y3 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := Ideal)) Variants.none c none) E (cc0_fp8_gqa_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_fp8_gqa_attention_eq_skeleton]; unfold cc0_fp8_gqa_attention_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, Hk⟩
    obtain rfl := harg2.eq_unread hf0; obtain rfl := harg3.eq_unread hf1; obtain rfl := harg4.eq_unread hf2
    sl_exec (disch := first | sl_exact hc0)
    sl_step
    rw [← hfs0] at h0; rw [← hfs1] at h1; rw [← hfs2] at h2; rw [← hfs3] at h3
    have f1 : Pieces2 (valueRun_B.sl.HS4_4 c arg2 harg2 x0) (codesOf (xOf x0)) := by
      refine Pieces2.cons _ _ (piece_codes _ (tile_codes harg2 x0 384 (by omega) _ _ _ _ _ _ _ _ shapeCasts_S128x512_S128x512)) ?_
      refine Pieces2.cons _ _ (piece_codes _ (tile_codes harg2 x0 256 (by omega) _ _ _ _ _ _ _ _ shapeCasts_S128x512_S128x512)) ?_
      refine Pieces2.cons _ _ (piece_codes _ (tile_codes harg2 x0 128 (by omega) _ _ _ _ _ _ _ _ shapeCasts_S128x512_S128x512)) ?_
      refine Pieces2.cons _ _ (piece_codes _ (tile_codes harg2 x0 0 (by omega) _ _ _ _ _ _ _ _ shapeCasts_S128x512_S128x512)) ?_
      exact Pieces2.nil _
    have f2 : Pieces2 (valueRun_B.sl.HS5_4 c arg2 harg2 x0) (factorsOf (xOf x0)) := by
      refine Pieces2.cons _ _ (piece_factors _ (tile_factors harg2 x0 384 (by omega) _ _ _ _ _ _ _ _ shapeCasts_S8x128_S8x128)) ?_
      refine Pieces2.cons _ _ (piece_factors _ (tile_factors harg2 x0 256 (by omega) _ _ _ _ _ _ _ _ shapeCasts_S8x128_S8x128)) ?_
      refine Pieces2.cons _ _ (piece_factors _ (tile_factors harg2 x0 128 (by omega) _ _ _ _ _ _ _ _ shapeCasts_S8x128_S8x128)) ?_
      refine Pieces2.cons _ _ (piece_factors _ (tile_factors harg2 x0 0 (by omega) _ _ _ _ _ _ _ _ shapeCasts_S8x128_S8x128)) ?_
      exact Pieces2.nil _
    have f3 : Pieces (valueRun_B.sl.H4_4 c arg2 harg2 x0) (codesBlock x0) := by
      refine Pieces.cons _ _ (piece_codesBlock _ shapeCasts_S128x512_S1x128x512 (tile_codes_block harg2 x0 384 (by omega) _ _ _ _ _ _ _ _)) ?_
      refine Pieces.cons _ _ (piece_codesBlock _ shapeCasts_S128x512_S1x128x512 (tile_codes_block harg2 x0 256 (by omega) _ _ _ _ _ _ _ _)) ?_
      refine Pieces.cons _ _ (piece_codesBlock _ shapeCasts_S128x512_S1x128x512 (tile_codes_block harg2 x0 128 (by omega) _ _ _ _ _ _ _ _)) ?_
      refine Pieces.cons _ _ (piece_codesBlock _ shapeCasts_S128x512_S1x128x512 (tile_codes_block harg2 x0 0 (by omega) _ _ _ _ _ _ _ _)) ?_
      exact Pieces.nil _
    have f4 : Pieces (valueRun_B.sl.H5_4 c arg2 harg2 x0) (scalesBlock x0) := by
      refine Pieces.cons _ _ (piece_scalesBlock _ shapeCasts_S128x8_S1x128x8 (tile_scales harg2 x0 384 (by omega) _ _ _ _ _ _ _ _)) ?_
      refine Pieces.cons _ _ (piece_scalesBlock _ shapeCasts_S128x8_S1x128x8 (tile_scales harg2 x0 256 (by omega) _ _ _ _ _ _ _ _)) ?_
      refine Pieces.cons _ _ (piece_scalesBlock _ shapeCasts_S128x8_S1x128x8 (tile_scales harg2 x0 128 (by omega) _ _ _ _ _ _ _ _)) ?_
      refine Pieces.cons _ _ (piece_scalesBlock _ shapeCasts_S128x8_S1x128x8 (tile_scales harg2 x0 0 (by omega) _ _ _ _ _ _ _ _)) ?_
      exact Pieces.nil _
    have h16 : Reads2 (arg16.view.read (Elt Ideal) (arg16.view.writes (Elt Ideal) arg16.view.junk (valueRun_B.sl.HS4_4 c arg2 harg2 x0))) B.QC := by
      rw [hq]; exact f1.reads _ _ cover_rows
    have h17 : Reads2 (arg17.view.read (Elt Ideal) (arg17.view.writes (Elt Ideal) arg17.view.junk (valueRun_B.sl.HS5_4 c arg2 harg2 x0))) B.CS := by
      rw [hc]; exact f2.reads _ _ cover_cols
    have f5 : Tiled 16 (valueRun_B.sl.HS6_16 c arg2 harg2 arg12 arg13 arg16 x0 fs0 fs1) (score B 0) := by
      unfold valueRun_B.sl.HS6_16
      iterate 16
        refine Tiled.cons _ ?_ ?_ (tileIs_cast _ (tile_score _ _ _ _ _ _ h0 h16 h1 _ _ _ _ _ _ ?_ ?_ ?_))
      · exact Tiled.nil _
      all_goals (clear * -; decide +kernel)
    have f6 : Pieces2 (valueRun_B.sl.HS8_1 c arg2 harg2 arg12 arg13 arg16 x0 fs0 fs1) (fun _ t => top B 0 t) := by
      refine piece_top _ fun b => ?_
      refine (congrFun (shapeCast_self _ _) _).trans (top_of_maxUpTo _ _ _ _ _ ?_ b)
      iterate 16
        refine maxUpTo_step _ _ _ _ _ _ ?_ (tile_score _ _ _ _ _ _ h0 h16 h1 _ _ _ _ _ _ ?_ ?_ ?_)
      · exact maxUpTo_zero
      all_goals (clear * -; decide +kernel)
    have f7 := (loop_holds (h12 := h0) (h13 := h1) (h14 := h2) (h15 := h3) (h16 := h16) (h17 := h17)
      (hu := f5.1.reads arg18.view arg18.view.junk f5.cover) (ht := f6.reads arg20.view arg20.view.junk (cover_top _)) (f_arg19 := fs7) (f_arg21 := fs9) (f_arg22 := fs10)
      (k := 8) (hk := le_refl 8) (B := B) (v3326 := valueRun_B.sl.r_247 c arg2 harg2 arg12 arg13 arg16 x0 fs0 fs1) (v3327 := 0#32) (v3330 := 0#32) (w2 := 2#32)
      (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (arg18 := arg18) (harg18 := harg18) (arg19 := arg19) (harg19 := harg19) (arg20 := arg20) (harg20 := harg20) (arg21 := arg21) (harg21 := harg21) (arg22 := arg22) (harg22 := harg22) ..).2.2
    replace f7 := fun y => f7 y (lt_of_lt_of_eq (y 0).isLt rfl)
    iapply Hk
    isplitl [H0]
    · iexists _; isplitr
      · ipureintro; exact harg2.read_unread _
      · iexact H0
    isplitl [H1]
    · iexists _; isplitr
      · ipureintro; exact harg3.read_unread _
      · iexact H1
    isplitl [H2]
    · iexists _; isplitr
      · ipureintro; exact harg4.read_unread _
      · iexact H2
    isplitl [H3]
    · iexists _; isplitr
      swap
      · iexact H3
      ipureintro
      refine Pieces.read _ _ ?_ (cover_block (d := 512))
      refine Pieces.cons _ _ (piece_outBlock (p := 384) _ transposes_S512x128_p1_0_S128x512 shapeCasts_S128x512_S1x128x512 bitsLt_bf16_f32 (out_load _ _ f7 _ rfl)) ?_
      refine Pieces.cons _ _ (piece_outBlock (p := 256) _ transposes_S512x128_p1_0_S128x512 shapeCasts_S128x512_S1x128x512 bitsLt_bf16_f32 (out_load _ _ f7 _ rfl)) ?_
      refine Pieces.cons _ _ (piece_outBlock (p := 128) _ transposes_S512x128_p1_0_S128x512 shapeCasts_S128x512_S1x128x512 bitsLt_bf16_f32 (out_load _ _ f7 _ rfl)) ?_
      refine Pieces.cons _ _ (piece_outBlock (p := 0) _ transposes_S512x128_p1_0_S128x512 shapeCasts_S128x512_S1x128x512 bitsLt_bf16_f32 (out_load _ _ f7 _ rfl)) ?_
      exact Pieces.nil _
    isplitl [H4]
    · iexists _; isplitr
      swap
      · iexact H4
      ipureintro
      exact f3.read _ _ (cover_block (d := 512))
    isplitl [H5]
    · iexists _; isplitr
      swap
      · iexact H5
      ipureintro
      exact f4.read _ _ (cover_block (d := 8))
    isplitl [H6]
    · iexists _; isplitr
      swap
      · iexact H6
      ipureintro; exact hf6
    isplitl [H7]
    · iexists _; isplitr
      swap
      · iexact H7
      ipureintro; exact hf7
    isplitl [H8]
    · iexists _; isplitr
      swap
      · iexact H8
      ipureintro; exact hf8
    isplitl [H9]
    · iexists _; isplitr
      swap
      · iexact H9
      ipureintro; exact hf9
    isplitl [HS0]
    · iexists _; isplitr
      swap
      · iexact HS0
      ipureintro; exact hfs0
    isplitl [HS1]
    · iexists _; isplitr
      swap
      · iexact HS1
      ipureintro; exact hfs1
    isplitl [HS2]
    · iexists _; isplitr
      swap
      · iexact HS2
      ipureintro; exact hfs2
    isplitl [HS3]
    · iexists _; isplitr
      swap
      · iexact HS3
      ipureintro; exact hfs3
    isplitl [HS4]
    · iexists _, _; isplitr
      swap
      · iexact HS4
      ipureintro; rfl
    isplitl [HS5]
    · iexists _, _; isplitr
      swap
      · iexact HS5
      ipureintro; rfl
    isplitl [HS6]
    · iexists _, _; isplitr
      swap
      · iexact HS6
      ipureintro; rfl
    isplitl [HS7]
    · iexists _, _; isplitr
      swap
      · iexact HS7
      ipureintro; rfl
    isplitl [HS8]
    · iexists _, _; isplitr
      swap
      · iexact HS8
      ipureintro; rfl
    isplitl [HS9]
    · iexists _, _; isplitr
      swap
      · iexact HS9
      ipureintro; rfl
    · iexists _, _; isplitr
      swap
      · iexact HS10
      ipureintro; rfl

end Cert.KernelIdeal.Attn

end
-- ==== Proof.KernelIdeal.Data.lean ====
/- The pipeline's proof data: what every window holds after the body at each point, and what the kept buffers hold between the
points of a batch. -/
module

public import proofs.«01_k».proof.Proof.KernelIdeal.Setup
public import proofs.«01_k».proof.Proof.KernelIdeal.ValueA
public import proofs.«01_k».proof.Proof.KernelIdeal.ValueB
public import Idealize.ShloMosaic.Lib.Pipeline.ValueKit
public import Idealize.ShloMosaic.Lib.Pipeline.TableIdle
public import Idealize.ShloMosaic.Lib.Pointwise
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

theorem t_lt (t : Fin cfg0.N) : t.val < 72 := lt_of_lt_of_eq t.isLt (show cfg0.N = 72 from N_0)

theorem index_0 : ∀ t : Fin cfg0.N, win0_0.index t = ![t.val / 8, t.val % 8, 0] := (by decide +kernel : ∀ t : Fin grid0.N, _)
theorem index_1 : ∀ t : Fin cfg0.N, win0_1.index t = ![t.val / 8, 0, 0] := (by decide +kernel : ∀ t : Fin grid0.N, _)
theorem index_2 : ∀ t : Fin cfg0.N, win0_2.index t = ![t.val / 8, 0, 0] := (by decide +kernel : ∀ t : Fin grid0.N, _)
theorem index_3 : ∀ t : Fin cfg0.N, win0_3.index t = ![t.val / 8, t.val % 8, 0] := (by decide +kernel : ∀ t : Fin grid0.N, _)
theorem index_4 : ∀ t : Fin cfg0.N, win0_4.index t = ![t.val / 8, t.val % 8, 0] := (by decide +kernel : ∀ t : Fin grid0.N, _)
theorem index_5 : ∀ t : Fin cfg0.N, win0_5.index t = ![t.val / 8, t.val % 8, 0] := (by decide +kernel : ∀ t : Fin grid0.N, _)
theorem index_6 : ∀ t : Fin cfg0.N, win0_6.index t = ![t.val / 8, 0, 0] := (by decide +kernel : ∀ t : Fin grid0.N, _)
theorem index_7 : ∀ t : Fin cfg0.N, win0_7.index t = ![t.val / 8, 0, 0] := (by decide +kernel : ∀ t : Fin grid0.N, _)
theorem index_8 : ∀ t : Fin cfg0.N, win0_8.index t = ![t.val / 8, 0, 0] := (by decide +kernel : ∀ t : Fin grid0.N, _)
theorem index_9 : ∀ t : Fin cfg0.N, win0_9.index t = ![t.val / 8, 0, 0] := (by decide +kernel : ∀ t : Fin grid0.N, _)

/-- The block of tokens at a point. -/
theorem iblk0_apply (c : Dev nD) (t : Fin cfg0.N) (y : S1x512x512.Idx) :
    iblk m c 0 t y = m ((c : Thread nD τ).loc main_arg0) (ix3 ⟨t.val / 8, by have := t_lt t; omega⟩ ⟨512 * (t.val % 8) + (y 1).val, by have : (y 1).val < 512 := (y 1).isLt; omega⟩ (y 2)) := by
  unfold iblk
  blk_simp
  rw [show Gen.V m c main_arg0 = m ((c : Thread nD τ).loc main_arg0) from V_main_arg0 m c]
  refine congrArg (m _) ?_
  have h : (y 0).val < 1 := (y 0).isLt
  blk_ext [index_0] <;> simp [ix3] <;> omega
/-- The block of keys: the whole of a batch. -/
theorem iblk1_apply (c : Dev nD) (t : Fin cfg0.N) (y : S1x4096x128.Idx) :
    iblk m c 1 t y = m ((c : Thread nD τ).loc main_arg1) (ix3 ⟨t.val / 8, by have := t_lt t; omega⟩ (y 1) (y 2)) := by
  unfold iblk
  blk_simp
  rw [show Gen.V m c main_arg1 = m ((c : Thread nD τ).loc main_arg1) from V_main_arg1 m c]
  refine congrArg (m _) ?_
  have h : (y 0).val < 1 := (y 0).isLt
  blk_ext [index_1] <;> simp [ix3] <;> omega
/-- It is the same at two points of one batch. -/
theorem iblk1_eq (c : Dev nD) (t t' : Fin cfg0.N) (h : t.val / 8 = t'.val / 8) : iblk m c 1 t = iblk m c 1 t' := by
  funext y
  refine (iblk1_apply m c t y).trans (Eq.trans ?_ (iblk1_apply m c t' y).symm)
  refine congrArg (m _) ?_
  simp only [h]
/-- The block of values: the whole of a batch. -/
theorem iblk2_apply (c : Dev nD) (t : Fin cfg0.N) (y : S1x4096x128.Idx) :
    iblk m c 2 t y = m ((c : Thread nD τ).loc main_arg2) (ix3 ⟨t.val / 8, by have := t_lt t; omega⟩ (y 1) (y 2)) := by
  unfold iblk
  blk_simp
  rw [show Gen.V m c main_arg2 = m ((c : Thread nD τ).loc main_arg2) from V_main_arg2 m c]
  refine congrArg (m _) ?_
  have h : (y 0).val < 1 := (y 0).isLt
  blk_ext [index_2] <;> simp [ix3] <;> omega
/-- It is the same at two points of one batch. -/
theorem iblk2_eq (c : Dev nD) (t t' : Fin cfg0.N) (h : t.val / 8 = t'.val / 8) : iblk m c 2 t = iblk m c 2 t' := by
  funext y
  refine (iblk2_apply m c t y).trans (Eq.trans ?_ (iblk2_apply m c t' y).symm)
  refine congrArg (m _) ?_
  simp only [h]

/-- What the kernel's buffers hold at a point, of its three blocks. -/
def bufs (x0 : Vec Ideal S1x512x512 .bf16) (x1 x2 : Vec Ideal S1x4096x128 .bf16) : Bufs where
  KP := paddedOf (kvOf x1)
  KS j s _ := scalesOf (kvOf x1) s j
  VT d s := vCodesOf (kvOf x2) s d
  VS d _ := vScaleOf (kvOf x2) d
  QC := codesOf (xOf x0)
  CS := factorsOf (xOf x0)

/-- The kept buffers between points: after point `t'` they hold what its batch's keys and values make them. -/
def kept (c : Dev nD) (n : ℕ) (d0 : Vec Ideal S4x4096x128 .fp8e4m3) (d1 : Vec Ideal S2x4096x128 .f32) (d2 : Vec Ideal S128x4096 .fp8e4m3)
    (d3 : Vec Ideal S128x128 .f32) : Prop :=
  ∀ t : Fin cfg0.N, t.val + 1 = n → d0 = keysPadded (iblk m c 1 t) ∧ d1 = keysScaled (iblk m c 1 t) ∧ d2 = valuesT (iblk m c 2 t) ∧ d3 = valuesScaled (iblk m c 2 t)

/-- The invariant: the scratch buffers, the first four at kept contents, and the generator register. -/
def inv (c : Dev nD) (n : ℕ) : sProp 𝕄 :=
  iprop((∃ d0 d1 d2 d3, ⌜kept m c n d0 d1 d2 d3⌝ ∗ owns (c : Thread nD τ) scM0_0 fullShare d0 ∗ owns (c : Thread nD τ) scM0_1 fullShare d1 ∗ owns (c : Thread nD τ) scM0_2 fullShare d2 ∗ owns (c : Thread nD τ) scM0_3 fullShare d3
    ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ (∃ r, prngReg c r))

/-- The proof data. -/
def dats (_ : Fin 1) (c : Dev nD) : Dat τ (Elt Ideal) Unit ℕ (UR sig nD τ) ℕ cfg0 c where
  A w := Gen.V m c (Pipeline.arrRef spec0 w)
  after w t := match w with
    | ⟨0, _⟩ => iblk m c 0 t
    | ⟨1, _⟩ => iblk m c 1 t
    | ⟨2, _⟩ => iblk m c 2 t
    | ⟨3, _⟩ => outBlock (bufs (iblk m c 0 t) (iblk m c 1 t) (iblk m c 2 t))
    | ⟨4, _⟩ => codesBlock (iblk m c 0 t)
    | ⟨5, _⟩ => scalesBlock (iblk m c 0 t)
    | ⟨6, _⟩ => keyCodes (iblk m c 1 t)
    | ⟨7, _⟩ => keyScales (iblk m c 1 t)
    | ⟨8, _⟩ => valueCodes (iblk m c 2 t)
    | ⟨9, _⟩ => valueScales (iblk m c 2 t)
  Φ t := inv m c t.val
  q _ := fullShare
  owed _ := 0

theorem A_eq (c : Dev nD) (w : Fin cfg0.W) : (dats m 0 c).A w = Gen.V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outBlock (bufs (iblk m c 0 t) (iblk m c 1 t) (iblk m c 2 t)) := by dsimp only [dats]
theorem after0_4 (c : Dev nD) (t : Fin cfg0.N) : (dats m 0 c).after 4 t = codesBlock (iblk m c 0 t) := by dsimp only [dats]
theorem after0_5 (c : Dev nD) (t : Fin cfg0.N) : (dats m 0 c).after 5 t = scalesBlock (iblk m c 0 t) := by dsimp only [dats]
theorem after0_6 (c : Dev nD) (t : Fin cfg0.N) : (dats m 0 c).after 6 t = keyCodes (iblk m c 1 t) := by dsimp only [dats]
theorem after0_7 (c : Dev nD) (t : Fin cfg0.N) : (dats m 0 c).after 7 t = keyScales (iblk m c 1 t) := by dsimp only [dats]
theorem after0_8 (c : Dev nD) (t : Fin cfg0.N) : (dats m 0 c).after 8 t = valueCodes (iblk m c 2 t) := by dsimp only [dats]
theorem after0_9 (c : Dev nD) (t : Fin cfg0.N) : (dats m 0 c).after 9 t = valueScales (iblk m c 2 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- The points before which nothing is stored. -/
def freshAt (n : ℕ) : Bool := decide (n % 8 = 0)
theorem live0_3 : ∀ t : Fin cfg0.N, cfg0.idle 3 (grid0.coords t) = false := fun _ => rfl
theorem live0_4 : ∀ t : Fin cfg0.N, cfg0.idle 4 (grid0.coords t) = false := fun _ => rfl
theorem live0_5 : ∀ t : Fin cfg0.N, cfg0.idle 5 (grid0.coords t) = false := fun _ => rfl
theorem live0_6_A : ∀ t : Fin cfg0.N, t.val % 8 = 0 → cfg0.idle 6 (grid0.coords t) = false := (by decide +kernel : ∀ t : Fin grid0.N, _)
theorem idle0_6_B : ∀ t : Fin cfg0.N, ¬t.val % 8 = 0 → cfg0.idle 6 (grid0.coords t) = true := (by decide +kernel : ∀ t : Fin grid0.N, _)
/-- Window 6 holds nothing stored exactly at the first points of the batches. -/
theorem fresh0_6 (t : Fin cfg0.N) : cfg0.fresh 6 t.val = freshAt t.val :=
  Pipeline.Cfg.fresh_tab cfg0 6 freshAt rfl (by decide +kernel) t.val (Nat.le_of_lt t.isLt)
theorem carry0_6 (c : Dev nD) (t : Fin cfg0.N) (ht : ¬t.val % 8 = 0) :
    (dats m 0 c).after 6 t = (dats m 0 c).after 6 ⟨t.val - 1, Nat.lt_of_le_of_lt (Nat.sub_le _ _) t.isLt⟩ := by
  rw [after0_6, after0_6, iblk1_eq m c ⟨t.val - 1, Nat.lt_of_le_of_lt (Nat.sub_le _ _) t.isLt⟩ t (by show (t.val - 1) / 8 = _; omega)]
/-- At the later points of a batch the buffer still holds what the batch's first point stored. -/
theorem before0_6 (c : Dev nD) (t : Fin cfg0.N) (h0 : ¬t.val % 8 = 0) (d) : (dats m 0 c).before 6 t d = (dats m 0 c).after 6 t := by
  have hc : ∀ (t : Fin cfg0.N) (_ : t.val ≠ 0), cfg0.idle 6 (grid0.coords t) = true → cfg0.fresh 6 t.val = false →
      (dats m 0 c).after 6 t = (dats m 0 c).after 6 ⟨t.val - 1, Nat.lt_of_le_of_lt (Nat.sub_le _ _) t.isLt⟩ := fun t _ hi _ => carry0_6 m c t fun h => by
    rw [live0_6_A t h] at hi
    exact Bool.false_ne_true hi
  have hf : cfg0.fresh 6 t.val = false := (fresh0_6 t).trans (by
    have h := t_lt t
    simp only [freshAt, decide_eq_false_iff_not]; exact h0)
  rw [Dat.before_out_traj _ 6 rfl (fun _ _ => rfl) hc t.val t rfl d, if_neg (by rw [hf]; exact Bool.false_ne_true)]
  exact (carry0_6 m c t h0).symm
/-- Held so, it is what the point is to leave. -/
theorem leaves0_6 (c : Dev nD) (t : Fin cfg0.N) (h0 : ¬t.val % 8 = 0) :
    (owns (c : Thread nD τ) (ms0_6 t) fullShare ((dats m 0 c).after 6 t) : sProp 𝕄) ⊢ (dats m 0 c).leavesExact 6 t := by
  cases hf : (cfg0.win 6).flush t
  · rw [Dat.leavesExact_idle _ 6 t (idle0_6_B t h0) hf]
    iintro H
    iexists default
    rw [before0_6 m c t h0]
    iexact H
  · unfold Dat.leavesExact
    rw [idle0_6_B t h0, hf]
theorem live0_7_A : ∀ t : Fin cfg0.N, t.val % 8 = 0 → cfg0.idle 7 (grid0.coords t) = false := (by decide +kernel : ∀ t : Fin grid0.N, _)
theorem idle0_7_B : ∀ t : Fin cfg0.N, ¬t.val % 8 = 0 → cfg0.idle 7 (grid0.coords t) = true := (by decide +kernel : ∀ t : Fin grid0.N, _)
/-- Window 7 holds nothing stored exactly at the first points of the batches. -/
theorem fresh0_7 (t : Fin cfg0.N) : cfg0.fresh 7 t.val = freshAt t.val :=
  Pipeline.Cfg.fresh_tab cfg0 7 freshAt rfl (by decide +kernel) t.val (Nat.le_of_lt t.isLt)
theorem carry0_7 (c : Dev nD) (t : Fin cfg0.N) (ht : ¬t.val % 8 = 0) :
    (dats m 0 c).after 7 t = (dats m 0 c).after 7 ⟨t.val - 1, Nat.lt_of_le_of_lt (Nat.sub_le _ _) t.isLt⟩ := by
  rw [after0_7, after0_7, iblk1_eq m c ⟨t.val - 1, Nat.lt_of_le_of_lt (Nat.sub_le _ _) t.isLt⟩ t (by show (t.val - 1) / 8 = _; omega)]
/-- At the later points of a batch the buffer still holds what the batch's first point stored. -/
theorem before0_7 (c : Dev nD) (t : Fin cfg0.N) (h0 : ¬t.val % 8 = 0) (d) : (dats m 0 c).before 7 t d = (dats m 0 c).after 7 t := by
  have hc : ∀ (t : Fin cfg0.N) (_ : t.val ≠ 0), cfg0.idle 7 (grid0.coords t) = true → cfg0.fresh 7 t.val = false →
      (dats m 0 c).after 7 t = (dats m 0 c).after 7 ⟨t.val - 1, Nat.lt_of_le_of_lt (Nat.sub_le _ _) t.isLt⟩ := fun t _ hi _ => carry0_7 m c t fun h => by
    rw [live0_7_A t h] at hi
    exact Bool.false_ne_true hi
  have hf : cfg0.fresh 7 t.val = false := (fresh0_7 t).trans (by
    have h := t_lt t
    simp only [freshAt, decide_eq_false_iff_not]; exact h0)
  rw [Dat.before_out_traj _ 7 rfl (fun _ _ => rfl) hc t.val t rfl d, if_neg (by rw [hf]; exact Bool.false_ne_true)]
  exact (carry0_7 m c t h0).symm
/-- Held so, it is what the point is to leave. -/
theorem leaves0_7 (c : Dev nD) (t : Fin cfg0.N) (h0 : ¬t.val % 8 = 0) :
    (owns (c : Thread nD τ) (ms0_7 t) fullShare ((dats m 0 c).after 7 t) : sProp 𝕄) ⊢ (dats m 0 c).leavesExact 7 t := by
  cases hf : (cfg0.win 7).flush t
  · rw [Dat.leavesExact_idle _ 7 t (idle0_7_B t h0) hf]
    iintro H
    iexists default
    rw [before0_7 m c t h0]
    iexact H
  · unfold Dat.leavesExact
    rw [idle0_7_B t h0, hf]
theorem live0_8_A : ∀ t : Fin cfg0.N, t.val % 8 = 0 → cfg0.idle 8 (grid0.coords t) = false := (by decide +kernel : ∀ t : Fin grid0.N, _)
theorem idle0_8_B : ∀ t : Fin cfg0.N, ¬t.val % 8 = 0 → cfg0.idle 8 (grid0.coords t) = true := (by decide +kernel : ∀ t : Fin grid0.N, _)
/-- Window 8 holds nothing stored exactly at the first points of the batches. -/
theorem fresh0_8 (t : Fin cfg0.N) : cfg0.fresh 8 t.val = freshAt t.val :=
  Pipeline.Cfg.fresh_tab cfg0 8 freshAt rfl (by decide +kernel) t.val (Nat.le_of_lt t.isLt)
theorem carry0_8 (c : Dev nD) (t : Fin cfg0.N) (ht : ¬t.val % 8 = 0) :
    (dats m 0 c).after 8 t = (dats m 0 c).after 8 ⟨t.val - 1, Nat.lt_of_le_of_lt (Nat.sub_le _ _) t.isLt⟩ := by
  rw [after0_8, after0_8, iblk2_eq m c ⟨t.val - 1, Nat.lt_of_le_of_lt (Nat.sub_le _ _) t.isLt⟩ t (by show (t.val - 1) / 8 = _; omega)]
/-- At the later points of a batch the buffer still holds what the batch's first point stored. -/
theorem before0_8 (c : Dev nD) (t : Fin cfg0.N) (h0 : ¬t.val % 8 = 0) (d) : (dats m 0 c).before 8 t d = (dats m 0 c).after 8 t := by
  have hc : ∀ (t : Fin cfg0.N) (_ : t.val ≠ 0), cfg0.idle 8 (grid0.coords t) = true → cfg0.fresh 8 t.val = false →
      (dats m 0 c).after 8 t = (dats m 0 c).after 8 ⟨t.val - 1, Nat.lt_of_le_of_lt (Nat.sub_le _ _) t.isLt⟩ := fun t _ hi _ => carry0_8 m c t fun h => by
    rw [live0_8_A t h] at hi
    exact Bool.false_ne_true hi
  have hf : cfg0.fresh 8 t.val = false := (fresh0_8 t).trans (by
    have h := t_lt t
    simp only [freshAt, decide_eq_false_iff_not]; exact h0)
  rw [Dat.before_out_traj _ 8 rfl (fun _ _ => rfl) hc t.val t rfl d, if_neg (by rw [hf]; exact Bool.false_ne_true)]
  exact (carry0_8 m c t h0).symm
/-- Held so, it is what the point is to leave. -/
theorem leaves0_8 (c : Dev nD) (t : Fin cfg0.N) (h0 : ¬t.val % 8 = 0) :
    (owns (c : Thread nD τ) (ms0_8 t) fullShare ((dats m 0 c).after 8 t) : sProp 𝕄) ⊢ (dats m 0 c).leavesExact 8 t := by
  cases hf : (cfg0.win 8).flush t
  · rw [Dat.leavesExact_idle _ 8 t (idle0_8_B t h0) hf]
    iintro H
    iexists default
    rw [before0_8 m c t h0]
    iexact H
  · unfold Dat.leavesExact
    rw [idle0_8_B t h0, hf]
theorem live0_9_A : ∀ t : Fin cfg0.N, t.val % 8 = 0 → cfg0.idle 9 (grid0.coords t) = false := (by decide +kernel : ∀ t : Fin grid0.N, _)
theorem idle0_9_B : ∀ t : Fin cfg0.N, ¬t.val % 8 = 0 → cfg0.idle 9 (grid0.coords t) = true := (by decide +kernel : ∀ t : Fin grid0.N, _)
/-- Window 9 holds nothing stored exactly at the first points of the batches. -/
theorem fresh0_9 (t : Fin cfg0.N) : cfg0.fresh 9 t.val = freshAt t.val :=
  Pipeline.Cfg.fresh_tab cfg0 9 freshAt rfl (by decide +kernel) t.val (Nat.le_of_lt t.isLt)
theorem carry0_9 (c : Dev nD) (t : Fin cfg0.N) (ht : ¬t.val % 8 = 0) :
    (dats m 0 c).after 9 t = (dats m 0 c).after 9 ⟨t.val - 1, Nat.lt_of_le_of_lt (Nat.sub_le _ _) t.isLt⟩ := by
  rw [after0_9, after0_9, iblk2_eq m c ⟨t.val - 1, Nat.lt_of_le_of_lt (Nat.sub_le _ _) t.isLt⟩ t (by show (t.val - 1) / 8 = _; omega)]
/-- At the later points of a batch the buffer still holds what the batch's first point stored. -/
theorem before0_9 (c : Dev nD) (t : Fin cfg0.N) (h0 : ¬t.val % 8 = 0) (d) : (dats m 0 c).before 9 t d = (dats m 0 c).after 9 t := by
  have hc : ∀ (t : Fin cfg0.N) (_ : t.val ≠ 0), cfg0.idle 9 (grid0.coords t) = true → cfg0.fresh 9 t.val = false →
      (dats m 0 c).after 9 t = (dats m 0 c).after 9 ⟨t.val - 1, Nat.lt_of_le_of_lt (Nat.sub_le _ _) t.isLt⟩ := fun t _ hi _ => carry0_9 m c t fun h => by
    rw [live0_9_A t h] at hi
    exact Bool.false_ne_true hi
  have hf : cfg0.fresh 9 t.val = false := (fresh0_9 t).trans (by
    have h := t_lt t
    simp only [freshAt, decide_eq_false_iff_not]; exact h0)
  rw [Dat.before_out_traj _ 9 rfl (fun _ _ => rfl) hc t.val t rfl d, if_neg (by rw [hf]; exact Bool.false_ne_true)]
  exact (carry0_9 m c t h0).symm
/-- Held so, it is what the point is to leave. -/
theorem leaves0_9 (c : Dev nD) (t : Fin cfg0.N) (h0 : ¬t.val % 8 = 0) :
    (owns (c : Thread nD τ) (ms0_9 t) fullShare ((dats m 0 c).after 9 t) : sProp 𝕄) ⊢ (dats m 0 c).leavesExact 9 t := by
  cases hf : (cfg0.win 9).flush t
  · rw [Dat.leavesExact_idle _ 9 t (idle0_9_B t h0) hf]
    iintro H
    iexists default
    rw [before0_9 m c t h0]
    iexact H
  · unfold Dat.leavesExact
    rw [idle0_9_B t h0, hf]

end Cert.KernelIdeal.Attn
end
-- ==== Proof.KernelIdeal.Run.lean ====
/- The kernel's run: the body's obligation at every point, the launch, and what the results end as. -/
module

public import proofs.«01_k».proof.Proof.KernelIdeal.Data
public import Idealize.ShloMosaic.Lib.Pipeline.ValueKit
public import Idealize.ShloMosaic.Lib.Pipeline.TableIdle
public import Idealize.ShloMosaic.Lib.Pointwise
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- After a point the kept buffers hold what its batch makes them, -/
theorem kept_at (c : Dev nD) (t : Fin cfg0.N) :
    kept m c (t.val + 1) (keysPadded (iblk m c 1 t)) (keysScaled (iblk m c 1 t)) (valuesT (iblk m c 2 t)) (valuesScaled (iblk m c 2 t)) := fun t' h => by
  obtain rfl : t' = t := Fin.ext (by omega)
  exact ⟨rfl, rfl, rfl, rfl⟩
/-- which at the later points of the batch is what they are found to hold. -/
theorem kept_of (c : Dev nD) (t : Fin cfg0.N) (h0 : ¬t.val % 8 = 0) {d0 d1 d2 d3} (hk : kept m c t.val d0 d1 d2 d3) :
    d0 = keysPadded (iblk m c 1 t) ∧ d1 = keysScaled (iblk m c 1 t) ∧ d2 = valuesT (iblk m c 2 t) ∧ d3 = valuesScaled (iblk m c 2 t) := by
  have h := hk ⟨t.val - 1, Nat.lt_of_le_of_lt (Nat.sub_le _ _) t.isLt⟩ (by show t.val - 1 + 1 = _; omega)
  have e : ((⟨t.val - 1, Nat.lt_of_le_of_lt (Nat.sub_le _ _) t.isLt⟩ : Fin cfg0.N)).val / 8 = t.val / 8 := by show (t.val - 1) / 8 = _; omega
  rwa [iblk1_eq m c _ t e, iblk2_eq m c _ t e] at h

set_option maxHeartbeats 4000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = inv m c (t.val + 1) from rfl, show (dats m 0 c).Φ t.castSucc = inv m c t.val from rfl,
    show (dats m 0 c).owesAt () t.succ = (dats m 0 c).owesAt () t.castSucc from rfl]
  unfold inv
  have hN := t_lt t
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [live0_3 t], after0_3]
  rw [show (dats m 0 c).leavesExact 4 t = owns (c : Thread nD τ) (ms0_4 t) fullShare ((dats m 0 c).after 4 t) from by
    unfold Dat.leavesExact; rw [live0_4 t], after0_4]
  rw [show (dats m 0 c).leavesExact 5 t = owns (c : Thread nD τ) (ms0_5 t) fullShare ((dats m 0 c).after 5 t) from by
    unfold Dat.leavesExact; rw [live0_5 t], after0_5]
  by_cases h0 : t.val % 8 = 0
  · rw [show (dats m 0 c).leavesExact 6 t = owns (c : Thread nD τ) (ms0_6 t) fullShare ((dats m 0 c).after 6 t) from by
      unfold Dat.leavesExact; rw [live0_6_A t h0], after0_6]
    rw [show (dats m 0 c).leavesExact 7 t = owns (c : Thread nD τ) (ms0_7 t) fullShare ((dats m 0 c).after 7 t) from by
      unfold Dat.leavesExact; rw [live0_7_A t h0], after0_7]
    rw [show (dats m 0 c).leavesExact 8 t = owns (c : Thread nD τ) (ms0_8 t) fullShare ((dats m 0 c).after 8 t) from by
      unfold Dat.leavesExact; rw [live0_8_A t h0], after0_8]
    rw [show (dats m 0 c).leavesExact 9 t = owns (c : Thread nD τ) (ms0_9 t) fullShare ((dats m 0 c).after 9 t) from by
      unfold Dat.leavesExact; rw [live0_9_A t h0], after0_9]
    iintro ⟨⟨⟨%s0, %s1, %s2, %s3, %hk, HS0, HS1, HS2, HS3, HS4, HS5, HS6, HS7, HS8, HS9, HS10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((valueRun_A c (grid0.coords t) _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (bufs (iblk m c 0 t) (iblk m c 1 t) (iblk m c 2 t)) (fun _ => rfl) (fun _ => rfl) (fun _ => rfl) (fun _ => rfl) rfl rfl) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexists _; iexact HS0
    isplitl [HS1]; · iexists _; iexact HS1
    isplitl [HS2]; · iexists _; iexact HS2
    isplitl [HS3]; · iexists _; iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    iintro ⟨H0, H1, H2, H3, H4, H5, H6, H7, H8, H9, HS0, HS1, HS2, HS3, HS4, HS5, HS6, HS7, HS8, HS9, HS10⟩
    isplitl [HS0 HS1 HS2 HS3 HS4 HS5 HS6 HS7 HS8 HS9 HS10 Hg]
    · isplitl [HS0 HS1 HS2 HS3 HS4 HS5 HS6 HS7 HS8 HS9 HS10]
      · iexists keysPadded (iblk m c 1 t), keysScaled (iblk m c 1 t), valuesT (iblk m c 2 t), valuesScaled (iblk m c 2 t)
        isplitr
        · ipureintro; exact kept_at m c t
        isplitl [HS0]
        · iexact HS0
        isplitl [HS1]
        · iexact HS1
        isplitl [HS2]
        · iexact HS2
        isplitl [HS3]
        · iexact HS3
        isplitl [HS4]
        · iexact HS4
        isplitl [HS5]
        · iexact HS5
        isplitl [HS6]
        · iexact HS6
        isplitl [HS7]
        · iexact HS7
        isplitl [HS8]
        · iexact HS8
        isplitl [HS9]
        · iexact HS9
        iexact HS10
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · simp only [before0_6 m c t h0, before0_7 m c t h0, before0_8 m c t h0, before0_9 m c t h0, after0_6, after0_7, after0_8, after0_9]
    iintro ⟨⟨⟨%s0, %s1, %s2, %s3, %hk, HS0, HS1, HS2, HS3, HS4, HS5, HS6, HS7, HS8, HS9, HS10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    obtain ⟨rfl, rfl, rfl, rfl⟩ := kept_of m c t h0 hk
    iapply ((valueRun_B c (grid0.coords t) _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (keysPadded (iblk m c 1 t)) (keysScaled (iblk m c 1 t)) (valuesT (iblk m c 2 t)) (valuesScaled (iblk m c 2 t)) (keyCodes (iblk m c 1 t)) (keyScales (iblk m c 1 t)) (valueCodes (iblk m c 2 t)) (valueScales (iblk m c 2 t)) (bufs (iblk m c 0 t) (iblk m c 1 t) (iblk m c 2 t)) (fun _ => rfl) (fun _ => rfl) (fun _ => rfl) (fun _ => rfl) rfl rfl) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    iintro ⟨H0, H1, H2, H3, H4, H5, H6, H7, H8, H9, HS0, HS1, HS2, HS3, HS4, HS5, HS6, HS7, HS8, HS9, HS10⟩
    isplitl [HS0 HS1 HS2 HS3 HS4 HS5 HS6 HS7 HS8 HS9 HS10 Hg]
    · isplitl [HS0 HS1 HS2 HS3 HS4 HS5 HS6 HS7 HS8 HS9 HS10]
      · iexists keysPadded (iblk m c 1 t), keysScaled (iblk m c 1 t), valuesT (iblk m c 2 t), valuesScaled (iblk m c 2 t)
        isplitr
        · ipureintro; exact kept_at m c t
        isplitl [HS0]
        · iexact HS0
        isplitl [HS1]
        · iexact HS1
        isplitl [HS2]
        · iexact HS2
        isplitl [HS3]
        · iexact HS3
        isplitl [HS4]
        · iexact HS4
        isplitl [HS5]
        · iexact HS5
        isplitl [HS6]
        · iexact HS6
        isplitl [HS7]
        · iexact HS7
        isplitl [HS8]
        · iexact HS8
        isplitl [HS9]
        · iexact HS9
        iexact HS10
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · rw [← after0_6]; iapply (leaves0_6 m c t h0); iexact H6
    isplitl [H7]; · rw [← after0_7]; iapply (leaves0_7 m c t h0); iexact H7
    isplitl [H8]; · rw [← after0_8]; iapply (leaves0_8 m c t h0); iexact H8
    rw [← after0_9]; iapply (leaves0_9 m c t h0); iexact H9

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- The invariant at the start is the scratch buffers at any contents, -/
theorem inv_in (c : Dev nD) : (Pipeline.ΦA spec0 c : sProp 𝕄) ⊢ (dats m 0 c).Φ 0 := by
  rw [show (dats m 0 c).Φ 0 = inv m c 0 from rfl, PhiA0_eq]
  unfold inv
  iintro ⟨⟨⟨%d0, H0⟩, ⟨%d1, H1⟩, ⟨%d2, H2⟩, ⟨%d3, H3⟩, H⟩, Hg⟩
  isplitr [Hg]
  · iexists d0, d1, d2, d3
    isplitr
    · ipureintro; exact fun t h => absurd h (Nat.succ_ne_zero _)
    isplitl [H0]; · iexact H0
    isplitl [H1]; · iexact H1
    isplitl [H2]; · iexact H2
    isplitl [H3]; · iexact H3
    iexact H
  iexact Hg
/-- and so it is at the end. -/
theorem inv_out (c : Dev nD) : (dats m 0 c).Φ (Fin.last cfg0.N) ⊢ (Pipeline.ΦA spec0 c : sProp 𝕄) := by
  rw [show (dats m 0 c).Φ (Fin.last cfg0.N) = inv m c cfg0.N from rfl, PhiA0_eq]
  unfold inv
  iintro ⟨⟨%d0, %d1, %d2, %d3, -, H0, H1, H2, H3, H⟩, Hg⟩
  isplitr [Hg]
  · isplitl [H0]; · iexists _; iexact H0
    isplitl [H1]; · iexists _; iexact H1
    isplitl [H2]; · iexists _; iexact H2
    isplitl [H3]; · iexists _; iexact H3
    iexact H
  iexact Hg

set_option backward.isDefEq.respectTransparency.types false in
/-- The launch. -/
theorem run_main : θ_run defs (onTc (τ := τ) (main (F := Ideal))) (s₀ m ρ) (Pipeline.FramePost cfgs (dats m) 0 (Gen.V m)) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := Gen.V m) (hmain := hmain m Variants.none) (hA := A_eq m) (hin := inv_in m) (hout := inv_out m)

/-! ## The results -/

/-- The point of batch `b` and token block `n`. -/
def pt (b n : ℕ) : Fin cfg0.N := ⟨(8 * b + n) % 72, by rw [show cfg0.N = 72 from N_0]; omega⟩

/-- Result 0. -/
def outAt (c : Dev nD) : Vec Ideal S9x4096x512 .bf16 := fun z => outT (bufs (iblk m c 0 (pt (z 0).val ((z 1).val / 512))) (iblk m c 1 (pt (z 0).val ((z 1).val / 512))) (iblk m c 2 (pt (z 0).val ((z 1).val / 512)))) (z 2).val ((z 1).val % 512)
theorem arr_3 (c : Dev nD) : (dats m 0 c).arrAt 3 cfg0.N = outAt m c := by
  refine (dats m 0 c).arrAt_eq_of_covers 3 _ (by decide +kernel) fun t hf y => ?_
  blk_simp
  rw [after0_3]
  have hN := t_lt t
  have b0 : (y 0).val < 1 := (y 0).isLt
  have e0 : (((win0_3.blk t).view.emb y) 0).val = t.val / 8 := by blk_simp [index_3] <;> simp <;> omega
  have e1 : (((win0_3.blk t).view.emb y) 1).val = 512 * (t.val % 8) + (y 1).val := by blk_simp [index_3] <;> simp <;> omega
  have e2 : (((win0_3.blk t).view.emb y) 2).val = (y 2).val := by blk_simp [index_3] <;> simp
  have b1 : (y 1).val < 512 := (y 1).isLt
  unfold outAt
  rw [e0, e1, e2, show (512 * (t.val % 8) + (y 1).val) / 512 = t.val % 8 by omega, show (512 * (t.val % 8) + (y 1).val) % 512 = (y 1).val by omega,
    show pt (t.val / 8) (t.val % 8) = t from Fin.ext (by show (8 * (t.val / 8) + t.val % 8) % 72 = _; omega)]
  rfl
/-- Result 1. -/
def codesAt (c : Dev nD) : Vec Ideal S9x4096x512 .fp8e4m3 := fun z => codesOf (xOf (iblk m c 0 (pt (z 0).val ((z 1).val / 512)))) ((z 1).val % 512) (z 2).val
theorem arr_4 (c : Dev nD) : (dats m 0 c).arrAt 4 cfg0.N = codesAt m c := by
  refine (dats m 0 c).arrAt_eq_of_covers 4 _ (by decide +kernel) fun t hf y => ?_
  blk_simp
  rw [after0_4]
  have hN := t_lt t
  have b0 : (y 0).val < 1 := (y 0).isLt
  have e0 : (((win0_4.blk t).view.emb y) 0).val = t.val / 8 := by blk_simp [index_4] <;> simp <;> omega
  have e1 : (((win0_4.blk t).view.emb y) 1).val = 512 * (t.val % 8) + (y 1).val := by blk_simp [index_4] <;> simp <;> omega
  have e2 : (((win0_4.blk t).view.emb y) 2).val = (y 2).val := by blk_simp [index_4] <;> simp
  have b1 : (y 1).val < 512 := (y 1).isLt
  unfold codesAt
  rw [e0, e1, e2, show (512 * (t.val % 8) + (y 1).val) / 512 = t.val % 8 by omega, show (512 * (t.val % 8) + (y 1).val) % 512 = (y 1).val by omega,
    show pt (t.val / 8) (t.val % 8) = t from Fin.ext (by show (8 * (t.val / 8) + t.val % 8) % 72 = _; omega)]
  rfl
/-- Result 2. -/
def scalesAt (c : Dev nD) : Vec Ideal S9x4096x8 .f32 := fun z => scalesOf (xOf (iblk m c 0 (pt (z 0).val ((z 1).val / 512)))) ((z 1).val % 512) (z 2).val
theorem arr_5 (c : Dev nD) : (dats m 0 c).arrAt 5 cfg0.N = scalesAt m c := by
  refine (dats m 0 c).arrAt_eq_of_covers 5 _ (by decide +kernel) fun t hf y => ?_
  blk_simp
  rw [after0_5]
  have hN := t_lt t
  have b0 : (y 0).val < 1 := (y 0).isLt
  have e0 : (((win0_5.blk t).view.emb y) 0).val = t.val / 8 := by blk_simp [index_5] <;> simp <;> omega
  have e1 : (((win0_5.blk t).view.emb y) 1).val = 512 * (t.val % 8) + (y 1).val := by blk_simp [index_5] <;> simp <;> omega
  have e2 : (((win0_5.blk t).view.emb y) 2).val = (y 2).val := by blk_simp [index_5] <;> simp
  have b1 : (y 1).val < 512 := (y 1).isLt
  unfold scalesAt
  rw [e0, e1, e2, show (512 * (t.val % 8) + (y 1).val) / 512 = t.val % 8 by omega, show (512 * (t.val % 8) + (y 1).val) % 512 = (y 1).val by omega,
    show pt (t.val / 8) (t.val % 8) = t from Fin.ext (by show (8 * (t.val / 8) + t.val % 8) % 72 = _; omega)]
  rfl
/-- Result 3. -/
def kcodesAt (c : Dev nD) : Vec Ideal S9x4096x128 .fp8e4m3 := fun z => codesOf (kvOf (iblk m c 1 (pt (z 0).val 0))) (z 1).val (z 2).val
theorem arr_6 (c : Dev nD) : (dats m 0 c).arrAt 6 cfg0.N = kcodesAt m c := by
  refine (dats m 0 c).arrAt_eq_of_covers 6 _ (by decide +kernel) fun t hf y => ?_
  blk_simp
  rw [after0_6]
  have hN := t_lt t
  have b0 : (y 0).val < 1 := (y 0).isLt
  have e0 : (((win0_6.blk t).view.emb y) 0).val = t.val / 8 := by blk_simp [index_6] <;> simp <;> omega
  have e1 : (((win0_6.blk t).view.emb y) 1).val = (y 1).val := by blk_simp [index_6] <;> simp
  have e2 : (((win0_6.blk t).view.emb y) 2).val = (y 2).val := by blk_simp [index_6] <;> simp
  unfold kcodesAt
  rw [e0, e1, e2, iblk1_eq m c (pt (t.val / 8) 0) t (by show (8 * (t.val / 8) + 0) % 72 / 8 = _; omega)]
  rfl
/-- Result 4. -/
def kscalesAt (c : Dev nD) : Vec Ideal S9x4096x2 .f32 := fun z => scalesOf (kvOf (iblk m c 1 (pt (z 0).val 0))) (z 1).val (z 2).val
theorem arr_7 (c : Dev nD) : (dats m 0 c).arrAt 7 cfg0.N = kscalesAt m c := by
  refine (dats m 0 c).arrAt_eq_of_covers 7 _ (by decide +kernel) fun t hf y => ?_
  blk_simp
  rw [after0_7]
  have hN := t_lt t
  have b0 : (y 0).val < 1 := (y 0).isLt
  have e0 : (((win0_7.blk t).view.emb y) 0).val = t.val / 8 := by blk_simp [index_7] <;> simp <;> omega
  have e1 : (((win0_7.blk t).view.emb y) 1).val = (y 1).val := by blk_simp [index_7] <;> simp
  have e2 : (((win0_7.blk t).view.emb y) 2).val = (y 2).val := by blk_simp [index_7] <;> simp
  unfold kscalesAt
  rw [e0, e1, e2, iblk1_eq m c (pt (t.val / 8) 0) t (by show (8 * (t.val / 8) + 0) % 72 / 8 = _; omega)]
  rfl
/-- Result 5. -/
def vcodesAt (c : Dev nD) : Vec Ideal S9x4096x128 .fp8e4m3 := fun z => vCodesOf (kvOf (iblk m c 2 (pt (z 0).val 0))) (z 1).val (z 2).val
theorem arr_8 (c : Dev nD) : (dats m 0 c).arrAt 8 cfg0.N = vcodesAt m c := by
  refine (dats m 0 c).arrAt_eq_of_covers 8 _ (by decide +kernel) fun t hf y => ?_
  blk_simp
  rw [after0_8]
  have hN := t_lt t
  have b0 : (y 0).val < 1 := (y 0).isLt
  have e0 : (((win0_8.blk t).view.emb y) 0).val = t.val / 8 := by blk_simp [index_8] <;> simp <;> omega
  have e1 : (((win0_8.blk t).view.emb y) 1).val = (y 1).val := by blk_simp [index_8] <;> simp
  have e2 : (((win0_8.blk t).view.emb y) 2).val = (y 2).val := by blk_simp [index_8] <;> simp
  unfold vcodesAt
  rw [e0, e1, e2, iblk2_eq m c (pt (t.val / 8) 0) t (by show (8 * (t.val / 8) + 0) % 72 / 8 = _; omega)]
  rfl
/-- Result 6. -/
def vscalesAt (c : Dev nD) : Vec Ideal S9x1x128 .f32 := fun z => vScaleOf (kvOf (iblk m c 2 (pt (z 0).val 0))) (z 2).val
theorem arr_9 (c : Dev nD) : (dats m 0 c).arrAt 9 cfg0.N = vscalesAt m c := by
  refine (dats m 0 c).arrAt_eq_of_covers 9 _ (by decide +kernel) fun t hf y => ?_
  blk_simp
  rw [after0_9]
  have hN := t_lt t
  have b0 : (y 0).val < 1 := (y 0).isLt
  have e0 : (((win0_9.blk t).view.emb y) 0).val = t.val / 8 := by blk_simp [index_9] <;> simp <;> omega
  have e1 : (((win0_9.blk t).view.emb y) 1).val = (y 1).val := by blk_simp [index_9] <;> simp
  have e2 : (((win0_9.blk t).view.emb y) 2).val = (y 2).val := by blk_simp [index_9] <;> simp
  unfold vscalesAt
  rw [e0, e2, iblk2_eq m c (pt (t.val / 8) 0) t (by show (8 * (t.val / 8) + 0) % 72 / 8 = _; omega)]
  rfl

/-- The kernel's run: its results, and its arguments unchanged. -/
theorem run : θ_run defs (onTc (τ := τ) (main (F := Ideal))) ⟨m, fun _ => 0, ρ⟩ (fun r => ∀ c : Dev nD,
      r.2.mem ((c.tc : Thread nD τ).loc main_v0_0) = outAt m c
      ∧ r.2.mem ((c.tc : Thread nD τ).loc main_v0_1) = codesAt m c
      ∧ r.2.mem ((c.tc : Thread nD τ).loc main_v0_2) = scalesAt m c
      ∧ r.2.mem ((c.tc : Thread nD τ).loc main_v0_3) = kcodesAt m c
      ∧ r.2.mem ((c.tc : Thread nD τ).loc main_v0_4) = kscalesAt m c
      ∧ r.2.mem ((c.tc : Thread nD τ).loc main_v0_5) = vcodesAt m c
      ∧ r.2.mem ((c.tc : Thread nD τ).loc main_v0_6) = vscalesAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (arr_3 m c), ((h c).1 4).trans (arr_4 m c), ((h c).1 5).trans (arr_5 m c), ((h c).1 6).trans (arr_6 m c), ((h c).1 7).trans (arr_7 m c), ((h c).1 8).trans (arr_8 m c), ((h c).1 9).trans (arr_9 m c),
    ((h c).1 0).trans (((dats m 0 c).arrAt_in 0 rfl cfg0.N).trans ((A_eq m c 0).trans (V_main_arg0 m c))), ((h c).1 1).trans (((dats m 0 c).arrAt_in 1 rfl cfg0.N).trans ((A_eq m c 1).trans (V_main_arg1 m c))), ((h c).1 2).trans (((dats m 0 c).arrAt_in 2 rfl cfg0.N).trans ((A_eq m c 2).trans (V_main_arg2 m c)))⟩) (run_main m ρ)

end Cert.KernelIdeal.Attn
end
-- ==== Proof.Ref.Stages.lean ====
/-
  WHAT THE REFERENCE COMPUTES, array by array: the quantised codes and exponents of the queries, keys and values (each a function of
  its argument alone), and the results that the attention computes of them.
-/
module

public import proofs.«01_k».proof.Proof.Gen.ReferenceIdeal.Value

@[expose] public section

set_option maxRecDepth 100000
set_option maxHeartbeats 2000000

noncomputable section

namespace Cert.ReferenceIdeal.Attn

open Cert.ReferenceIdeal Cert.ReferenceIdeal.Gen
open Idealize.ShloMosaic Idealize.ShloMosaic.TcCoe

variable {F : FTy → Type} [FloatOps F]

/-! ## The queries -/

/-- The argument as f32, its heads apart. -/
def qIn (x : FVec F S9x4096x512 .bf16) : FVec F S9x4096x2x4x64 .f32 :=
  shapeCast S9x4096x2x4x64 (extf .f32 x bitsLt_bf16_f32) shapeCasts_S9x4096x512_S9x4096x2x4x64
/-- The greatest magnitude over 448. -/
def qLevel (a : FVec F S9x4096x2x4x64 .f32) : FVec F S9x4096x2x4x1 .f32 :=
  mulf (broadcastInDim S9x4096x2x4x1 ![0, 1, 2, 3] bcast_S9x4096x2x4_S9x4096x2x4x1_0_1_2_3 (Host.reduce FloatOps.maximumf (Host.absf a) (constant S_ .f32 0xFF800000#32) reducesTo_S9x4096x2x4x64_S9x4096x2x4_d4 h_S_))
    (broadcastInDim S9x4096x2x4x1 ![] bcast_S_S9x4096x2x4x1 (constant S_ .f32 0x3B124925#32))
/-- The exponent of the power of two just above it. -/
def qExp (y : FVec F S9x4096x2x4x1 .f32) : FVec F S9x4096x2x4x1 .f32 :=
  select (cmpf .olt y (broadcastInDim S9x4096x2x4x1 ![] bcast_S_S9x4096x2x4x1 (constant S_ .f32 0x00800000#32)))
    (broadcastInDim S9x4096x2x4x1 ![] bcast_S_S9x4096x2x4x1 (constant S_ .f32 0x00000000#32))
    (addf (Host.floor (Host.divf (Host.log y) (broadcastInDim S9x4096x2x4x1 ![] bcast_S_S9x4096x2x4x1 (Host.log (constant S_ .f32 0x40000000#32)))))
      (broadcastInDim S9x4096x2x4x1 ![] bcast_S_S9x4096x2x4x1 (constant S_ .f32 0x3F800000#32)))
/-- The scales, that power. -/
def qScale (e : FVec F S9x4096x2x4x1 .f32) : FVec F S9x4096x2x4 .f32 :=
  shapeCast S9x4096x2x4 (Host.powf (broadcastInDim S9x4096x2x4x1 ![] bcast_S_S9x4096x2x4x1 (constant S_ .f32 0x40000000#32)) e) shapeCasts_S9x4096x2x4x1_S9x4096x2x4
/-- The codes. -/
def qCodes (a : FVec F S9x4096x2x4x64 .f32) (e : FVec F S9x4096x2x4x1 .f32) : FVec F S9x4096x2x4x64 .f32 :=
  minimumf (broadcastInDim S9x4096x2x4x64 ![] bcast_S_S9x4096x2x4x64 (constant S_ .f32 0x43E00000#32))
    (maximumf (broadcastInDim S9x4096x2x4x64 ![] bcast_S_S9x4096x2x4x64 (constant S_ .f32 0xC3E00000#32))
      (mulf a (broadcastInDim S9x4096x2x4x64 ![0, 1, 2, 3, 4] bcast_S9x4096x2x4x1_S9x4096x2x4x64_0_1_2_3_4
        (Host.powf (broadcastInDim S9x4096x2x4x1 ![] bcast_S_S9x4096x2x4x1 (constant S_ .f32 0x40000000#32)) (Host.negf e)))))

/-- The operations of this part. -/
abbrev qOps : List (HloOp τ sig (Elt F)) := List.flatten [hostOps0, hostOps0_1, hostOps0_2, hostOps0_3]

/-! ## The keys -/

/-- The argument as f32, its heads apart. -/
def kIn (x : FVec F S9x4096x128 .bf16) : FVec F S9x4096x2x64 .f32 :=
  shapeCast S9x4096x2x64 (extf .f32 x bitsLt_bf16_f32) shapeCasts_S9x4096x128_S9x4096x2x64
/-- The greatest magnitude over 448. -/
def kLevel (a : FVec F S9x4096x2x64 .f32) : FVec F S9x4096x2x1 .f32 :=
  mulf (broadcastInDim S9x4096x2x1 ![0, 1, 2] bcast_S9x4096x2_S9x4096x2x1_0_1_2 (Host.reduce FloatOps.maximumf (Host.absf a) (constant S_ .f32 0xFF800000#32) reducesTo_S9x4096x2x64_S9x4096x2_d3 h_S_))
    (broadcastInDim S9x4096x2x1 ![] bcast_S_S9x4096x2x1 (constant S_ .f32 0x3B124925#32))
/-- The exponent of the power of two just above it. -/
def kExp (y : FVec F S9x4096x2x1 .f32) : FVec F S9x4096x2x1 .f32 :=
  select (cmpf .olt y (broadcastInDim S9x4096x2x1 ![] bcast_S_S9x4096x2x1 (constant S_ .f32 0x00800000#32)))
    (broadcastInDim S9x4096x2x1 ![] bcast_S_S9x4096x2x1 (constant S_ .f32 0x00000000#32))
    (addf (Host.floor (Host.divf (Host.log y) (broadcastInDim S9x4096x2x1 ![] bcast_S_S9x4096x2x1 (Host.log (constant S_ .f32 0x40000000#32)))))
      (broadcastInDim S9x4096x2x1 ![] bcast_S_S9x4096x2x1 (constant S_ .f32 0x3F800000#32)))
/-- The scales, that power. -/
def kScale (e : FVec F S9x4096x2x1 .f32) : FVec F S9x4096x2 .f32 :=
  shapeCast S9x4096x2 (Host.powf (broadcastInDim S9x4096x2x1 ![] bcast_S_S9x4096x2x1 (constant S_ .f32 0x40000000#32)) e) shapeCasts_S9x4096x2x1_S9x4096x2
/-- The codes. -/
def kCodes (a : FVec F S9x4096x2x64 .f32) (e : FVec F S9x4096x2x1 .f32) : FVec F S9x4096x2x64 .f32 :=
  minimumf (broadcastInDim S9x4096x2x64 ![] bcast_S_S9x4096x2x64 (constant S_ .f32 0x43E00000#32))
    (maximumf (broadcastInDim S9x4096x2x64 ![] bcast_S_S9x4096x2x64 (constant S_ .f32 0xC3E00000#32))
      (mulf a (broadcastInDim S9x4096x2x64 ![0, 1, 2, 3] bcast_S9x4096x2x1_S9x4096x2x64_0_1_2_3
        (Host.powf (broadcastInDim S9x4096x2x1 ![] bcast_S_S9x4096x2x1 (constant S_ .f32 0x40000000#32)) (Host.negf e)))))

/-- The operations of this part. -/
abbrev kOps : List (HloOp τ sig (Elt F)) := List.flatten [hostOps0_4, hostOps0_5, hostOps0_6, hostOps0_7]

/-! ## The values -/

/-- The argument as f32, its heads apart. -/
def vIn (x : FVec F S9x4096x128 .bf16) : FVec F S9x4096x2x64 .f32 :=
  shapeCast S9x4096x2x64 (extf .f32 x bitsLt_bf16_f32) shapeCasts_S9x4096x128_S9x4096x2x64
/-- The greatest magnitude over 448. -/
def vLevel (a : FVec F S9x4096x2x64 .f32) : FVec F S9x1x2x64 .f32 :=
  mulf (broadcastInDim S9x1x2x64 ![0, 2, 3] bcast_S9x2x64_S9x1x2x64_0_2_3 (Host.reduce FloatOps.maximumf (Host.absf a) (constant S_ .f32 0xFF800000#32) reducesTo_S9x4096x2x64_S9x2x64_d1 h_S_))
    (broadcastInDim S9x1x2x64 ![] bcast_S_S9x1x2x64 (constant S_ .f32 0x3B124925#32))
/-- The exponent of the power of two just above it. -/
def vExp (y : FVec F S9x1x2x64 .f32) : FVec F S9x1x2x64 .f32 :=
  select (cmpf .olt y (broadcastInDim S9x1x2x64 ![] bcast_S_S9x1x2x64 (constant S_ .f32 0x00800000#32)))
    (broadcastInDim S9x1x2x64 ![] bcast_S_S9x1x2x64 (constant S_ .f32 0x00000000#32))
    (addf (Host.floor (Host.divf (Host.log y) (broadcastInDim S9x1x2x64 ![] bcast_S_S9x1x2x64 (Host.log (constant S_ .f32 0x40000000#32)))))
      (broadcastInDim S9x1x2x64 ![] bcast_S_S9x1x2x64 (constant S_ .f32 0x3F800000#32)))
/-- The scales, that power. -/
def vScale (e : FVec F S9x1x2x64 .f32) : FVec F S9x2x64 .f32 :=
  shapeCast S9x2x64 (Host.powf (broadcastInDim S9x1x2x64 ![] bcast_S_S9x1x2x64 (constant S_ .f32 0x40000000#32)) e) shapeCasts_S9x1x2x64_S9x2x64
/-- The codes. -/
def vCodes (a : FVec F S9x4096x2x64 .f32) (e : FVec F S9x1x2x64 .f32) : FVec F S9x4096x2x64 .f32 :=
  minimumf (broadcastInDim S9x4096x2x64 ![] bcast_S_S9x4096x2x64 (constant S_ .f32 0x43E00000#32))
    (maximumf (broadcastInDim S9x4096x2x64 ![] bcast_S_S9x4096x2x64 (constant S_ .f32 0xC3E00000#32))
      (mulf a (broadcastInDim S9x4096x2x64 ![0, 1, 2, 3] bcast_S9x1x2x64_S9x4096x2x64_0_1_2_3
        (Host.powf (broadcastInDim S9x1x2x64 ![] bcast_S_S9x1x2x64 (constant S_ .f32 0x40000000#32)) (Host.negf e)))))

/-- The operations of this part. -/
abbrev vOps : List (HloOp τ sig (Elt F)) := List.flatten [hostOps0_8, hostOps0_9, hostOps0_10, hostOps0_11]

/-! ## The attention -/

/-- The scores: codes against codes, times the query's scale and the factor 1/8, times the key's scale. -/
def scores (q : FVec F S9x4096x2x4x64 .f32) (qs : FVec F S9x4096x2x4 .f32) (k : FVec F S9x4096x2x64 .f32) (ks : FVec F S9x4096x2 .f32) :
    FVec F S9x2x4096x4x4096 .f32 :=
  mulf (mulf (Host.dotGeneral dot_S9x4096x2x4x64_S9x4096x2x64_S9x2x4096x4x4096_4_3_13_1_02_02 none q k)
    (broadcastInDim S9x2x4096x4x4096 ![0, 1, 2, 3, 4] bcast_S9x2x4096x4x1_S9x2x4096x4x4096_0_1_2_3_4
      (broadcastInDim S9x2x4096x4x1 ![0, 1, 2, 3] bcast_S9x2x4096x4_S9x2x4096x4x1_0_1_2_3
        (transpose S9x2x4096x4 [0, 2, 1, 3]
          (mulf qs (broadcastInDim S9x4096x2x4 ![] bcast_S_S9x4096x2x4 (constant S_ .f32 0x3E000000#32)))
          transposes_S9x4096x2x4_S9x2x4096x4_0_2_1_3))))
    (broadcastInDim S9x2x4096x4x4096 ![0, 1, 2, 3, 4] bcast_S9x2x1x1x4096_S9x2x4096x4x4096_0_1_2_3_4
      (broadcastInDim S9x2x1x1x4096 ![0, 1, 4] bcast_S9x2x4096_S9x2x1x1x4096_0_1_4
        (transpose S9x2x4096 [0, 2, 1] ks transposes_S9x4096x2_S9x2x4096_0_2_1)))
/-- The exponentials of the scores, each less the row's greatest. -/
def probs (s : FVec F S9x2x4096x4x4096 .f32) : FVec F S9x2x4096x4x4096 .f32 :=
  Host.exp (subf s (broadcastInDim S9x2x4096x4x4096 ![0, 1, 2, 3, 4] bcast_S9x2x4096x4x1_S9x2x4096x4x4096_0_1_2_3_4
    (broadcastInDim S9x2x4096x4x1 ![0, 1, 2, 3] bcast_S9x2x4096x4_S9x2x4096x4x1_0_1_2_3
      (Host.reduce FloatOps.maximumf s (constant S_ .f32 0xFF800000#32) reducesTo_S9x2x4096x4x4096_S9x2x4096x4_d4 h_S_))))
/-- The codes of the exponentials. -/
def pcodes (p : FVec F S9x2x4096x4x4096 .f32) : FVec F S9x2x4096x4x4096 .f32 :=
  minimumf (broadcastInDim S9x2x4096x4x4096 ![] bcast_S_S9x2x4096x4x4096 (constant S_ .f32 0x43E00000#32))
    (maximumf (broadcastInDim S9x2x4096x4x4096 ![] bcast_S_S9x2x4096x4x4096 (constant S_ .f32 0xC3E00000#32))
      (mulf p (broadcastInDim S9x2x4096x4x4096 ![] bcast_S_S9x2x4096x4x4096 (constant S_ .f32 0x43800000#32))))
/-- The codes against the values' codes, times their scale, over the sum of the exponentials. -/
def ratio (p : FVec F S9x2x4096x4x4096 .f32) (v : FVec F S9x4096x2x64 .f32) (vs : FVec F S9x2x64 .f32) : FVec F S9x2x4096x4x64 .f32 :=
  Host.divf (mulf (Host.dotGeneral dot_S9x2x4096x4x4096_S9x4096x2x64_S9x2x4096x4x64_4_1_23_3_01_02 none (pcodes p) v)
      (broadcastInDim S9x2x4096x4x64 ![0, 1, 2, 3, 4] bcast_S9x2x1x1x64_S9x2x4096x4x64_0_1_2_3_4
        (mulf (broadcastInDim S9x2x1x1x64 ![] bcast_S_S9x2x1x1x64 (constant S_ .f32 0x3B800000#32))
          (broadcastInDim S9x2x1x1x64 ![0, 1, 4] bcast_S9x2x64_S9x2x1x1x64_0_1_4 vs))))
    (broadcastInDim S9x2x4096x4x64 ![0, 1, 2, 3, 4] bcast_S9x2x4096x4x1_S9x2x4096x4x64_0_1_2_3_4
      (broadcastInDim S9x2x4096x4x1 ![0, 1, 2, 3] bcast_S9x2x4096x4_S9x2x4096x4x1_0_1_2_3
        (Host.reduceAdd p (constant S_ .f32 0x00000000#32) reducesTo_S9x2x4096x4x4096_S9x2x4096x4_d4 h_S_)))
/-- The output, rows by token and head as the argument has them. -/
def outOf (o : FVec F S9x2x4096x4x64 .f32) : FVec F S9x4096x512 .bf16 :=
  truncf .bf16 (shapeCast S9x4096x512 (transpose S9x4096x2x4x64 [0, 2, 1, 3, 4] o transposes_S9x2x4096x4x64_S9x4096x2x4x64_0_2_1_3_4)
    shapeCasts_S9x4096x2x4x64_S9x4096x512) bitsLt_bf16_f32

abbrev dOps : List (HloOp τ sig (Elt F)) := List.flatten [hostOps0_12, hostOps0_13, hostOps0_14]

end Cert.ReferenceIdeal.Attn

end
-- ==== Proof.Ref.AtA.lean ====
/-
  THE REFERENCE'S QUANTISER, ELEMENT BY ELEMENT: the level of a group, the exponent of its scale, the scale and the codes.
-/
module

public import proofs.«01_k».proof.Proof.Ref.Stages
public import proofs.«01_k».proof.Proof.Attn.Scale
public import Idealize.ShloMosaic.Lib.Pointwise

@[expose] public section

set_option maxRecDepth 100000
set_option maxHeartbeats 2000000

noncomputable section

namespace Cert.ReferenceIdeal.Attn

open Cert.ReferenceIdeal Cert.ReferenceIdeal.Gen
open Idealize.ShloMosaic Idealize.ShloMosaic.TcCoe
open Cert.KernelIdeal.Attn (level clip expOf ofBits_zero ofBits_one)

/-! ## A maximum along one axis -/

section Max
variable {n0 n1 n2 n3 n4 : ℕ} {t u : Shape}

theorem max_r5_a4 (x : (⟨5, ![n0, n1, n2, n3, n4]⟩ : Shape).Idx → EReal) (init : u.Idx → EReal)
    (h : (⟨5, ![n0, n1, n2, n3, n4]⟩ : Shape).ReducesTo [4] (⟨4, ![n0, n1, n2, n3]⟩ : Shape)) (hu : 0 < u.numel)
    (a : Fin n0) (b : Fin n1) (c : Fin n2) (d : Fin n3) :
    Host.reduce (FloatOps.maximumf (F := Ideal) (φ := .f32)) x init h hu (ix4 a b c d)
      = Finset.univ.fold max (init (Shape.Idx.first hu)) fun e : Fin n4 => x (ix5 a b c d e) := by
  rw [Host.reduce_eq_fold, h.fold_fiber_r5_a4]
  rfl
theorem max_r4_a3 (x : (⟨4, ![n0, n1, n2, n3]⟩ : Shape).Idx → EReal) (init : u.Idx → EReal)
    (h : (⟨4, ![n0, n1, n2, n3]⟩ : Shape).ReducesTo [3] (⟨3, ![n0, n1, n2]⟩ : Shape)) (hu : 0 < u.numel)
    (a : Fin n0) (b : Fin n1) (c : Fin n2) :
    Host.reduce (FloatOps.maximumf (F := Ideal) (φ := .f32)) x init h hu (ix3 a b c)
      = Finset.univ.fold max (init (Shape.Idx.first hu)) fun e : Fin n3 => x (ix4 a b c e) := by
  rw [Host.reduce_eq_fold, h.fold_fiber_r4_a3]
  rfl
theorem max_r4_a1 (x : (⟨4, ![n0, n1, n2, n3]⟩ : Shape).Idx → EReal) (init : u.Idx → EReal)
    (h : (⟨4, ![n0, n1, n2, n3]⟩ : Shape).ReducesTo [1] (⟨3, ![n0, n2, n3]⟩ : Shape)) (hu : 0 < u.numel)
    (a : Fin n0) (b : Fin n2) (c : Fin n3) :
    Host.reduce (FloatOps.maximumf (F := Ideal) (φ := .f32)) x init h hu (ix3 a b c)
      = Finset.univ.fold max (init (Shape.Idx.first hu)) fun e : Fin n1 => x (ix4 a e b c) := by
  rw [Host.reduce_eq_fold, h.fold_fiber_r4_a1]
  rfl
end Max

theorem expOf_if (y : EReal) :
    (if y < Ideal.ofBits .f32 0x00800000#32 then 0
      else Ideal.liftRound Int.floor (Ideal.div (Ideal.log y) (Ideal.log (Ideal.ofBits .f32 0x40000000#32))) + 1) = expOf y := by
  unfold expOf
  rw [ofBits_zero, ofBits_one]
  simp

/-! ## The queries -/

theorem qIn_apply (x : FVec Ideal S9x4096x512 .bf16) (b : Fin 9) (s : Fin 4096) (k : Fin 2) (g : Fin 4) (d : Fin 64) :
    qIn x (ix5 b s k g d) = x (ix3 b s ⟨k.val * 256 + g.val * 64 + d.val, by omega⟩) := by
  unfold qIn
  pointwise
theorem qLevel_max (a : FVec Ideal S9x4096x2x4x64 .f32) (b : Fin 9) (s : Fin 4096) (k : Fin 2) (g : Fin 4) :
    Host.reduce (FloatOps.maximumf (F := Ideal) (φ := .f32)) (Host.absf a) (constant S_ .f32 0xFF800000#32) reducesTo_S9x4096x2x4x64_S9x4096x2x4_d4 h_S_ (ix4 b s k g)
      = Finset.univ.fold max (Ideal.ofBits .f32 0xFF800000#32) fun e => FloatOps.absf (F := Ideal) (φ := .f32) (a (ix5 b s k g e)) :=
  max_r5_a4 _ _ _ _ _ _ _ _
theorem qLevel_bcast (r : FVec Ideal S9x4096x2x4 .f32) (b : Fin 9) (s : Fin 4096) (k : Fin 2) (g : Fin 4) (z : Fin 1) :
    mulf (broadcastInDim S9x4096x2x4x1 ![0, 1, 2, 3] bcast_S9x4096x2x4_S9x4096x2x4x1_0_1_2_3 r) (broadcastInDim S9x4096x2x4x1 ![] bcast_S_S9x4096x2x4x1 (constant (F := Ideal) S_ .f32 0x3B124925#32)) (ix5 b s k g z)
      = r (ix4 b s k g) * Ideal.ofBits .f32 0x3B124925#32 := by
  pointwise
theorem qLevel_apply (a : FVec Ideal S9x4096x2x4x64 .f32) (b : Fin 9) (s : Fin 4096) (k : Fin 2) (g : Fin 4) (z : Fin 1) :
    qLevel a (ix5 b s k g z) = level fun e => a (ix5 b s k g e) := by
  unfold qLevel level
  exact (qLevel_bcast _ b s k g z).trans (congrArg (· * Ideal.ofBits .f32 0x3B124925#32) (qLevel_max a b s k g))
theorem qExp_apply (y : FVec Ideal S9x4096x2x4x1 .f32) (b : Fin 9) (s : Fin 4096) (k : Fin 2) (g : Fin 4) (z : Fin 1) :
    qExp y (ix5 b s k g z) = expOf (y (ix5 b s k g z)) := by
  unfold qExp
  pointwise
  exact expOf_if _
theorem qScale_apply (e : FVec Ideal S9x4096x2x4x1 .f32) (b : Fin 9) (s : Fin 4096) (k : Fin 2) (g : Fin 4) :
    qScale e (ix4 b s k g) = Ideal.pow (Ideal.ofBits .f32 0x40000000#32) (e (ix5 b s k g 0)) := by
  unfold qScale
  pointwise
theorem qCodes_apply (a : FVec Ideal S9x4096x2x4x64 .f32) (e : FVec Ideal S9x4096x2x4x1 .f32) (b : Fin 9) (s : Fin 4096) (k : Fin 2) (g : Fin 4) (d : Fin 64) :
    qCodes a e (ix5 b s k g d) = clip (a (ix5 b s k g d) * Ideal.pow (Ideal.ofBits .f32 0x40000000#32) (-(e (ix5 b s k g 0)))) := by
  unfold qCodes clip
  pointwise

/-! ## The keys -/

theorem kIn_apply (x : FVec Ideal S9x4096x128 .bf16) (b : Fin 9) (s : Fin 4096) (k : Fin 2) (d : Fin 64) :
    kIn x (ix4 b s k d) = x (ix3 b s ⟨k.val * 64 + d.val, by omega⟩) := by
  unfold kIn
  pointwise
theorem kLevel_max (a : FVec Ideal S9x4096x2x64 .f32) (b : Fin 9) (s : Fin 4096) (k : Fin 2) :
    Host.reduce (FloatOps.maximumf (F := Ideal) (φ := .f32)) (Host.absf a) (constant S_ .f32 0xFF800000#32) reducesTo_S9x4096x2x64_S9x4096x2_d3 h_S_ (ix3 b s k)
      = Finset.univ.fold max (Ideal.ofBits .f32 0xFF800000#32) fun e => FloatOps.absf (F := Ideal) (φ := .f32) (a (ix4 b s k e)) :=
  max_r4_a3 _ _ _ _ _ _ _
theorem kLevel_bcast (r : FVec Ideal S9x4096x2 .f32) (b : Fin 9) (s : Fin 4096) (k : Fin 2) (z : Fin 1) :
    mulf (broadcastInDim S9x4096x2x1 ![0, 1, 2] bcast_S9x4096x2_S9x4096x2x1_0_1_2 r) (broadcastInDim S9x4096x2x1 ![] bcast_S_S9x4096x2x1 (constant (F := Ideal) S_ .f32 0x3B124925#32)) (ix4 b s k z)
      = r (ix3 b s k) * Ideal.ofBits .f32 0x3B124925#32 := by
  pointwise
theorem kLevel_apply (a : FVec Ideal S9x4096x2x64 .f32) (b : Fin 9) (s : Fin 4096) (k : Fin 2) (z : Fin 1) :
    kLevel a (ix4 b s k z) = level fun e => a (ix4 b s k e) := by
  unfold kLevel level
  exact (kLevel_bcast _ b s k z).trans (congrArg (· * Ideal.ofBits .f32 0x3B124925#32) (kLevel_max a b s k))
theorem kExp_apply (y : FVec Ideal S9x4096x2x1 .f32) (b : Fin 9) (s : Fin 4096) (k : Fin 2) (z : Fin 1) :
    kExp y (ix4 b s k z) = expOf (y (ix4 b s k z)) := by
  unfold kExp
  pointwise
  exact expOf_if _
theorem kScale_apply (e : FVec Ideal S9x4096x2x1 .f32) (b : Fin 9) (s : Fin 4096) (k : Fin 2) :
    kScale e (ix3 b s k) = Ideal.pow (Ideal.ofBits .f32 0x40000000#32) (e (ix4 b s k 0)) := by
  unfold kScale
  pointwise
theorem kCodes_apply (a : FVec Ideal S9x4096x2x64 .f32) (e : FVec Ideal S9x4096x2x1 .f32) (b : Fin 9) (s : Fin 4096) (k : Fin 2) (d : Fin 64) :
    kCodes a e (ix4 b s k d) = clip (a (ix4 b s k d) * Ideal.pow (Ideal.ofBits .f32 0x40000000#32) (-(e (ix4 b s k 0)))) := by
  unfold kCodes clip
  pointwise

/-! ## The values -/

theorem vIn_apply (x : FVec Ideal S9x4096x128 .bf16) (b : Fin 9) (s : Fin 4096) (k : Fin 2) (d : Fin 64) :
    vIn x (ix4 b s k d) = x (ix3 b s ⟨k.val * 64 + d.val, by omega⟩) := by
  unfold vIn
  pointwise
theorem vLevel_max (a : FVec Ideal S9x4096x2x64 .f32) (b : Fin 9) (k : Fin 2) (d : Fin 64) :
    Host.reduce (FloatOps.maximumf (F := Ideal) (φ := .f32)) (Host.absf a) (constant S_ .f32 0xFF800000#32) reducesTo_S9x4096x2x64_S9x2x64_d1 h_S_ (ix3 b k d)
      = Finset.univ.fold max (Ideal.ofBits .f32 0xFF800000#32) fun e => FloatOps.absf (F := Ideal) (φ := .f32) (a (ix4 b e k d)) :=
  max_r4_a1 _ _ _ _ _ _ _
theorem vLevel_bcast (r : FVec Ideal S9x2x64 .f32) (b : Fin 9) (z : Fin 1) (k : Fin 2) (d : Fin 64) :
    mulf (broadcastInDim S9x1x2x64 ![0, 2, 3] bcast_S9x2x64_S9x1x2x64_0_2_3 r) (broadcastInDim S9x1x2x64 ![] bcast_S_S9x1x2x64 (constant (F := Ideal) S_ .f32 0x3B124925#32)) (ix4 b z k d)
      = r (ix3 b k d) * Ideal.ofBits .f32 0x3B124925#32 := by
  pointwise
theorem vLevel_apply (a : FVec Ideal S9x4096x2x64 .f32) (b : Fin 9) (z : Fin 1) (k : Fin 2) (d : Fin 64) :
    vLevel a (ix4 b z k d) = level fun e => a (ix4 b e k d) := by
  unfold vLevel level
  exact (vLevel_bcast _ b z k d).trans (congrArg (· * Ideal.ofBits .f32 0x3B124925#32) (vLevel_max a b k d))
theorem vExp_apply (y : FVec Ideal S9x1x2x64 .f32) (b : Fin 9) (z : Fin 1) (k : Fin 2) (d : Fin 64) :
    vExp y (ix4 b z k d) = expOf (y (ix4 b z k d)) := by
  unfold vExp
  pointwise
  exact expOf_if _
theorem vScale_apply (e : FVec Ideal S9x1x2x64 .f32) (b : Fin 9) (k : Fin 2) (d : Fin 64) :
    vScale e (ix3 b k d) = Ideal.pow (Ideal.ofBits .f32 0x40000000#32) (e (ix4 b 0 k d)) := by
  unfold vScale
  pointwise
theorem vCodes_apply (a : FVec Ideal S9x4096x2x64 .f32) (e : FVec Ideal S9x1x2x64 .f32) (b : Fin 9) (s : Fin 4096) (k : Fin 2) (d : Fin 64) :
    vCodes a e (ix4 b s k d) = clip (a (ix4 b s k d) * Ideal.pow (Ideal.ofBits .f32 0x40000000#32) (-(e (ix4 b 0 k d)))) := by
  unfold vCodes clip
  pointwise

end Cert.ReferenceIdeal.Attn

end
-- ==== Proof.Ref.AtB.lean ====
/-
  THE REFERENCE'S ATTENTION, ELEMENT BY ELEMENT: the scores, their exponentials and the output.
-/
module

public import proofs.«01_k».proof.Proof.Ref.Stages
public import proofs.«01_k».proof.Proof.Attn.Scale
public import proofs.«01_k».proof.Proof.Ref.AtA
public import Idealize.ShloMosaic.Lib.Pointwise

@[expose] public section

set_option maxRecDepth 100000
set_option maxHeartbeats 2000000

noncomputable section

namespace Cert.ReferenceIdeal.Attn

open Cert.ReferenceIdeal Cert.ReferenceIdeal.Gen
open Idealize.ShloMosaic Idealize.ShloMosaic.TcCoe
open Cert.KernelIdeal.Attn (level clip expOf ofBits_zero ofBits_one)

theorem scores_apply (q : FVec Ideal S9x4096x2x4x64 .f32) (qs : FVec Ideal S9x4096x2x4 .f32) (k : FVec Ideal S9x4096x2x64 .f32)
    (ks : FVec Ideal S9x4096x2 .f32) (b : Fin 9) (h : Fin 2) (t : Fin 4096) (g : Fin 4) (s : Fin 4096) :
    scores q qs k ks (ix5 b h t g s)
      = (∑ d : Fin 64, q (ix5 b t h g d) * k (ix4 b s h d)) * (qs (ix4 b t h g) * Ideal.ofBits .f32 0x3E000000#32) * ks (ix3 b s h) := by
  unfold scores
  pointwise

theorem probs_sub (s : FVec Ideal S9x2x4096x4x4096 .f32) (r : FVec Ideal S9x2x4096x4 .f32) (b : Fin 9) (h : Fin 2) (t : Fin 4096) (g : Fin 4) (j : Fin 4096) :
    Host.exp (subf s (broadcastInDim S9x2x4096x4x4096 ![0, 1, 2, 3, 4] bcast_S9x2x4096x4x1_S9x2x4096x4x4096_0_1_2_3_4
      (broadcastInDim S9x2x4096x4x1 ![0, 1, 2, 3] bcast_S9x2x4096x4_S9x2x4096x4x1_0_1_2_3 r))) (ix5 b h t g j)
      = Ideal.exp (s (ix5 b h t g j) - r (ix4 b h t g)) := by
  pointwise
theorem probs_max (s : FVec Ideal S9x2x4096x4x4096 .f32) (b : Fin 9) (h : Fin 2) (t : Fin 4096) (g : Fin 4) :
    Host.reduce (FloatOps.maximumf (F := Ideal) (φ := .f32)) s (constant S_ .f32 0xFF800000#32) reducesTo_S9x2x4096x4x4096_S9x2x4096x4_d4 h_S_ (ix4 b h t g)
      = Finset.univ.fold max (Ideal.ofBits .f32 0xFF800000#32) fun e => s (ix5 b h t g e) :=
  max_r5_a4 _ _ _ _ _ _ _ _
theorem probs_apply (s : FVec Ideal S9x2x4096x4x4096 .f32) (b : Fin 9) (h : Fin 2) (t : Fin 4096) (g : Fin 4) (j : Fin 4096) :
    probs s (ix5 b h t g j)
      = Ideal.exp (s (ix5 b h t g j) - Finset.univ.fold max (Ideal.ofBits .f32 0xFF800000#32) fun e => s (ix5 b h t g e)) := by
  unfold probs
  exact (probs_sub s _ b h t g j).trans (congrArg (fun r => Ideal.exp (s (ix5 b h t g j) - r)) (probs_max s b h t g))
theorem pcodes_apply (p : FVec Ideal S9x2x4096x4x4096 .f32) (b : Fin 9) (h : Fin 2) (t : Fin 4096) (g : Fin 4) (j : Fin 4096) :
    pcodes p (ix5 b h t g j) = clip (p (ix5 b h t g j) * Ideal.ofBits .f32 0x43800000#32) := by
  unfold pcodes clip
  pointwise

theorem ratio_parts (c : FVec Ideal S9x2x4096x4x4096 .f32) (v : FVec Ideal S9x4096x2x64 .f32) (vs : FVec Ideal S9x2x64 .f32)
    (l : FVec Ideal S9x2x4096x4 .f32) (b : Fin 9) (h : Fin 2) (t : Fin 4096) (g : Fin 4) (d : Fin 64) :
    Host.divf (mulf (Host.dotGeneral dot_S9x2x4096x4x4096_S9x4096x2x64_S9x2x4096x4x64_4_1_23_3_01_02 none c v)
      (broadcastInDim S9x2x4096x4x64 ![0, 1, 2, 3, 4] bcast_S9x2x1x1x64_S9x2x4096x4x64_0_1_2_3_4
        (mulf (broadcastInDim S9x2x1x1x64 ![] bcast_S_S9x2x1x1x64 (constant S_ .f32 0x3B800000#32))
          (broadcastInDim S9x2x1x1x64 ![0, 1, 4] bcast_S9x2x64_S9x2x1x1x64_0_1_4 vs))))
    (broadcastInDim S9x2x4096x4x64 ![0, 1, 2, 3, 4] bcast_S9x2x4096x4x1_S9x2x4096x4x64_0_1_2_3_4
      (broadcastInDim S9x2x4096x4x1 ![0, 1, 2, 3] bcast_S9x2x4096x4_S9x2x4096x4x1_0_1_2_3 l)) (ix5 b h t g d)
      = Ideal.div ((∑ s : Fin 4096, c (ix5 b h t g s) * v (ix4 b s h d)) * (Ideal.ofBits .f32 0x3B800000#32 * vs (ix3 b h d)))
          (l (ix4 b h t g)) := by
  pointwise
theorem sum_r5_a4 {n0 n1 n2 n3 n4 : ℕ} {u : Shape} (x : (⟨5, ![n0, n1, n2, n3, n4]⟩ : Shape).Idx → EReal) (init : u.Idx → EReal)
    (h : (⟨5, ![n0, n1, n2, n3, n4]⟩ : Shape).ReducesTo [4] (⟨4, ![n0, n1, n2, n3]⟩ : Shape)) (hu : 0 < u.numel)
    (a : Fin n0) (b : Fin n1) (c : Fin n2) (d : Fin n3) :
    Host.reduceAdd (F := Ideal) (φ := .f32) x init h hu (ix4 a b c d)
      = init (Shape.Idx.first hu) + ∑ e : Fin n4, x (ix5 a b c d e) := by
  rw [Host.reduceAdd_apply, Ideal.hostReduceAdd_def, Ideal.hostReduceAdd_r5_a4]
  rfl
theorem ratio_sum (p : FVec Ideal S9x2x4096x4x4096 .f32) (b : Fin 9) (h : Fin 2) (t : Fin 4096) (g : Fin 4) :
    Host.reduceAdd (F := Ideal) (φ := .f32) p (constant S_ .f32 0x00000000#32) reducesTo_S9x2x4096x4x4096_S9x2x4096x4_d4 h_S_ (ix4 b h t g)
      = Ideal.ofBits .f32 0x00000000#32 + ∑ e : Fin 4096, p (ix5 b h t g e) :=
  sum_r5_a4 _ _ _ _ _ _ _ _
theorem ratio_apply (p : FVec Ideal S9x2x4096x4x4096 .f32) (v : FVec Ideal S9x4096x2x64 .f32) (vs : FVec Ideal S9x2x64 .f32)
    (b : Fin 9) (h : Fin 2) (t : Fin 4096) (g : Fin 4) (d : Fin 64) :
    ratio p v vs (ix5 b h t g d)
      = Ideal.div ((∑ s : Fin 4096, clip (p (ix5 b h t g s) * Ideal.ofBits .f32 0x43800000#32) * v (ix4 b s h d))
            * (Ideal.ofBits .f32 0x3B800000#32 * vs (ix3 b h d)))
          (Ideal.ofBits .f32 0x00000000#32 + ∑ e : Fin 4096, p (ix5 b h t g e)) := by
  unfold ratio
  refine (ratio_parts _ v vs _ b h t g d).trans ?_
  rw [ratio_sum]
  simp only [pcodes_apply]
theorem outOf_apply (o : FVec Ideal S9x2x4096x4x64 .f32) (b : Fin 9) (t : Fin 4096) (h : Fin 2) (g : Fin 4) (d : Fin 64) :
    outOf o (ix3 b t ⟨h.val * 256 + g.val * 64 + d.val, by omega⟩) = o (ix5 b h t g d) := by
  unfold outOf
  pointwise

end Cert.ReferenceIdeal.Attn

end
-- ==== Proof.Ref.StagesQ.lean ====
/-
  What the host operations that quantise the queries leave.
-/
module

public import proofs.«01_k».proof.Proof.Ref.Stages

@[expose] public section

set_option maxRecDepth 100000
set_option maxHeartbeats 2000000

noncomputable section

namespace Cert.ReferenceIdeal.Attn

open Cert.ReferenceIdeal Cert.ReferenceIdeal.Gen
open Idealize.ShloMosaic Idealize.ShloMosaic.TcCoe

variable {F : FTy → Type} [FloatOps F]
theorem q_exp (U : Valuation τ sig (Elt F)) :
    StableHlo.after qOps U (main_v16 : DevRef τ sig) = qExp (qLevel (qIn (U (main_arg0 : DevRef τ sig)))) := by
  simp only [qOps, hostOps0, hostOps0_1, hostOps0_2, hostOps0_3, List.flatten_cons, List.flatten_nil, List.append_nil, List.cons_append, List.nil_append]
  after_results
  rfl
theorem q_codes (U : Valuation τ sig (Elt F)) :
    StableHlo.after qOps U (main_v22 : DevRef τ sig)
      = qCodes (qIn (U (main_arg0 : DevRef τ sig))) (qExp (qLevel (qIn (U (main_arg0 : DevRef τ sig))))) := by
  simp only [qOps, hostOps0, hostOps0_1, hostOps0_2, hostOps0_3, List.flatten_cons, List.flatten_nil, List.append_nil, List.cons_append, List.nil_append]
  after_results
  rfl

theorem q_kept_arg1 (U : Valuation τ sig (Elt F)) :
    StableHlo.after qOps U (main_arg1 : DevRef τ sig) = U (main_arg1 : DevRef τ sig) := by
  simp only [qOps, hostOps0, hostOps0_1, hostOps0_2, hostOps0_3, List.flatten_cons, List.flatten_nil, List.append_nil, List.cons_append, List.nil_append]
  after_results

theorem q_kept_arg2 (U : Valuation τ sig (Elt F)) :
    StableHlo.after qOps U (main_arg2 : DevRef τ sig) = U (main_arg2 : DevRef τ sig) := by
  simp only [qOps, hostOps0, hostOps0_1, hostOps0_2, hostOps0_3, List.flatten_cons, List.flatten_nil, List.append_nil, List.cons_append, List.nil_append]
  after_results

end Cert.ReferenceIdeal.Attn

end
-- ==== Proof.Ref.StagesK.lean ====
/-
  What the host operations that quantise the keys leave.
-/
module

public import proofs.«01_k».proof.Proof.Ref.Stages

@[expose] public section

set_option maxRecDepth 100000
set_option maxHeartbeats 2000000

noncomputable section

namespace Cert.ReferenceIdeal.Attn

open Cert.ReferenceIdeal Cert.ReferenceIdeal.Gen
open Idealize.ShloMosaic Idealize.ShloMosaic.TcCoe

variable {F : FTy → Type} [FloatOps F]
theorem k_exp (U : Valuation τ sig (Elt F)) :
    StableHlo.after kOps U (main_v42 : DevRef τ sig) = kExp (kLevel (kIn (U (main_arg1 : DevRef τ sig)))) := by
  simp only [kOps, hostOps0_4, hostOps0_5, hostOps0_6, hostOps0_7, List.flatten_cons, List.flatten_nil, List.append_nil, List.cons_append, List.nil_append]
  after_results
  rfl
theorem k_codes (U : Valuation τ sig (Elt F)) :
    StableHlo.after kOps U (main_v48 : DevRef τ sig)
      = kCodes (kIn (U (main_arg1 : DevRef τ sig))) (kExp (kLevel (kIn (U (main_arg1 : DevRef τ sig))))) := by
  simp only [kOps, hostOps0_4, hostOps0_5, hostOps0_6, hostOps0_7, List.flatten_cons, List.flatten_nil, List.append_nil, List.cons_append, List.nil_append]
  after_results
  rfl

theorem k_kept_arg2 (U : Valuation τ sig (Elt F)) :
    StableHlo.after kOps U (main_arg2 : DevRef τ sig) = U (main_arg2 : DevRef τ sig) := by
  simp only [kOps, hostOps0_4, hostOps0_5, hostOps0_6, hostOps0_7, List.flatten_cons, List.flatten_nil, List.append_nil, List.cons_append, List.nil_append]
  after_results

theorem k_kept_v22 (U : Valuation τ sig (Elt F)) :
    StableHlo.after kOps U (main_v22 : DevRef τ sig) = U (main_v22 : DevRef τ sig) := by
  simp only [kOps, hostOps0_4, hostOps0_5, hostOps0_6, hostOps0_7, List.flatten_cons, List.flatten_nil, List.append_nil, List.cons_append, List.nil_append]
  after_results

theorem k_qscale (U : Valuation τ sig (Elt F)) :
    StableHlo.after kOps U (main_v25 : DevRef τ sig) = qScale (U (main_v16 : DevRef τ sig)) := by
  simp only [kOps, hostOps0_4, hostOps0_5, hostOps0_6, hostOps0_7, List.flatten_cons, List.flatten_nil, List.append_nil, List.cons_append, List.nil_append]
  after_results
  rfl

end Cert.ReferenceIdeal.Attn

end
-- ==== Proof.Ref.StagesV.lean ====
/-
  What the host operations that quantise the values leave.
-/
module

public import proofs.«01_k».proof.Proof.Ref.Stages

@[expose] public section

set_option maxRecDepth 100000
set_option maxHeartbeats 2000000

noncomputable section

namespace Cert.ReferenceIdeal.Attn

open Cert.ReferenceIdeal Cert.ReferenceIdeal.Gen
open Idealize.ShloMosaic Idealize.ShloMosaic.TcCoe

variable {F : FTy → Type} [FloatOps F]
theorem v_exp (U : Valuation τ sig (Elt F)) :
    StableHlo.after vOps U (main_v68 : DevRef τ sig) = vExp (vLevel (vIn (U (main_arg2 : DevRef τ sig)))) := by
  simp only [vOps, hostOps0_8, hostOps0_9, hostOps0_10, hostOps0_11, List.flatten_cons, List.flatten_nil, List.append_nil, List.cons_append, List.nil_append]
  after_results
  rfl
theorem v_codes (U : Valuation τ sig (Elt F)) :
    StableHlo.after vOps U (main_v74 : DevRef τ sig)
      = vCodes (vIn (U (main_arg2 : DevRef τ sig))) (vExp (vLevel (vIn (U (main_arg2 : DevRef τ sig))))) := by
  simp only [vOps, hostOps0_8, hostOps0_9, hostOps0_10, hostOps0_11, List.flatten_cons, List.flatten_nil, List.append_nil, List.cons_append, List.nil_append]
  after_results
  rfl

theorem v_kept_v22 (U : Valuation τ sig (Elt F)) :
    StableHlo.after vOps U (main_v22 : DevRef τ sig) = U (main_v22 : DevRef τ sig) := by
  simp only [vOps, hostOps0_8, hostOps0_9, hostOps0_10, hostOps0_11, List.flatten_cons, List.flatten_nil, List.append_nil, List.cons_append, List.nil_append]
  after_results

theorem v_kept_v25 (U : Valuation τ sig (Elt F)) :
    StableHlo.after vOps U (main_v25 : DevRef τ sig) = U (main_v25 : DevRef τ sig) := by
  simp only [vOps, hostOps0_8, hostOps0_9, hostOps0_10, hostOps0_11, List.flatten_cons, List.flatten_nil, List.append_nil, List.cons_append, List.nil_append]
  after_results

theorem v_kept_v48 (U : Valuation τ sig (Elt F)) :
    StableHlo.after vOps U (main_v48 : DevRef τ sig) = U (main_v48 : DevRef τ sig) := by
  simp only [vOps, hostOps0_8, hostOps0_9, hostOps0_10, hostOps0_11, List.flatten_cons, List.flatten_nil, List.append_nil, List.cons_append, List.nil_append]
  after_results

theorem v_kscale (U : Valuation τ sig (Elt F)) :
    StableHlo.after vOps U (main_v51 : DevRef τ sig) = kScale (U (main_v42 : DevRef τ sig)) := by
  simp only [vOps, hostOps0_8, hostOps0_9, hostOps0_10, hostOps0_11, List.flatten_cons, List.flatten_nil, List.append_nil, List.cons_append, List.nil_append]
  after_results
  rfl

end Cert.ReferenceIdeal.Attn

end
-- ==== Proof.Ref.StagesD.lean ====
/-
  What the host operations of the attention leave.
-/
module

public import proofs.«01_k».proof.Proof.Ref.Stages

@[expose] public section

set_option maxRecDepth 100000
set_option maxHeartbeats 2000000

noncomputable section

namespace Cert.ReferenceIdeal.Attn

open Cert.ReferenceIdeal Cert.ReferenceIdeal.Gen
open Idealize.ShloMosaic Idealize.ShloMosaic.TcCoe

variable {F : FTy → Type} [FloatOps F]
theorem d_out (U : Valuation τ sig (Elt F)) :
    StableHlo.after dOps U (main_v109 : DevRef τ sig)
      = outOf (ratio (probs (scores (U (main_v22 : DevRef τ sig)) (U (main_v25 : DevRef τ sig)) (U (main_v48 : DevRef τ sig))
          (U (main_v51 : DevRef τ sig)))) (U (main_v74 : DevRef τ sig)) (vScale (U (main_v68 : DevRef τ sig)))) := by
  simp only [dOps, hostOps0_12, hostOps0_13, hostOps0_14, List.flatten_cons, List.flatten_nil, List.append_nil, List.cons_append, List.nil_append]
  after_results
  rfl
theorem d_q (U : Valuation τ sig (Elt F)) :
    StableHlo.after dOps U (main_v110 : DevRef τ sig) = shapeCast S9x4096x512 (U (main_v22 : DevRef τ sig)) shapeCasts_S9x4096x2x4x64_S9x4096x512 := by
  simp only [dOps, hostOps0_12, hostOps0_13, hostOps0_14, List.flatten_cons, List.flatten_nil, List.append_nil, List.cons_append, List.nil_append]
  after_results
  rfl
theorem d_k (U : Valuation τ sig (Elt F)) :
    StableHlo.after dOps U (main_v111 : DevRef τ sig) = shapeCast S9x4096x128 (U (main_v48 : DevRef τ sig)) shapeCasts_S9x4096x2x64_S9x4096x128 := by
  simp only [dOps, hostOps0_12, hostOps0_13, hostOps0_14, List.flatten_cons, List.flatten_nil, List.append_nil, List.cons_append, List.nil_append]
  after_results
  rfl
theorem d_v (U : Valuation τ sig (Elt F)) :
    StableHlo.after dOps U (main_v112 : DevRef τ sig) = shapeCast S9x4096x128 (U (main_v74 : DevRef τ sig)) shapeCasts_S9x4096x2x64_S9x4096x128 := by
  simp only [dOps, hostOps0_12, hostOps0_13, hostOps0_14, List.flatten_cons, List.flatten_nil, List.append_nil, List.cons_append, List.nil_append]
  after_results
  rfl
theorem d_qs (U : Valuation τ sig (Elt F)) :
    StableHlo.after dOps U (main_v113 : DevRef τ sig) = shapeCast S9x4096x8 (U (main_v25 : DevRef τ sig)) shapeCasts_S9x4096x2x4_S9x4096x8 := by
  simp only [dOps, hostOps0_12, hostOps0_13, hostOps0_14, List.flatten_cons, List.flatten_nil, List.append_nil, List.cons_append, List.nil_append]
  after_results
  rfl
theorem d_ks (U : Valuation τ sig (Elt F)) :
    StableHlo.after dOps U (main_v51 : DevRef τ sig) = U (main_v51 : DevRef τ sig) := by
  simp only [dOps, hostOps0_12, hostOps0_13, hostOps0_14, List.flatten_cons, List.flatten_nil, List.append_nil, List.cons_append, List.nil_append]
  after_results
theorem d_vs (U : Valuation τ sig (Elt F)) :
    StableHlo.after dOps U (main_v114 : DevRef τ sig)
      = shapeCast S9x1x128 (vScale (U (main_v68 : DevRef τ sig))) shapeCasts_S9x2x64_S9x1x128 := by
  simp only [dOps, hostOps0_12, hostOps0_13, hostOps0_14, List.flatten_cons, List.flatten_nil, List.append_nil, List.cons_append, List.nil_append]
  after_results
  rfl

end Cert.ReferenceIdeal.Attn

end
-- ==== Proof.Ref.StagesU.lean ====
/-
  The buffers that the attention reads and those that the results come from, as functions of the arguments.
-/
module

public import proofs.«01_k».proof.Proof.Ref.StagesQ
public import proofs.«01_k».proof.Proof.Ref.StagesK
public import proofs.«01_k».proof.Proof.Ref.StagesV
public import proofs.«01_k».proof.Proof.Ref.StagesD

@[expose] public section

set_option maxRecDepth 100000
set_option maxHeartbeats 2000000

noncomputable section

namespace Cert.ReferenceIdeal.Attn

open Cert.ReferenceIdeal Cert.ReferenceIdeal.Gen
open Idealize.ShloMosaic Idealize.ShloMosaic.TcCoe

variable {F : FTy → Type} [FloatOps F]
/-! ## From the arguments -/

variable (m : (ℓ : Loc nD τ sig) → Buf (Elt F) ℓ)

/-- The exponents and codes as functions of the arguments. -/
def qE (x : FVec F S9x4096x512 .bf16) := qExp (qLevel (qIn x))
def kE (x : FVec F S9x4096x128 .bf16) := kExp (kLevel (kIn x))
def vE (x : FVec F S9x4096x128 .bf16) := vExp (vLevel (vIn x))
def qC (x : FVec F S9x4096x512 .bf16) := qCodes (qIn x) (qE x)
def kC (x : FVec F S9x4096x128 .bf16) := kCodes (kIn x) (kE x)
def vC (x : FVec F S9x4096x128 .bf16) := vCodes (vIn x) (vE x)

/-- The buffers when the attention starts. -/
abbrev U0 (c : Dev nD) : Valuation τ sig (Elt F) :=
  StableHlo.after vOps (StableHlo.after kOps (StableHlo.after qOps (fun b => m (c, b))))

theorem after_app (l₁ l₂ : List (HloOp τ sig (Elt F))) (U : Valuation τ sig (Elt F)) :
    StableHlo.after (l₁ ++ l₂) U = StableHlo.after l₂ (StableHlo.after l₁ U) := by
  induction l₁ generalizing U with
  | nil => rfl
  | cons op l ih => rw [List.cons_append, StableHlo.after_cons, StableHlo.after_cons, ih]

theorem V_split (c : Dev nD) (b : Ref sig .tc) : V m c b = StableHlo.after dOps (U0 m c) (b : DevRef τ sig) := by
  have e : (List.flatten [hostOps0, hostOps0_1, hostOps0_2, hostOps0_3, hostOps0_4, hostOps0_5, hostOps0_6, hostOps0_7, hostOps0_8,
      hostOps0_9, hostOps0_10, hostOps0_11, hostOps0_12, hostOps0_13, hostOps0_14] : List (HloOp τ sig (Elt F)))
      = qOps ++ (kOps ++ (vOps ++ dOps)) := by
    simp only [qOps, kOps, vOps, dOps, List.flatten_cons, List.flatten_nil, List.append_nil, List.append_assoc]
  rw [V, e, after_app, after_app, after_app]

theorem U0_v22 (c : Dev nD) : U0 m c (main_v22 : DevRef τ sig) = qC (m (c, (main_arg0 : DevRef τ sig))) := by
  rw [U0, v_kept_v22, k_kept_v22, q_codes]; rfl
theorem U0_v25 (c : Dev nD) : U0 m c (main_v25 : DevRef τ sig) = qScale (qE (m (c, (main_arg0 : DevRef τ sig)))) := by
  rw [U0, v_kept_v25, k_qscale, q_exp]; rfl
theorem U0_v48 (c : Dev nD) : U0 m c (main_v48 : DevRef τ sig) = kC (m (c, (main_arg1 : DevRef τ sig))) := by
  rw [U0, v_kept_v48, k_codes, q_kept_arg1]; rfl
theorem U0_v51 (c : Dev nD) : U0 m c (main_v51 : DevRef τ sig) = kScale (kE (m (c, (main_arg1 : DevRef τ sig)))) := by
  rw [U0, v_kscale, k_exp, q_kept_arg1]; rfl
theorem U0_v74 (c : Dev nD) : U0 m c (main_v74 : DevRef τ sig) = vC (m (c, (main_arg2 : DevRef τ sig))) := by
  rw [U0, v_codes, k_kept_arg2, q_kept_arg2]; rfl
theorem U0_v68 (c : Dev nD) : U0 m c (main_v68 : DevRef τ sig) = vE (m (c, (main_arg2 : DevRef τ sig))) := by
  rw [U0, v_exp, k_kept_arg2, q_kept_arg2]; rfl

end Cert.ReferenceIdeal.Attn

end
-- ==== Proof.Ref.Run.lean ====
/- The reference's run: what each of its results ends as, as a function of its arguments. -/
module

public import proofs.«01_k».proof.Proof.Ref.StagesU
public import proofs.«01_k».proof.Proof.Gen.ReferenceIdeal.Value
public import Idealize.ShloMosaic.Lib.Pipeline.ValueKit
public import Idealize.ShloMosaic.Lib.Pointwise

@[expose] public section

set_option maxRecDepth 16384

noncomputable section

namespace Cert.ReferenceIdeal.Attn

open Cert.ReferenceIdeal Cert.ReferenceIdeal.Gen Cert.ReferenceIdeal.Value
open Idealize.ShloMosaic Idealize.ShloMosaic.TcCoe Idealize.ShloMosaic.Tactic Idealize.SL.Sem

variable (m : (ℓ : Loc nD τ sig) → Buf (Elt Ideal) ℓ) (ρ : Dev nD → PrngReg)

/-! ## The results as functions of the arguments -/

def out (a0 : FVec Ideal S9x4096x512 .bf16) (a1 a2 : FVec Ideal S9x4096x128 .bf16) : FVec Ideal S9x4096x512 .bf16 :=
  outOf (ratio (probs (scores (qC a0) (qScale (qE a0)) (kC a1) (kScale (kE a1)))) (vC a2) (vScale (vE a2)))
def codes (a0 : FVec Ideal S9x4096x512 .bf16) : FVec Ideal S9x4096x512 .f32 := shapeCast S9x4096x512 (qC a0) shapeCasts_S9x4096x2x4x64_S9x4096x512
def scales (a0 : FVec Ideal S9x4096x512 .bf16) : FVec Ideal S9x4096x8 .f32 := shapeCast S9x4096x8 (qScale (qE a0)) shapeCasts_S9x4096x2x4_S9x4096x8
def kcodes (a1 : FVec Ideal S9x4096x128 .bf16) : FVec Ideal S9x4096x128 .f32 := shapeCast S9x4096x128 (kC a1) shapeCasts_S9x4096x2x64_S9x4096x128
def vcodes (a2 : FVec Ideal S9x4096x128 .bf16) : FVec Ideal S9x4096x128 .f32 := shapeCast S9x4096x128 (vC a2) shapeCasts_S9x4096x2x64_S9x4096x128
def kscales (a1 : FVec Ideal S9x4096x128 .bf16) : FVec Ideal S9x4096x2 .f32 := kScale (kE a1)
def vscales (a2 : FVec Ideal S9x4096x128 .bf16) : FVec Ideal S9x1x128 .f32 := shapeCast S9x1x128 (vScale (vE a2)) shapeCasts_S9x2x64_S9x1x128

theorem V_out (c : Dev nD) : V m c main_v109 = out (m ((c : Thread nD τ).loc main_arg0)) (m ((c : Thread nD τ).loc main_arg1)) (m ((c : Thread nD τ).loc main_arg2)) := by
  rw [V_split, d_out, U0_v22, U0_v25, U0_v48, U0_v51, U0_v74, U0_v68]; rfl
theorem V_codes (c : Dev nD) : V m c main_v110 = codes (m ((c : Thread nD τ).loc main_arg0)) := by
  rw [V_split, d_q, U0_v22]; rfl
theorem V_kcodes (c : Dev nD) : V m c main_v111 = kcodes (m ((c : Thread nD τ).loc main_arg1)) := by
  rw [V_split, d_k, U0_v48]; rfl
theorem V_vcodes (c : Dev nD) : V m c main_v112 = vcodes (m ((c : Thread nD τ).loc main_arg2)) := by
  rw [V_split, d_v, U0_v74]; rfl
theorem V_scales (c : Dev nD) : V m c main_v113 = scales (m ((c : Thread nD τ).loc main_arg0)) := by
  rw [V_split, d_qs, U0_v25]; rfl
theorem V_kscales (c : Dev nD) : V m c main_v51 = kscales (m ((c : Thread nD τ).loc main_arg1)) := by
  rw [V_split, d_ks, U0_v51]; rfl
theorem V_vscales (c : Dev nD) : V m c main_v114 = vscales (m ((c : Thread nD τ).loc main_arg2)) := by
  rw [V_split, d_vs, U0_v68]; rfl

/-! ## The cast call: its one point takes the whole arrays -/

theorem idx_0 : ∀ (t : Fin grid0.N) (a : Fin 3), win0_0.index t a = 0 := by decide +kernel
theorem idx_3 : ∀ (t : Fin grid0.N) (a : Fin 3), win0_3.index t a = 0 := by decide +kernel
theorem iblk0_apply (c : Dev nD) (t : Fin cfg0.N) (y : S9x4096x512.Idx) : iblk m c 0 t y = V m c main_v110 y := by
  unfold iblk
  blk_simp
  refine congrArg (V m c main_v110) (funext fun a => Fin.ext ?_)
  match a with
  | ⟨0, _⟩ => blk_simp <;> simp <;> exact idx_0 t 0
  | ⟨1, _⟩ => blk_simp <;> simp <;> exact idx_0 t 1
  | ⟨2, _⟩ => blk_simp <;> simp <;> exact idx_0 t 2
theorem arr_3 (c : Dev nD) : (dats m 0 c).arrAt 3 cfg0.N = fun z => V m c main_v110 z := by
  refine (dats m 0 c).arrAt_eq_of_covers 3 _ (by decide +kernel) fun t hf y => ?_
  blk_simp
  rw [after0_3]
  have e : (((win0_3.blk t).view.emb y) : S9x4096x512.Idx) = y := by
    refine funext fun a => Fin.ext ?_
    match a with
    | ⟨0, _⟩ => blk_simp <;> simp <;> exact idx_3 t 0
    | ⟨1, _⟩ => blk_simp <;> simp <;> exact idx_3 t 1
    | ⟨2, _⟩ => blk_simp <;> simp <;> exact idx_3 t 2
  rw [e, out0_3]
  refine (canon3_eq _ y).trans ((iblk0_apply m c t _).trans (congrArg (V m c main_v110) (funext fun a => Fin.ext ?_)))
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem idx_1 : ∀ (t : Fin grid0.N) (a : Fin 3), win0_1.index t a = 0 := by decide +kernel
theorem idx_4 : ∀ (t : Fin grid0.N) (a : Fin 3), win0_4.index t a = 0 := by decide +kernel
theorem iblk1_apply (c : Dev nD) (t : Fin cfg0.N) (y : S9x4096x128.Idx) : iblk m c 1 t y = V m c main_v111 y := by
  unfold iblk
  blk_simp
  refine congrArg (V m c main_v111) (funext fun a => Fin.ext ?_)
  match a with
  | ⟨0, _⟩ => blk_simp <;> simp <;> exact idx_1 t 0
  | ⟨1, _⟩ => blk_simp <;> simp <;> exact idx_1 t 1
  | ⟨2, _⟩ => blk_simp <;> simp <;> exact idx_1 t 2
theorem arr_4 (c : Dev nD) : (dats m 0 c).arrAt 4 cfg0.N = fun z => V m c main_v111 z := by
  refine (dats m 0 c).arrAt_eq_of_covers 4 _ (by decide +kernel) fun t hf y => ?_
  blk_simp
  rw [after0_4]
  have e : (((win0_4.blk t).view.emb y) : S9x4096x128.Idx) = y := by
    refine funext fun a => Fin.ext ?_
    match a with
    | ⟨0, _⟩ => blk_simp <;> simp <;> exact idx_4 t 0
    | ⟨1, _⟩ => blk_simp <;> simp <;> exact idx_4 t 1
    | ⟨2, _⟩ => blk_simp <;> simp <;> exact idx_4 t 2
  rw [e, out0_4]
  refine (canon4_eq _ y).trans ((iblk1_apply m c t _).trans (congrArg (V m c main_v111) (funext fun a => Fin.ext ?_)))
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem idx_2 : ∀ (t : Fin grid0.N) (a : Fin 3), win0_2.index t a = 0 := by decide +kernel
theorem idx_5 : ∀ (t : Fin grid0.N) (a : Fin 3), win0_5.index t a = 0 := by decide +kernel
theorem iblk2_apply (c : Dev nD) (t : Fin cfg0.N) (y : S9x4096x128.Idx) : iblk m c 2 t y = V m c main_v112 y := by
  unfold iblk
  blk_simp
  refine congrArg (V m c main_v112) (funext fun a => Fin.ext ?_)
  match a with
  | ⟨0, _⟩ => blk_simp <;> simp <;> exact idx_2 t 0
  | ⟨1, _⟩ => blk_simp <;> simp <;> exact idx_2 t 1
  | ⟨2, _⟩ => blk_simp <;> simp <;> exact idx_2 t 2
theorem arr_5 (c : Dev nD) : (dats m 0 c).arrAt 5 cfg0.N = fun z => V m c main_v112 z := by
  refine (dats m 0 c).arrAt_eq_of_covers 5 _ (by decide +kernel) fun t hf y => ?_
  blk_simp
  rw [after0_5]
  have e : (((win0_5.blk t).view.emb y) : S9x4096x128.Idx) = y := by
    refine funext fun a => Fin.ext ?_
    match a with
    | ⟨0, _⟩ => blk_simp <;> simp <;> exact idx_5 t 0
    | ⟨1, _⟩ => blk_simp <;> simp <;> exact idx_5 t 1
    | ⟨2, _⟩ => blk_simp <;> simp <;> exact idx_5 t 2
  rw [e, out0_5]
  refine (canon5_eq _ y).trans ((iblk2_apply m c t _).trans (congrArg (V m c main_v112) (funext fun a => Fin.ext ?_)))
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The reference's run: its results, and its arguments unchanged. -/
theorem run : θ_run defs (onTc (τ := τ) (main (F := Ideal))) ⟨m, fun _ => 0, ρ⟩ (fun r => ∀ c : Dev nD,
      r.2.mem ((c.tc : Thread nD τ).loc main_v109) = out (m ((c : Thread nD τ).loc main_arg0)) (m ((c : Thread nD τ).loc main_arg1)) (m ((c : Thread nD τ).loc main_arg2))
      ∧ r.2.mem ((c.tc : Thread nD τ).loc main_v115_0) = codes (m ((c : Thread nD τ).loc main_arg0))
      ∧ r.2.mem ((c.tc : Thread nD τ).loc main_v113) = scales (m ((c : Thread nD τ).loc main_arg0))
      ∧ r.2.mem ((c.tc : Thread nD τ).loc main_v115_1) = kcodes (m ((c : Thread nD τ).loc main_arg1))
      ∧ r.2.mem ((c.tc : Thread nD τ).loc main_v51) = kscales (m ((c : Thread nD τ).loc main_arg1))
      ∧ r.2.mem ((c.tc : Thread nD τ).loc main_v115_2) = vcodes (m ((c : Thread nD τ).loc main_arg2))
      ∧ r.2.mem ((c.tc : Thread nD τ).loc main_v114) = vscales (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨
    ((h c).2 main_v109 (Pipeline.mem_restRefs_of main_v109 (by decide) (by decide))).trans (V_out m c),
    (post3 m r h c).trans ((arr_3 m c).trans (V_codes m c)),
    ((h c).2 main_v113 (Pipeline.mem_restRefs_of main_v113 (by decide) (by decide))).trans (V_scales m c),
    (post4 m r h c).trans ((arr_4 m c).trans (V_kcodes m c)),
    ((h c).2 main_v51 (Pipeline.mem_restRefs_of main_v51 (by decide) (by decide))).trans (V_kscales m c),
    (post5 m r h c).trans ((arr_5 m c).trans (V_vcodes m c)),
    ((h c).2 main_v114 (Pipeline.mem_restRefs_of main_v114 (by decide) (by decide))).trans (V_vscales m c),
    kept_main_arg0 m r h c, kept_main_arg1 m r h c, kept_main_arg2 m r h c⟩) (run_main m ρ)

end Cert.ReferenceIdeal.Attn

end
-- ==== Proof.EqA.lean ====
/-
  THE QUANTISERS AGREE: the reference's codes and scales, which take a power of two by the logarithm, are the kernel's, which search
  for it in the bits, at every element of finite arguments; and codes are real numbers, scales positive ones.
-/
module

public import proofs.«01_k».proof.Proof.Attn.Real
public import proofs.«01_k».proof.Proof.KernelIdeal.Run
public import proofs.«01_k».proof.Proof.Ref.AtB
public import proofs.«01_k».proof.Proof.Ref.Run

@[expose] public section

set_option maxRecDepth 16384

noncomputable section

namespace Cert.Equal

open Idealize.ShloMosaic Idealize.ShloMosaic.TcCoe
open Cert.KernelIdeal Cert.KernelIdeal.Gen Cert.KernelIdeal.Attn
open Cert.ReferenceIdeal.Attn (qIn qLevel qExp qScale qCodes kIn kLevel kExp kScale kCodes vIn vLevel vExp vScale vCodes qE kE vE qC kC vC
  qIn_apply qLevel_apply qExp_apply qScale_apply qCodes_apply kIn_apply kLevel_apply kExp_apply kScale_apply kCodes_apply
  vIn_apply vLevel_apply vExp_apply vScale_apply vCodes_apply)

variable (m : (ℓ : Loc nD τ sig) → Buf (Elt Ideal) ℓ) (c : Dev nD)

/-- The arguments. -/
abbrev a0 : FVec Ideal S9x4096x512 .bf16 := m ((c : Thread nD τ).loc main_arg0)
abbrev a1 : FVec Ideal S9x4096x128 .bf16 := m ((c : Thread nD τ).loc main_arg1)
abbrev a2 : FVec Ideal S9x4096x128 .bf16 := m ((c : Thread nD τ).loc main_arg2)

theorem ix3_ext {n0 n1 n2 : ℕ} {a a' : Fin n0} {b b' : Fin n1} {d d' : Fin n2} (h0 : a.val = a'.val) (h1 : b.val = b'.val) (h2 : d.val = d'.val) :
    ix3 a b d = ix3 a' b' d' := by
  obtain rfl := Fin.ext h0
  obtain rfl := Fin.ext h1
  obtain rfl := Fin.ext h2
  rfl

/-! ## The blocks -/

/-- The query block, the key block and the value block of a token. -/
abbrev X (b s : ℕ) : ℕ → ℕ → EReal := xOf (iblk m c 0 (pt b (s / 512)))
abbrev K (b n : ℕ) : ℕ → ℕ → EReal := kvOf (iblk m c 1 (pt b n))
abbrev W (b n : ℕ) : ℕ → ℕ → EReal := kvOf (iblk m c 2 (pt b n))

theorem X_eq (b : Fin 9) (s : Fin 4096) (l : Fin 512) : X m c b s (s % 512) l = a0 m c (ix3 b s l) := by
  have hb := b.isLt
  have hs := s.isLt
  unfold X xOf
  rw [dif_pos ⟨Nat.mod_lt _ (by norm_num), l.isLt⟩]
  refine (iblk0_apply m c _ _).trans (congrArg (a0 m c) (ix3_ext ?_ ?_ rfl))
  · show (8 * b.val + s.val / 512) % 72 / 8 = b.val
    omega
  · show 512 * ((8 * b.val + s.val / 512) % 72 % 8) + s.val % 512 = s.val
    omega
theorem K_eq (b : Fin 9) (n : ℕ) (hn : n < 8) (s : Fin 4096) (l : Fin 128) : K m c b n s l = a1 m c (ix3 b s l) := by
  have hb := b.isLt
  unfold K kvOf
  rw [dif_pos ⟨s.isLt, l.isLt⟩]
  refine (iblk1_apply m c _ _).trans (congrArg (a1 m c) (ix3_ext ?_ rfl rfl))
  show (8 * b.val + n) % 72 / 8 = b.val
  omega
theorem W_eq (b : Fin 9) (n : ℕ) (hn : n < 8) (s : Fin 4096) (l : Fin 128) : W m c b n s l = a2 m c (ix3 b s l) := by
  have hb := b.isLt
  unfold W kvOf
  rw [dif_pos ⟨s.isLt, l.isLt⟩]
  refine (iblk2_apply m c _ _).trans (congrArg (a2 m c) (ix3_ext ?_ rfl rfl))
  show (8 * b.val + n) % 72 / 8 = b.val
  omega

/-- The group of queries, of keys and of values that share a scale. -/
abbrev gq (b : Fin 9) (s : Fin 4096) (k : Fin 2) (g : Fin 4) : Fin 64 → EReal := fun e => a0 m c (ix3 b s ⟨k.val * 256 + g.val * 64 + e.val, by omega⟩)
abbrev gk (b : Fin 9) (s : Fin 4096) (k : Fin 2) : Fin 64 → EReal := fun e => a1 m c (ix3 b s ⟨k.val * 64 + e.val, by omega⟩)
abbrev gv (b : Fin 9) (k : Fin 2) (d : Fin 64) : Fin 4096 → EReal := fun e => a2 m c (ix3 b e ⟨k.val * 64 + d.val, by omega⟩)

theorem X_group (b : Fin 9) (s : Fin 4096) (k : Fin 2) (g : Fin 4) (h : ℕ) (hh : h = 4 * k.val + g.val) :
    (fun l : Fin 64 => X m c b s (s % 512) (64 * h + l)) = gq m c b s k g := by
  funext l
  have e : 64 * h + l.val = ((⟨k.val * 256 + g.val * 64 + l.val, by omega⟩ : Fin 512) : ℕ) := by
    show _ = k.val * 256 + g.val * 64 + l.val
    omega
  rw [e]
  exact X_eq m c b s _
theorem K_group (b : Fin 9) (n : ℕ) (hn : n < 8) (s : Fin 4096) (k : Fin 2) (h : ℕ) (hh : h = k.val) :
    (fun l : Fin 64 => K m c b n s (64 * h + l)) = gk m c b s k := by
  funext l
  have e : 64 * h + l.val = ((⟨k.val * 64 + l.val, by omega⟩ : Fin 128) : ℕ) := by
    show _ = k.val * 64 + l.val
    omega
  rw [e]
  exact K_eq m c b n hn s _
theorem W_group (b : Fin 9) (n : ℕ) (hn : n < 8) (k : Fin 2) (d : Fin 64) :
    (fun s : Fin 4096 => W m c b n s (k.val * 64 + d.val)) = gv m c b k d := by
  funext s
  exact W_eq m c b n hn s ⟨k.val * 64 + d.val, by omega⟩

/-! ## The codes and the scales -/

section Finite
variable (h0 : ∀ i, Small (a0 m c i)) (h1 : ∀ i, Small (a1 m c i)) (h2 : ∀ i, Small (a2 m c i))
include h0 in
theorem qS_eq (b : Fin 9) (s : Fin 4096) (k : Fin 2) (g : Fin 4) :
    qScale (qE (a0 m c)) (ix4 b s k g) = scalesOf (X m c b s) (s % 512) (4 * k + g) := by
  unfold scalesOf qE
  rw [X_group m c b s k g _ rfl, qScale_apply, qExp_apply, qLevel_apply]
  simp only [qIn_apply]
  obtain ⟨e, -, -, h, -⟩ := scale_level (gq m c b s k g) fun _ => h0 _
  exact h
include h0 in
theorem qC_eq (b : Fin 9) (s : Fin 4096) (k : Fin 2) (g : Fin 4) (d : Fin 64) :
    qC (a0 m c) (ix5 b s k g d) = codesOf (X m c b s) (s % 512) (k.val * 256 + g.val * 64 + d.val) := by
  unfold codesOf qC qE
  rw [X_group m c b s k g _ (by omega), qCodes_apply, qExp_apply, qLevel_apply]
  simp only [qIn_apply]
  obtain ⟨e, -, -, -, h⟩ := scale_level (gq m c b s k g) fun _ => h0 _
  rw [X_eq m c b s ⟨k.val * 256 + g.val * 64 + d.val, by omega⟩]
  exact congrArg (fun z => clip (a0 m c _ * z)) h
include h1 in
theorem kS_eq (b : Fin 9) (n : ℕ) (hn : n < 8) (s : Fin 4096) (k : Fin 2) :
    kScale (kE (a1 m c)) (ix3 b s k) = scalesOf (K m c b n) s k := by
  unfold scalesOf kE
  rw [K_group m c b n hn s k _ rfl, kScale_apply, kExp_apply, kLevel_apply]
  simp only [kIn_apply]
  obtain ⟨e, -, -, h, -⟩ := scale_level (gk m c b s k) fun _ => h1 _
  exact h
include h1 in
theorem kC_eq (b : Fin 9) (n : ℕ) (hn : n < 8) (s : Fin 4096) (k : Fin 2) (d : Fin 64) :
    kC (a1 m c) (ix4 b s k d) = codesOf (K m c b n) s (k.val * 64 + d.val) := by
  unfold codesOf kC kE
  rw [K_group m c b n hn s k _ (by omega), kCodes_apply, kExp_apply, kLevel_apply]
  simp only [kIn_apply]
  obtain ⟨e, -, -, -, h⟩ := scale_level (gk m c b s k) fun _ => h1 _
  rw [K_eq m c b n hn s ⟨k.val * 64 + d.val, by omega⟩]
  exact congrArg (fun z => clip (a1 m c _ * z)) h
include h2 in
theorem vS_eq (b : Fin 9) (n : ℕ) (hn : n < 8) (k : Fin 2) (d : Fin 64) :
    vScale (vE (a2 m c)) (ix3 b k d) = vScaleOf (W m c b n) (k.val * 64 + d.val) := by
  unfold vScaleOf vE
  rw [W_group m c b n hn k d, vScale_apply, vExp_apply, vLevel_apply]
  simp only [vIn_apply]
  obtain ⟨e, -, -, h, -⟩ := scale_level (gv m c b k d) fun _ => h2 _
  exact h
include h2 in
theorem vC_eq (b : Fin 9) (n : ℕ) (hn : n < 8) (s : Fin 4096) (k : Fin 2) (d : Fin 64) :
    vC (a2 m c) (ix4 b s k d) = vCodesOf (W m c b n) s (k.val * 64 + d.val) := by
  unfold vCodesOf vC vE
  rw [W_group m c b n hn k d, vCodes_apply, vExp_apply, vLevel_apply]
  simp only [vIn_apply]
  obtain ⟨e, -, -, -, h⟩ := scale_level (gv m c b k d) fun _ => h2 _
  rw [W_eq m c b n hn s ⟨k.val * 64 + d.val, by omega⟩]
  exact congrArg (fun z => clip (a2 m c _ * z)) h

/-! ## They are real numbers -/

theorem code_real {n : ℕ} [NeZero n] (f : Fin n → EReal) (hf : ∀ i, Small (f i)) (x : EReal) (hx : Small x) :
    ∃ r : ℝ, clip (x * invOf (level f)) = (r : EReal) := by
  obtain ⟨e, -, h, -⟩ := scale_level f hf
  obtain ⟨r, rfl, -⟩ := hx
  rw [h, ← EReal.coe_mul]
  exact clip_real _
include h0 in
theorem qC_real (b : Fin 9) (s : Fin 4096) (k : Fin 2) (g : Fin 4) (d : Fin 64) :
    ∃ r : ℝ, codesOf (X m c b s) (s % 512) (k.val * 256 + g.val * 64 + d.val) = (r : EReal) := by
  unfold codesOf
  rw [X_group m c b s k g _ (by omega), X_eq m c b s ⟨k.val * 256 + g.val * 64 + d.val, by omega⟩]
  exact code_real _ (fun _ => h0 _) _ (h0 _)
include h1 in
theorem kC_real (b : Fin 9) (n : ℕ) (hn : n < 8) (s : Fin 4096) (k : Fin 2) (d : Fin 64) :
    ∃ r : ℝ, codesOf (K m c b n) s (k.val * 64 + d.val) = (r : EReal) := by
  unfold codesOf
  rw [K_group m c b n hn s k _ (by omega), K_eq m c b n hn s ⟨k.val * 64 + d.val, by omega⟩]
  exact code_real _ (fun _ => h1 _) _ (h1 _)
include h0 in
theorem qS_real (b : Fin 9) (s : Fin 4096) (k : Fin 2) (g : Fin 4) :
    ∃ r : ℝ, 0 < r ∧ scalesOf (X m c b s) (s % 512) (4 * k + g) = (r : EReal) := by
  unfold scalesOf
  rw [X_group m c b s k g _ rfl]
  obtain ⟨e, h, -⟩ := scale_level (gq m c b s k g) fun _ => h0 _
  exact ⟨2 ^ e, by positivity, h⟩
include h1 in
theorem kS_real (b : Fin 9) (n : ℕ) (hn : n < 8) (s : Fin 4096) (k : Fin 2) :
    ∃ r : ℝ, scalesOf (K m c b n) s k = (r : EReal) := by
  unfold scalesOf
  rw [K_group m c b n hn s k _ rfl]
  obtain ⟨e, h, -⟩ := scale_level (gk m c b s k) fun _ => h1 _
  exact ⟨2 ^ e, h⟩
end Finite

end Cert.Equal

end
-- ==== Proof.EqB.lean ====
/-
  THE ATTENTIONS AGREE: the kernel's score is a product over 128 lanes of which 64 hold zeros, its scales are taken after the maximum and
  its exponential is to base 2; at finite arguments this is the reference's softmax, and so its output.
-/
module

public import proofs.«01_k».proof.Proof.EqA

@[expose] public section

set_option maxRecDepth 16384

noncomputable section

namespace Cert.Equal

open Idealize.ShloMosaic Idealize.ShloMosaic.TcCoe
open Cert.KernelIdeal Cert.KernelIdeal.Gen Cert.KernelIdeal.Attn
open Cert.ReferenceIdeal.Attn (scores probs ratio outOf qScale kScale vScale qE kE vE qC kC vC scores_apply probs_apply ratio_apply outOf_apply)

variable (m : (ℓ : Loc nD τ sig) → Buf (Elt Ideal) ℓ) (c : Dev nD)

/-- Lanes that hold zeros contribute nothing. -/
theorem sum_lanes (p : ℕ) (hp : p < 2) (f g : ℕ → EReal) :
    (∑ l : Fin 128, (if l.val / 64 = p then f (l.val % 64) else 0) * g l.val) = ∑ d : Fin 64, g (64 * p + d.val) * f d.val := by
  rw [show (∑ l : Fin 128, (if l.val / 64 = p then f (l.val % 64) else 0) * g l.val)
      = ∑ l : Fin (64 + 64), (if l.val / 64 = p then f (l.val % 64) else 0) * g l.val from rfl, Fin.sum_univ_add]
  have e1 : ∀ d : Fin 64, (Fin.castAdd 64 d).val / 64 = 0 := fun d => by
    show d.val / 64 = 0
    omega
  have e2 : ∀ d : Fin 64, (Fin.natAdd 64 d).val / 64 = 1 := fun d => by
    show (64 + d.val) / 64 = 1
    omega
  have e3 : ∀ d : Fin 64, (Fin.castAdd 64 d).val % 64 = d.val := fun d => by
    show d.val % 64 = d.val
    omega
  have e4 : ∀ d : Fin 64, (Fin.natAdd 64 d).val % 64 = d.val := fun d => by
    show (64 + d.val) % 64 = d.val
    omega
  simp only [e1, e2, e3, e4]
  obtain rfl | rfl : p = 0 ∨ p = 1 := by omega
  · simp [mul_comm]
  · simp [mul_comm, add_comm]

theorem sum_real {n : ℕ} (f : Fin n → EReal) (g : Fin n → ℝ) (h : ∀ i, f i = (g i : EReal)) : (∑ i, f i) = ((∑ i, g i : ℝ) : EReal) := by
  rw [Finset.sum_congr rfl fun i _ => h i]
  induction (Finset.univ : Finset (Fin n)) using Finset.induction_on with
  | empty => simp
  | insert a s ha ih => rw [Finset.sum_insert ha, Finset.sum_insert ha, ih, EReal.coe_add]

/-- The arrays of a batch, as the point of token `t` finds them. -/
abbrev B (b t : ℕ) : Bufs := bufs (iblk m c 0 (pt b (t / 512))) (iblk m c 1 (pt b (t / 512))) (iblk m c 2 (pt b (t / 512)))

/-- The score over the 64 lanes of a head. -/
theorem score_eq (b t s h g tt : ℕ) (hh : h < 2) (hg : g < 4) (hs : s < 4096) (ht : tt = t % 512 % 256) :
    score (B m c b t) (2 * (4 * h + g) + t % 512 / 256) s tt
      = (∑ d : Fin 64, codesOf (X m c b t) (t % 512) (h * 256 + g * 64 + d.val) * codesOf (K m c b (t / 512)) s (h * 64 + d.val))
        * scalesOf (K m c b (t / 512)) s h := by
  have u2 : (2 * (4 * h + g) + t % 512 / 256) / 2 = 4 * h + g := by omega
  have u3 : (4 * h + g) / 4 = h := by omega
  have u4 : (2 * (4 * h + g) + t % 512 / 256) % 2 * 256 + tt = t % 512 := by omega
  have u5 : (4 * h + g) % 2 = g % 2 := by omega
  have u6 : (4 * h + g) / 2 = 2 * h + g / 2 := by omega
  unfold score
  rw [u2, u3, u4, u5, u6]
  refine congrArg (· * scalesOf (K m c b (t / 512)) s h) ?_
  show (∑ l : Fin 128, paddedOf (K m c b (t / 512)) (h * 2 + g % 2) s l.val * codesOf (X m c b t) (t % 512) ((2 * h + g / 2) * 128 + l.val)) = _
  unfold paddedOf
  rw [show (h * 2 + g % 2) % 2 = g % 2 by omega, show (h * 2 + g % 2) / 2 = h by omega]
  refine (sum_lanes (g % 2) (by omega) (fun d => codesOf (K m c b (t / 512)) s (64 * h + d))
    (fun l => codesOf (X m c b t) (t % 512) ((2 * h + g / 2) * 128 + l))).trans (Finset.sum_congr rfl fun d _ => ?_)
  rw [show (2 * h + g / 2) * 128 + (64 * (g % 2) + d.val) = h * 256 + g * 64 + d.val by omega, show 64 * h + d.val = h * 64 + d.val by omega]

section Finite
variable (h0 : ∀ i, Small (a0 m c i)) (h1 : ∀ i, Small (a1 m c i)) (h2 : ∀ i, Small (a2 m c i))

/-- The reference's scores. -/
abbrev refScores := scores (qC (a0 m c)) (qScale (qE (a0 m c))) (kC (a1 m c)) (kScale (kE (a1 m c)))

include h0 h1 in
theorem prob_eq (b : Fin 9) (t : Fin 4096) (h : Fin 2) (g : Fin 4) (s : Fin 4096) :
    prob (B m c b t) (2 * (4 * h.val + g.val) + t.val % 512 / 256) s (t.val % 512 % 256) = probs (refScores m c) (ix5 b h t g s) := by
  have ht := t.isLt
  have hn : t.val / 512 < 8 := by omega
  choose P hP using fun (s : Fin 4096) => (show ∃ r : ℝ, (∑ d : Fin 64, codesOf (X m c b t) (t % 512) (h.val * 256 + g.val * 64 + d.val)
      * codesOf (K m c b (t / 512)) s (h.val * 64 + d.val)) = (r : EReal) by
    choose q hq using fun d => qC_real m c h0 b t h g d
    choose k hk using fun d => kC_real m c h1 b (t / 512) hn s h d
    exact ⟨_, sum_real _ (fun d => q d * k d) fun d => by rw [hq, hk, EReal.coe_mul]⟩)
  obtain ⟨q, q0, hq⟩ := qS_real m c h0 b t h g
  choose k hk using fun s => kS_real m c h1 b (t / 512) hn s h
  have eS : ∀ s : Fin 4096, score (B m c b t) (2 * (4 * h.val + g.val) + t.val % 512 / 256) s (t.val % 512 % 256) = ((P s * k s : ℝ) : EReal) := fun s => by
    rw [score_eq m c b t s h g _ h.isLt g.isLt s.isLt rfl, hP, hk, EReal.coe_mul]
  have eR : ∀ s : Fin 4096, refScores m c (ix5 b h t g s) = ((P s * k s * (q * (1 / 8)) : ℝ) : EReal) := fun s => by
    unfold refScores
    rw [scores_apply, qS_eq m c h0, hq, kS_eq m c h1 b (t / 512) hn, hk, ofBits_eighth]
    simp only [qC_eq m c h0, kC_eq m c h1 b (t / 512) hn]
    rw [hP, ← EReal.coe_mul, ← EReal.coe_mul, ← EReal.coe_mul]
    refine congrArg (fun r : ℝ => (r : EReal)) ?_
    ring
  have eC : (B m c b t).CS ((2 * (4 * h.val + g.val) + t.val % 512 / 256) / 2) ((2 * (4 * h.val + g.val) + t.val % 512 / 256) % 2 * 256 + t.val % 512 % 256)
      = (q : EReal) * Named.named (F := Ideal) (φ := .f32) κ "sm_scale_log2e" 0x3E38AA3B#32 := by
    rw [show (2 * (4 * h.val + g.val) + t.val % 512 / 256) / 2 = 4 * h.val + g.val by omega,
      show (2 * (4 * h.val + g.val) + t.val % 512 / 256) % 2 * 256 + t.val % 512 % 256 = t.val % 512 by omega, ← hq]
    rfl
  rw [probs_apply]
  simp only [eR]
  unfold prob top
  rw [eC]
  simp only [eS]
  exact soft (fun e => P e * k e) q q0 s

include h0 h1 h2 in
theorem out_eq (b : Fin 9) (t : Fin 4096) (h : Fin 2) (g : Fin 4) (d : Fin 64) :
    outT (B m c b t) (h.val * 256 + g.val * 64 + d.val) (t.val % 512)
      = Cert.ReferenceIdeal.Attn.out (a0 m c) (a1 m c) (a2 m c) (ix3 b t ⟨h.val * 256 + g.val * 64 + d.val, by omega⟩) := by
  have ht := t.isLt
  have hn : t.val / 512 < 8 := by omega
  unfold Cert.ReferenceIdeal.Attn.out
  rw [outOf_apply, ratio_apply, vS_eq m c h2 b (t / 512) hn]
  unfold outT
  rw [show (h.val * 256 + g.val * 64 + d.val) / 64 = 4 * h.val + g.val by omega, show (h.val * 256 + g.val * 64 + d.val) % 64 = d.val by omega]
  unfold result
  rw [Finset.sum_range, Finset.sum_range, ofBits_zero, EReal.coe_zero, zero_add,
    show (2 * (4 * h.val + g.val) + t.val % 512 / 256) / 2 / 4 * 64 + d.val = h.val * 64 + d.val by omega]
  have eN : (∑ s : Fin 4096, (B m c b t).VT (h.val * 64 + d.val) s * pcode (prob (B m c b t) (2 * (4 * h.val + g.val) + t.val % 512 / 256) s (t.val % 512 % 256)))
      = ∑ s : Fin 4096, clip (probs (refScores m c) (ix5 b h t g s) * Ideal.ofBits .f32 0x43800000#32) * vC (a2 m c) (ix4 b s h d) :=
    Finset.sum_congr rfl fun s _ => by
      rw [vC_eq m c h2 b (t / 512) hn, prob_eq m c h0 h1 b t h g s, mul_comm]
      rfl
  have eL : (∑ s : Fin 4096, prob (B m c b t) (2 * (4 * h.val + g.val) + t.val % 512 / 256) s (t.val % 512 % 256))
      = ∑ s : Fin 4096, probs (refScores m c) (ix5 b h t g s) :=
    Finset.sum_congr rfl fun s _ => prob_eq m c h0 h1 b t h g s
  rw [eN, eL]
  rfl
end Finite

end Cert.Equal

end
-- ==== Proof.EqC.lean ====
/- THE RESULTS AGREE: every result of the kernel is the reference's, at finite arguments. -/
module

public import proofs.«01_k».proof.Proof.EqB

@[expose] public section

set_option maxRecDepth 16384

noncomputable section

namespace Cert.Equal

open Idealize.ShloMosaic Idealize.ShloMosaic.TcCoe
open Cert.KernelIdeal Cert.KernelIdeal.Gen Cert.KernelIdeal.Attn
open Cert.ReferenceIdeal.Attn (out codes scales kcodes kscales vcodes vscales qScale kScale vScale qE kE vE qC kC vC)

/-! ## The flat layouts -/

theorem codes_apply (x : FVec Ideal S9x4096x512 .bf16) (b : Fin 9) (t : Fin 4096) (h : Fin 2) (g : Fin 4) (d : Fin 64) :
    codes x (ix3 b t ⟨h.val * 256 + g.val * 64 + d.val, by omega⟩) = qC x (ix5 b t h g d) := by
  unfold codes
  generalize qC x = y
  pointwise
theorem scales_apply (x : FVec Ideal S9x4096x512 .bf16) (b : Fin 9) (t : Fin 4096) (h : Fin 2) (g : Fin 4) :
    scales x (ix3 b t ⟨h.val * 4 + g.val, by omega⟩) = qScale (qE x) (ix4 b t h g) := by
  unfold scales
  generalize qScale (qE x) = y
  pointwise
theorem kcodes_apply (x : FVec Ideal S9x4096x128 .bf16) (b : Fin 9) (t : Fin 4096) (h : Fin 2) (d : Fin 64) :
    kcodes x (ix3 b t ⟨h.val * 64 + d.val, by omega⟩) = kC x (ix4 b t h d) := by
  unfold kcodes
  generalize kC x = y
  pointwise
theorem vcodes_apply (x : FVec Ideal S9x4096x128 .bf16) (b : Fin 9) (t : Fin 4096) (h : Fin 2) (d : Fin 64) :
    vcodes x (ix3 b t ⟨h.val * 64 + d.val, by omega⟩) = vC x (ix4 b t h d) := by
  unfold vcodes
  generalize vC x = y
  pointwise
theorem vscales_apply (x : FVec Ideal S9x4096x128 .bf16) (b : Fin 9) (z : Fin 1) (h : Fin 2) (d : Fin 64) :
    vscales x (ix3 b z ⟨h.val * 64 + d.val, by omega⟩) = vScale (vE x) (ix3 b h d) := by
  unfold vscales
  generalize vScale (vE x) = y
  pointwise

/-! ## Every index -/

theorem ix_all {n0 n1 n2 : ℕ} (z : (⟨3, ![n0, n1, n2]⟩ : Shape).Idx) : ∃ (a : Fin n0) (b : Fin n1) (d : Fin n2), z = ix3 a b d := by
  refine ⟨z 0, z 1, z 2, funext fun a => ?_⟩
  match a with
  | ⟨0, _⟩ => rfl
  | ⟨1, _⟩ => rfl
  | ⟨2, _⟩ => rfl
theorem lane512 (l : Fin 512) : ∃ (h : Fin 2) (g : Fin 4) (d : Fin 64), l = ⟨h.val * 256 + g.val * 64 + d.val, by omega⟩ :=
  ⟨⟨l.val / 256, by omega⟩, ⟨l.val % 256 / 64, by omega⟩, ⟨l.val % 64, by omega⟩, Fin.ext (by
    show l.val = l.val / 256 * 256 + l.val % 256 / 64 * 64 + l.val % 64
    omega)⟩
theorem lane128 (l : Fin 128) : ∃ (h : Fin 2) (d : Fin 64), l = ⟨h.val * 64 + d.val, by omega⟩ :=
  ⟨⟨l.val / 64, by omega⟩, ⟨l.val % 64, by omega⟩, Fin.ext (by
    show l.val = l.val / 64 * 64 + l.val % 64
    omega)⟩
theorem lane8 (l : Fin 8) : ∃ (h : Fin 2) (g : Fin 4), l = ⟨h.val * 4 + g.val, by omega⟩ :=
  ⟨⟨l.val / 4, by omega⟩, ⟨l.val % 4, by omega⟩, Fin.ext (by
    show l.val = l.val / 4 * 4 + l.val % 4
    omega)⟩

variable (m : (ℓ : Loc nD τ sig) → Buf (Elt Ideal) ℓ) (c : Dev nD)
variable (h0 : ∀ i, Small (a0 m c i)) (h1 : ∀ i, Small (a1 m c i)) (h2 : ∀ i, Small (a2 m c i))

include h0 h1 h2 in
theorem result0 : outAt m c = out (a0 m c) (a1 m c) (a2 m c) := by
  funext z
  obtain ⟨b, t, l, rfl⟩ := ix_all z
  obtain ⟨h, g, d, rfl⟩ := lane512 l
  exact out_eq m c h0 h1 h2 b t h g d
include h0 in
theorem result1 : codesAt m c = codes (a0 m c) := by
  funext z
  obtain ⟨b, t, l, rfl⟩ := ix_all z
  obtain ⟨h, g, d, rfl⟩ := lane512 l
  rw [codes_apply, qC_eq m c h0]
  rfl
include h0 in
theorem result2 : scalesAt m c = scales (a0 m c) := by
  funext z
  obtain ⟨b, t, l, rfl⟩ := ix_all z
  obtain ⟨h, g, rfl⟩ := lane8 l
  rw [scales_apply, qS_eq m c h0, show 4 * h.val + g.val = h.val * 4 + g.val by omega]
  rfl
include h1 in
theorem result3 : kcodesAt m c = kcodes (a1 m c) := by
  funext z
  obtain ⟨b, t, l, rfl⟩ := ix_all z
  obtain ⟨h, d, rfl⟩ := lane128 l
  rw [kcodes_apply, kC_eq m c h1 b 0 (by norm_num)]
  rfl
include h1 in
theorem result4 : kscalesAt m c = kscales (a1 m c) := by
  funext z
  obtain ⟨b, t, h, rfl⟩ := ix_all z
  exact (kS_eq m c h1 b 0 (by norm_num) t h).symm
include h2 in
theorem result5 : vcodesAt m c = vcodes (a2 m c) := by
  funext z
  obtain ⟨b, t, l, rfl⟩ := ix_all z
  obtain ⟨h, d, rfl⟩ := lane128 l
  rw [vcodes_apply, vC_eq m c h2 b 0 (by norm_num)]
  rfl
include h2 in
theorem result6 : vscalesAt m c = vscales (a2 m c) := by
  funext z
  obtain ⟨b, t, l, rfl⟩ := ix_all z
  obtain ⟨h, d, rfl⟩ := lane128 l
  rw [vscales_apply, vS_eq m c h2 b 0 (by norm_num)]
  rfl

end Cert.Equal

end
-- ==== Proof.lean ====
/-
  The proof of `Cert.Claim` (proofs.«01_k».proof.Defs): the frames of the three programs, the rewrite of the kernel's constant, and that the
  kernel's results are the reference's.
-/
module

public import proofs.«01_k».proof.Defs
public import proofs.«01_k».proof.Proof.Kernel.Frame
public import proofs.«01_k».proof.Proof.KernelIdeal.Frame
public import proofs.«01_k».proof.Proof.Finite
public import proofs.«01_k».proof.Proof.EqC

@[expose] public section

noncomputable section

namespace Cert.Proof

open Idealize.ShloMosaic Idealize.SL.Sem Idealize.ShloMosaic.TcCoe

/-- The kernel's constant is the softmax scale over the natural logarithm of 2. -/
theorem preserves : Cert.preserves_Kernel_KernelIdeal :=
  IdealRules.named_const.statement Cert.KernelIdeal.κ "sm_scale_log2e" .f32 0x3E38AA3B#32
    (((1 / 8) * (Real.log 2)⁻¹ : ℝ) : EReal) rfl

/-- The kernel's seven results are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Equal.facts) := by
  intro m ρ m' ρ' hpre hagree
  letI := Cert.Equal.facts
  have hs := fun c => Cert.Equal.finite_small _ _ _ (hpre c)
  refine ⟨_, _, _, _, _, _, _, Cert.KernelIdeal.Attn.run m ρ, ?_⟩
  refine (θ_run _ _ _).mono ?_ (Cert.ReferenceIdeal.Attn.run m' ρ')
  intro r h c
  obtain ⟨r0, r1, r2, r3, r4, r5, r6, k0, k1, k2⟩ := h c
  obtain ⟨g0, g1, g2⟩ := hagree c
  obtain ⟨h0, h1, h2⟩ := hs c
  have e0 : m' ((c.tc : Thread Cert.ReferenceIdeal.nD Cert.ReferenceIdeal.τ).loc Cert.ReferenceIdeal.main_arg0) = Cert.Equal.a0 m c := g0
  have e1 : m' ((c.tc : Thread Cert.ReferenceIdeal.nD Cert.ReferenceIdeal.τ).loc Cert.ReferenceIdeal.main_arg1) = Cert.Equal.a1 m c := g1
  have e2 : m' ((c.tc : Thread Cert.ReferenceIdeal.nD Cert.ReferenceIdeal.τ).loc Cert.ReferenceIdeal.main_arg2) = Cert.Equal.a2 m c := g2
  rw [e0, e1, e2] at r0
  rw [e0] at r1 r2
  rw [e1] at r3 r4
  rw [e2] at r5 r6
  exact ⟨r0.trans (Cert.Equal.result0 m c h0 h1 h2).symm, r1.trans (Cert.Equal.result1 m c h0).symm, r2.trans (Cert.Equal.result2 m c h0).symm,
    r3.trans (Cert.Equal.result3 m c h1).symm, r4.trans (Cert.Equal.result4 m c h1).symm, r5.trans (Cert.Equal.result5 m c h2).symm,
    r6.trans (Cert.Equal.result6 m c h2).symm, k0, k1, k2⟩

theorem claim : Cert.Claim :=
  ⟨Cert.Kernel.Gen.facts, Cert.KernelIdeal.Gen.facts, Cert.ReferenceIdeal.Gen.facts, Cert.Equal.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ, preserves, algebraic⟩

end Cert.Proof

end
